-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_codes [hPre_finite_codes : Cert.Pre_finite_codes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).1 = (fun _ => 1#1)
    ∧ (Cert.Pre_finite_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.1 = (fun _ => 1#1)
    ∧ (Cert.Pre_finite_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.1 = (fun _ => 1#1)
    ∧ (Cert.Pre_finite_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.1 = (fun _ => 1#1)
    ∧ (Cert.Pre_finite_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_codes [hPre_finite_codes : Cert.Pre_finite_codes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_codes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).1 = (fun _ => 1#1)
    ∧ (Cert.Pre_finite_codes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.1 = (fun _ => 1#1)
    ∧ (Cert.Pre_finite_codes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.1 = (fun _ => 1#1)
    ∧ (Cert.Pre_finite_codes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.1 = (fun _ => 1#1)
    ∧ (Cert.Pre_finite_codes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_KernelIdeal_pre_finite_codes [hKernelIdeal : Cert.KernelIdeal.Facts] [hPre_finite_codes : Cert.Pre_finite_codes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_codes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def quiescent_ReferenceIdeal_pre_finite_codes [hReferenceIdeal : Cert.ReferenceIdeal.Facts] [hPre_finite_codes : Cert.Pre_finite_codes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_codes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def preserves_Kernel_KernelIdeal : Prop :=
  True

def algebraic_KernelIdeal_ReferenceIdeal_pre_finite_codes [hKernelIdeal : Cert.KernelIdeal.Facts] [hReferenceIdeal : Cert.ReferenceIdeal.Facts] [hPre_finite_codes : Cert.Pre_finite_codes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_codes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v226) = v0 c
          ∧ r.2.mem ((c.tc : Thread Cert.ReferenceIdeal.nD Cert.ReferenceIdeal.τ).loc Cert.ReferenceIdeal.main_v160) = v1 c
          ∧ r.2.mem ((c.tc : Thread Cert.ReferenceIdeal.nD Cert.ReferenceIdeal.τ).loc Cert.ReferenceIdeal.main_v230) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_codes : Cert.Pre_finite_codes.Facts),
    quiescent_Kernel (hKernel := hKernel)
    ∧ quiescent_KernelIdeal (hKernelIdeal := hKernelIdeal)
    ∧ quiescent_KernelIdeal_pre_finite_codes (hKernelIdeal := hKernelIdeal) (hPre_finite_codes := hPre_finite_codes)
    ∧ quiescent_ReferenceIdeal (hReferenceIdeal := hReferenceIdeal)
    ∧ quiescent_ReferenceIdeal_pre_finite_codes (hReferenceIdeal := hReferenceIdeal) (hPre_finite_codes := hPre_finite_codes)
    ∧ preserves_Kernel_KernelIdeal
    ∧ algebraic_KernelIdeal_ReferenceIdeal_pre_finite_codes (hKernelIdeal := hKernelIdeal) (hReferenceIdeal := hReferenceIdeal) (hPre_finite_codes := hPre_finite_codes)
-- ==== Pre_finite_codes.lean ====
abbrev S16384x768 : Shape := ⟨2, ![16384, 768]⟩
abbrev S768x768 : Shape := ⟨2, ![768, 768]⟩
abbrev S768 : Shape := ⟨1, ![768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x768 : Shape := ⟨2, ![512, 768]⟩
abbrev S8x256 : Shape := ⟨2, ![8, 256]⟩
abbrev S64x256 : Shape := ⟨2, ![64, 256]⟩
abbrev S_ : Shape := ⟨0, ![]⟩

class Facts : Prop where
  bcast_S_S256 : S_.BroadcastsInDim S256 (![] : Fin 0 → Fin S256.rank)
  bcast_S_S8x256 : S_.BroadcastsInDim S8x256 (![] : Fin 0 → Fin S8x256.rank)
  bcast_S_S64x256 : S_.BroadcastsInDim S64x256 (![] : Fin 0 → Fin S64x256.rank)
  bcast_S_S512x256 : S_.BroadcastsInDim S512x256 (![] : Fin 0 → Fin S512x256.rank)

variable [Facts]

def fn {F : FTy → Type} [FloatOps F] (main_arg0 : FVec F S16384x768 .f32) (main_arg1 : FVec F S768x768 .f32) (main_arg2 : FVec F S768 .f32) (main_arg3 : FVec F S768 .f32) (main_arg4 : FVec F S768 .f32) (main_arg5 : FVec F S768x512 .f32) (main_arg6 : FVec F S512 .f32) (main_arg7 : FVec F S512 .f32) (main_arg8 : FVec F S512 .f32) (main_arg9 : FVec F S512x256 .f32) (main_arg10 : FVec F S256 .f32) (main_arg11 : FVec F S256 .f32) (main_arg12 : FVec F S256 .f32) (main_arg13 : FVec F S256x512 .f32) (main_arg14 : FVec F S512 .f32) (main_arg15 : FVec F S512x768 .f32) (main_arg16 : FVec F S768 .f32) (main_arg17 : FVec F S768x768 .f32) (main_arg18 : FVec F S768 .f32) (main_arg19 : FVec F S512 .f32) (main_arg20 : FVec F S512 .f32) (main_arg21 : FVec F S768 .f32) (main_arg22 : FVec F S768 .f32) (main_arg23 : FVec F S8x256 .f32) (main_arg24 : FVec F S64x256 .f32) (main_arg25 : FVec F S512x256 .f32) : IVec S256 1 × IVec S256 1 × IVec S8x256 1 × IVec S64x256 1 × IVec S512x256 1 :=
  let main_v0 : FVec F S256 .f32 := Host.absf main_arg11
  let main_cst : FVec F S_ .f32 := constant S_ .f32 0x7F800000#32
  let main_v1 : FVec F S256 .f32 := broadcastInDim S256 ![] bcast_S_S256 main_cst
  let main_v2 : IVec S256 1 := cmpf .olt main_v0 main_v1
  let main_v3 : FVec F S256 .f32 := Host.absf main_arg12
  let main_cst_0 : FVec F S_ .f32 := constant S_ .f32 0x7F800000#32
  let main_v4 : FVec F S256 .f32 := broadcastInDim S256 ![] bcast_S_S256 main_cst_0
  let main_v5 : IVec S256 1 := cmpf .olt main_v3 main_v4
  let main_v6 : FVec F S8x256 .f32 := Host.absf main_arg23
  let main_cst_1 : FVec F S_ .f32 := constant S_ .f32 0x7F800000#32
  let main_v7 : FVec F S8x256 .f32 := broadcastInDim S8x256 ![] bcast_S_S8x256 main_cst_1
  let main_v8 : IVec S8x256 1 := cmpf .olt main_v6 main_v7
  let main_v9 : FVec F S64x256 .f32 := Host.absf main_arg24
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_v12 : FVec F S512x256 .f32 := Host.absf main_arg25
  let main_cst_3 : FVec F S_ .f32 := constant S_ .f32 0x7F800000#32
  let main_v13 : FVec F S512x256 .f32 := broadcastInDim S512x256 ![] bcast_S_S512x256 main_cst_3
  let main_v14 : IVec S512x256 1 := cmpf .olt main_v12 main_v13
  (main_v2, main_v5, main_v8, main_v11, main_v14)
-- ==== Kernel.lean ====
abbrev S16384x768 : Shape := ⟨2, ![16384, 768]⟩
abbrev S768x768 : Shape := ⟨2, ![768, 768]⟩
abbrev S768 : Shape := ⟨1, ![768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x768 : Shape := ⟨2, ![512, 768]⟩
abbrev S8x256 : Shape := ⟨2, ![8, 256]⟩
abbrev S64x256 : Shape := ⟨2, ![64, 256]⟩
abbrev S1x1 : Shape := ⟨2, ![1, 1]⟩
abbrev S16384x1 : Shape := ⟨2, ![16384, 1]⟩
abbrev S2048x768 : Shape := ⟨2, ![2048, 768]⟩
abbrev S2048x1 : Shape := ⟨2, ![2048, 1]⟩
abbrev S2048x512 : Shape := ⟨2, ![2048, 512]⟩
abbrev S8x512 : Shape := ⟨2, ![8, 512]⟩
abbrev S8 : Shape := ⟨1, ![8]⟩
abbrev S1x8 : Shape := ⟨2, ![1, 8]⟩
abbrev S64 : Shape := ⟨1, ![64]⟩
abbrev S1x64 : Shape := ⟨2, ![1, 64]⟩
abbrev S1x512 : Shape := ⟨2, ![1, 512]⟩
abbrev S1x768 : Shape := ⟨2, ![1, 768]⟩
abbrev S2048 : Shape := ⟨1, ![2048]⟩
abbrev S2048x256 : Shape := ⟨2, ![2048, 256]⟩
abbrev S1x256 : Shape := ⟨2, ![1, 256]⟩
abbrev S2048x8 : Shape := ⟨2, ![2048, 8]⟩
abbrev S1x2048x1 : Shape := ⟨3, ![1, 2048, 1]⟩
abbrev S1 : Shape := ⟨1, ![1]⟩
abbrev S1x1x1 : Shape := ⟨3, ![1, 1, 1]⟩
abbrev S2048x64 : Shape := ⟨2, ![2048, 64]⟩
abbrev S16384x3 : Shape := ⟨2, ![16384, 3]⟩
abbrev S_ : Shape := ⟨0, ![]⟩

abbrev nBuf : Space → Nat
  | .hbm => 33
  | .vmem => 39
  | .smem => 0
  | _ => 0

abbrev bufTy : (tb : Table) → Fin (tcTables nBuf tb) → BufTy
  | .hbm, ⟨0, _⟩ => ⟨S16384x768, .f32⟩
  | .hbm, ⟨1, _⟩ => ⟨S768x768, .f32⟩
  | .hbm, ⟨2, _⟩ => ⟨S768, .f32⟩
  | .hbm, ⟨3, _⟩ => ⟨S768, .f32⟩
  | .hbm, ⟨4, _⟩ => ⟨S768, .f32⟩
  | .hbm, ⟨5, _⟩ => ⟨S768x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256x512, .f32⟩
  | .hbm, ⟨14, _⟩ => ⟨S512, .f32⟩
  | .hbm, ⟨15, _⟩ => ⟨S512x768, .f32⟩
  | .hbm, ⟨16, _⟩ => ⟨S768, .f32⟩
  | .hbm, ⟨17, _⟩ => ⟨S768x768, .f32⟩
  | .hbm, ⟨18, _⟩ => ⟨S768, .f32⟩
  | .hbm, ⟨19, _⟩ => ⟨S512, .f32⟩
  | .hbm, ⟨20, _⟩ => ⟨S512, .f32⟩
  | .hbm, ⟨21, _⟩ => ⟨S768, .f32⟩
  | .hbm, ⟨22, _⟩ => ⟨S768, .f32⟩
  | .hbm, ⟨23, _⟩ => ⟨S8x256, .f32⟩
  | .hbm, ⟨24, _⟩ => ⟨S64x256, .f32⟩
  | .hbm, ⟨25, _⟩ => ⟨S512x256, .f32⟩
  | .hbm, ⟨26, _⟩ => ⟨S16384x768, .f32⟩
  | .hbm, ⟨27, _⟩ => ⟨S1x1, .f32⟩
  | .hbm, ⟨28, _⟩ => ⟨S16384x1, .i32⟩
  | .hbm, ⟨29, _⟩ => ⟨S16384x1, .i32⟩
  | .hbm, ⟨30, _⟩ => ⟨S16384x1, .i32⟩
  | .hbm, ⟨31, _⟩ => ⟨S16384x3, .i32⟩
  | .hbm, ⟨32, _⟩ => ⟨S_, .f32⟩
  | .local _ .vmem, ⟨0, _⟩ => ⟨S2048x768, .f32⟩
  | .local _ .vmem, ⟨1, _⟩ => ⟨S2048x768, .f32⟩
  | .local _ .vmem, ⟨2, _⟩ => ⟨S768x768, .f32⟩
  | .local _ .vmem, ⟨3, _⟩ => ⟨S768, .f32⟩
  | .local _ .vmem, ⟨4, _⟩ => ⟨S768, .f32⟩
  | .local _ .vmem, ⟨5, _⟩ => ⟨S768, .f32⟩
  | .local _ .vmem, ⟨6, _⟩ => ⟨S768x512, .f32⟩
  | .local _ .vmem, ⟨7, _⟩ => ⟨S512, .f32⟩
  | .local _ .vmem, ⟨8, _⟩ => ⟨S512, .f32⟩
  | .local _ .vmem, ⟨9, _⟩ => ⟨S512, .f32⟩
  | .local _ .vmem, ⟨10, _⟩ => ⟨S512x256, .f32⟩
  | .local _ .vmem, ⟨11, _⟩ => ⟨S256, .f32⟩
  | .local _ .vmem, ⟨12, _⟩ => ⟨S256, .f32⟩
  | .local _ .vmem, ⟨13, _⟩ => ⟨S256, .f32⟩
  | .local _ .vmem, ⟨14, _⟩ => ⟨S256x512, .f32⟩
  | .local _ .vmem, ⟨15, _⟩ => ⟨S512, .f32⟩
  | .local _ .vmem, ⟨16, _⟩ => ⟨S512x768, .f32⟩
  | .local _ .vmem, ⟨17, _⟩ => ⟨S768, .f32⟩
  | .local _ .vmem, ⟨18, _⟩ => ⟨S768x768, .f32⟩
  | .local _ .vmem, ⟨19, _⟩ => ⟨S768, .f32⟩
  | .local _ .vmem, ⟨20, _⟩ => ⟨S512, .f32⟩
  | .local _ .vmem, ⟨21, _⟩ => ⟨S512, .f32⟩
  | .local _ .vmem, ⟨22, _⟩ => ⟨S768, .f32⟩
  | .local _ .vmem, ⟨23, _⟩ => ⟨S768, .f32⟩
  | .local _ .vmem, ⟨24, _⟩ => ⟨S8x256, .f32⟩
  | .local _ .vmem, ⟨25, _⟩ => ⟨S64x256, .f32⟩
  | .local _ .vmem, ⟨26, _⟩ => ⟨S512x256, .f32⟩
  | .local _ .vmem, ⟨27, _⟩ => ⟨S2048x768, .f32⟩
  | .local _ .vmem, ⟨28, _⟩ => ⟨S2048x768, .f32⟩
  | .local _ .vmem, ⟨29, _⟩ => ⟨S1x1, .f32⟩
  | .local _ .vmem, ⟨30, _⟩ => ⟨S2048x1, .i32⟩
  | .local _ .vmem, ⟨31, _⟩ => ⟨S2048x1, .i32⟩
  | .local _ .vmem, ⟨32, _⟩ => ⟨S2048x1, .i32⟩
  | .local _ .vmem, ⟨33, _⟩ => ⟨S2048x1, .i32⟩
  | .local _ .vmem, ⟨34, _⟩ => ⟨S2048x1, .i32⟩
  | .local _ .vmem, ⟨35, _⟩ => ⟨S2048x1, .i32⟩
  | .local _ .vmem, ⟨36, _⟩ => ⟨S2048x768, .f32⟩
  | .local _ .vmem, ⟨37, _⟩ => ⟨S2048x512, .f32⟩
  | .local _ .vmem, ⟨38, _⟩ => ⟨S8x512, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0_0 : Ref sig .tc := ⟨.hbm, 26, rfl⟩
abbrev main_v0_1 : Ref sig .tc := ⟨.hbm, 27, rfl⟩
abbrev main_v0_2 : Ref sig .tc := ⟨.hbm, 28, rfl⟩
abbrev main_v0_3 : Ref sig .tc := ⟨.hbm, 29, rfl⟩
abbrev main_v0_4 : Ref sig .tc := ⟨.hbm, 30, rfl⟩
abbrev main_v1 : Ref sig .tc := ⟨.hbm, 31, rfl⟩
abbrev main_v2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg26_1 : Ref sig .tc := ⟨.vmem, 28, rfl⟩
abbrev cc0_stg27_0 : Ref sig .tc := ⟨.vmem, 29, rfl⟩
abbrev cc0_stg28_0 : Ref sig .tc := ⟨.vmem, 30, rfl⟩
abbrev cc0_stg28_1 : Ref sig .tc := ⟨.vmem, 31, rfl⟩
abbrev cc0_stg29_0 : Ref sig .tc := ⟨.vmem, 32, rfl⟩
abbrev cc0_stg29_1 : Ref sig .tc := ⟨.vmem, 33, rfl⟩
abbrev cc0_stg30_0 : Ref sig .tc := ⟨.vmem, 34, rfl⟩
abbrev cc0_stg30_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem26_1 : DmaSem sig := 28
abbrev cc0_sem27_0 : DmaSem sig := 29
abbrev cc0_sem28_0 : DmaSem sig := 30
abbrev cc0_sem28_1 : DmaSem sig := 31
abbrev cc0_sem29_0 : DmaSem sig := 32
abbrev cc0_sem29_1 : DmaSem sig := 33
abbrev cc0_sem30_0 : DmaSem sig := 34
abbrev cc0_sem30_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S768x768 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S768 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S768 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S768 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S64x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S512x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S2048x768 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 1 → Memref sig .tc .vmem S1x1 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 2 → Memref sig .tc .vmem S2048x1 .i32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S2048x1 .i32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S2048x1 .i32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]
-- ==== ReferenceIdeal.lean ====
abbrev S16384x768 : Shape := ⟨2, ![16384, 768]⟩
abbrev S768x768 : Shape := ⟨2, ![768, 768]⟩
abbrev S768 : Shape := ⟨1, ![768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x768 : Shape := ⟨2, ![512, 768]⟩
abbrev S8x256 : Shape := ⟨2, ![8, 256]⟩
abbrev S64x256 : Shape := ⟨2, ![64, 256]⟩
abbrev S1x768 : Shape := ⟨2, ![1, 768]⟩
abbrev S_ : Shape := ⟨0, ![]⟩
abbrev S16384 : Shape := ⟨1, ![16384]⟩
abbrev S16384x1 : Shape := ⟨2, ![16384, 1]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩
abbrev S8 : Shape := ⟨1, ![8]⟩
abbrev S1x8 : Shape := ⟨2, ![1, 8]⟩
abbrev S16384x8 : Shape := ⟨2, ![16384, 8]⟩
abbrev S256x8 : Shape := ⟨2, ![256, 8]⟩
abbrev S1 : Shape := ⟨1, ![1]⟩
abbrev S1x1 : Shape := ⟨2, ![1, 1]⟩
abbrev S64 : Shape := ⟨1, ![64]⟩
abbrev S1x64 : Shape := ⟨2, ![1, 64]⟩
abbrev S16384x64 : Shape := ⟨2, ![16384, 64]⟩
abbrev S256x64 : Shape := ⟨2, ![256, 64]⟩
abbrev S16384x3 : Shape := ⟨2, ![16384, 3]⟩

abbrev nBuf : Space → Nat
  | .hbm => 388
  | .vmem => 0
  | .smem => 0
  | _ => 0

abbrev hbmTy0_0 (i : Nat) : BufTy := match i % 128 with
  | 0 => ⟨S16384x768, .f32⟩
  | 1 => ⟨S768x768, .f32⟩
  | 2 => ⟨S768, .f32⟩
  | 3 => ⟨S768, .f32⟩
  | 4 => ⟨S768, .f32⟩
  | 5 => ⟨S768x512, .f32⟩
  | 6 => ⟨S512, .f32⟩
  | 7 => ⟨S512, .f32⟩
  | 8 => ⟨S512, .f32⟩
  | 9 => ⟨S512x256, .f32⟩
  | 10 => ⟨S256, .f32⟩
  | 11 => ⟨S256, .f32⟩
  | 12 => ⟨S256, .f32⟩
  | 13 => ⟨S256x512, .f32⟩
  | 14 => ⟨S512, .f32⟩
  | 15 => ⟨S512x768, .f32⟩
  | 16 => ⟨S768, .f32⟩
  | 17 => ⟨S768x768, .f32⟩
  | 18 => ⟨S768, .f32⟩
  | 19 => ⟨S512, .f32⟩
  | 20 => ⟨S512, .f32⟩
  | 21 => ⟨S768, .f32⟩
  | 22 => ⟨S768, .f32⟩
  | 23 => ⟨S8x256, .f32⟩
  | 24 => ⟨S64x256, .f32⟩
  | 25 => ⟨S512x256, .f32⟩
  | 26 => ⟨S16384x768, .f32⟩
  | 27 => ⟨S1x768, .f32⟩
  | 28 => ⟨S16384x768, .f32⟩
  | 29 => ⟨S16384x768, .f32⟩
  | 30 => ⟨S_, .f32⟩
  | 31 => ⟨S16384, .f32⟩
  | 32 => ⟨S16384x1, .f32⟩
  | 33 => ⟨S_, .f32⟩
  | 34 => ⟨S16384x1, .f32⟩
  | 35 => ⟨S16384x1, .f32⟩
  | 36 => ⟨S16384x768, .f32⟩
  | 37 => ⟨S16384x768, .f32⟩
  | 38 => ⟨S16384x768, .f32⟩
  | 39 => ⟨S_, .f32⟩
  | 40 => ⟨S16384, .f32⟩
  | 41 => ⟨S16384x1, .f32⟩
  | 42 => ⟨S_, .f32⟩
  | 43 => ⟨S16384x1, .f32⟩
  | 44 => ⟨S16384x1, .f32⟩
  | 45 => ⟨S16384x768, .f32⟩
  | 46 => ⟨S16384x768, .f32⟩
  | 47 => ⟨S_, .f32⟩
  | 48 => ⟨S16384x1, .f32⟩
  | 49 => ⟨S16384x1, .f32⟩
  | 50 => ⟨S16384x1, .f32⟩
  | 51 => ⟨S16384x768, .f32⟩
  | 52 => ⟨S16384x768, .f32⟩
  | 53 => ⟨S1x768, .f32⟩
  | 54 => ⟨S16384x768, .f32⟩
  | 55 => ⟨S16384x768, .f32⟩
  | 56 => ⟨S1x768, .f32⟩
  | 57 => ⟨S16384x768, .f32⟩
  | 58 => ⟨S16384x768, .f32⟩
  | 59 => ⟨S_, .f32⟩
  | 60 => ⟨S16384x768, .f32⟩
  | 61 => ⟨S16384x768, .f32⟩
  | 62 => ⟨S16384x512, .f32⟩
  | 63 => ⟨S1x512, .f32⟩
  | 64 => ⟨S16384x512, .f32⟩
  | 65 => ⟨S16384x512, .f32⟩
  | 66 => ⟨S_, .f32⟩
  | 67 => ⟨S16384, .f32⟩
  | 68 => ⟨S16384x1, .f32⟩
  | 69 => ⟨S_, .f32⟩
  | 70 => ⟨S16384x1, .f32⟩
  | 71 => ⟨S16384x1, .f32⟩
  | 72 => ⟨S16384x512, .f32⟩
  | 73 => ⟨S16384x512, .f32⟩
  | 74 => ⟨S16384x512, .f32⟩
  | 75 => ⟨S_, .f32⟩
  | 76 => ⟨S16384, .f32⟩
  | 77 => ⟨S16384x1, .f32⟩
  | 78 => ⟨S_, .f32⟩
  | 79 => ⟨S16384x1, .f32⟩
  | 80 => ⟨S16384x1, .f32⟩
  | 81 => ⟨S16384x512, .f32⟩
  | 82 => ⟨S16384x512, .f32⟩
  | 83 => ⟨S_, .f32⟩
  | 84 => ⟨S16384x1, .f32⟩
  | 85 => ⟨S16384x1, .f32⟩
  | 86 => ⟨S16384x1, .f32⟩
  | 87 => ⟨S16384x512, .f32⟩
  | 88 => ⟨S16384x512, .f32⟩
  | 89 => ⟨S1x512, .f32⟩
  | 90 => ⟨S16384x512, .f32⟩
  | 91 => ⟨S16384x512, .f32⟩
  | 92 => ⟨S1x512, .f32⟩
  | 93 => ⟨S16384x512, .f32⟩
  | 94 => ⟨S16384x512, .f32⟩
  | 95 => ⟨S_, .f32⟩
  | 96 => ⟨S16384x512, .f32⟩
  | 97 => ⟨S16384x512, .f32⟩
  | 98 => ⟨S16384x256, .f32⟩
  | 99 => ⟨S1x256, .f32⟩
  | 100 => ⟨S16384x256, .f32⟩
  | 101 => ⟨S16384x256, .f32⟩
  | 102 => ⟨S_, .f32⟩
  | 103 => ⟨S16384, .f32⟩
  | 104 => ⟨S16384x1, .f32⟩
  | 105 => ⟨S_, .f32⟩
  | 106 => ⟨S16384x1, .f32⟩
  | 107 => ⟨S16384x1, .f32⟩
  | 108 => ⟨S16384x256, .f32⟩
  | 109 => ⟨S16384x256, .f32⟩
  | 110 => ⟨S16384x256, .f32⟩
  | 111 => ⟨S_, .f32⟩
  | 112 => ⟨S16384, .f32⟩
  | 113 => ⟨S16384x1, .f32⟩
  | 114 => ⟨S_, .f32⟩
  | 115 => ⟨S16384x1, .f32⟩
  | 116 => ⟨S16384x1, .f32⟩
  | 117 => ⟨S16384x256, .f32⟩
  | 118 => ⟨S16384x256, .f32⟩
  | 119 => ⟨S_, .f32⟩
  | 120 => ⟨S16384x1, .f32⟩
  | 121 => ⟨S16384x1, .f32⟩
  | 122 => ⟨S16384x1, .f32⟩
  | 123 => ⟨S16384x256, .f32⟩
  | 124 => ⟨S16384x256, .f32⟩
  | 125 => ⟨S1x256, .f32⟩
  | 126 => ⟨S16384x256, .f32⟩
  | 127 => ⟨S16384x256, .f32⟩
  | _ => ⟨S16384x768, .f32⟩

abbrev hbmTy0_1 (i : Nat) : BufTy := match i % 128 with
  | 0 => ⟨S1x256, .f32⟩
  | 1 => ⟨S16384x256, .f32⟩
  | 2 => ⟨S16384x256, .f32⟩
  | 3 => ⟨S_, .f32⟩
  | 4 => ⟨S16384x256, .f32⟩
  | 5 => ⟨S16384x256, .f32⟩
  | 6 => ⟨S_, .f32⟩
  | 7 => ⟨S16384, .f32⟩
  | 8 => ⟨S16384x1, .f32⟩
  | 9 => ⟨S8x256, .f32⟩
  | 10 => ⟨S_, .f32⟩
  | 11 => ⟨S8, .f32⟩
  | 12 => ⟨S1x8, .f32⟩
  | 13 => ⟨S16384x8, .f32⟩
  | 14 => ⟨S16384x8, .f32⟩
  | 15 => ⟨S16384x8, .f32⟩
  | 16 => ⟨S_, .f32⟩
  | 17 => ⟨S16384x256, .f32⟩
  | 18 => ⟨S16384x256, .f32⟩
  | 19 => ⟨S256x8, .f32⟩
  | 20 => ⟨S16384x8, .f32⟩
  | 21 => ⟨S16384x8, .f32⟩
  | 22 => ⟨S16384x8, .i32⟩
  | 23 => ⟨S_, .f32⟩
  | 24 => ⟨S_, .i32⟩
  | 25 => ⟨S16384, .f32⟩
  | 26 => ⟨S16384, .i32⟩
  | 27 => ⟨S_, .i32⟩
  | 28 => ⟨S16384, .i32⟩
  | 29 => ⟨S16384, .i1⟩
  | 30 => ⟨S_, .i32⟩
  | 31 => ⟨S16384, .i32⟩
  | 32 => ⟨S16384, .i32⟩
  | 33 => ⟨S16384, .i32⟩
  | 34 => ⟨S16384x1, .i32⟩
  | 35 => ⟨S1, .i32⟩
  | 36 => ⟨S_, .i32⟩
  | 37 => ⟨S16384x1, .i32⟩
  | 38 => ⟨S16384x1, .i1⟩
  | 39 => ⟨S1x1, .i32⟩
  | 40 => ⟨S16384x1, .i32⟩
  | 41 => ⟨S16384x1, .i1⟩
  | 42 => ⟨S16384x1, .i1⟩
  | 43 => ⟨S_, .i1⟩
  | 44 => ⟨S16384, .i1⟩
  | 45 => ⟨S16384x256, .f32⟩
  | 46 => ⟨S16384x256, .i1⟩
  | 47 => ⟨S_, .f32⟩
  | 48 => ⟨S16384x256, .f32⟩
  | 49 => ⟨S16384x256, .f32⟩
  | 50 => ⟨S16384x256, .f32⟩
  | 51 => ⟨S16384x256, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S16384x256, .f32⟩
  | 61 => ⟨S16384x256, .f32⟩
  | 62 => ⟨S16384x256, .f32⟩
  | 63 => ⟨S16384x256, .f32⟩
  | 64 => ⟨S16384x256, .f32⟩
  | 65 => ⟨S_, .f32⟩
  | 66 => ⟨S16384, .f32⟩
  | 67 => ⟨S16384x1, .f32⟩
  | 68 => ⟨S64x256, .f32⟩
  | 69 => ⟨S_, .f32⟩
  | 70 => ⟨S64, .f32⟩
  | 71 => ⟨S1x64, .f32⟩
  | 72 => ⟨S16384x64, .f32⟩
  | 73 => ⟨S16384x64, .f32⟩
  | 74 => ⟨S16384x64, .f32⟩
  | 75 => ⟨S_, .f32⟩
  | 76 => ⟨S16384x256, .f32⟩
  | 77 => ⟨S16384x256, .f32⟩
  | 78 => ⟨S256x64, .f32⟩
  | 79 => ⟨S16384x64, .f32⟩
  | 80 => ⟨S16384x64, .f32⟩
  | 81 => ⟨S16384x64, .i32⟩
  | 82 => ⟨S_, .f32⟩
  | 83 => ⟨S_, .i32⟩
  | 84 => ⟨S16384, .f32⟩
  | 85 => ⟨S16384, .i32⟩
  | 86 => ⟨S_, .i32⟩
  | 87 => ⟨S16384, .i32⟩
  | 88 => ⟨S16384, .i1⟩
  | 89 => ⟨S_, .i32⟩
  | 90 => ⟨S16384, .i32⟩
  | 91 => ⟨S16384, .i32⟩
  | 92 => ⟨S16384, .i32⟩
  | 93 => ⟨S16384x1, .i32⟩
  | 94 => ⟨S1, .i32⟩
  | 95 => ⟨S_, .i32⟩
  | 96 => ⟨S16384x1, .i32⟩
  | 97 => ⟨S16384x1, .i1⟩
  | 98 => ⟨S1x1, .i32⟩
  | 99 => ⟨S16384x1, .i32⟩
  | 100 => ⟨S16384x1, .i1⟩
  | 101 => ⟨S16384x1, .i1⟩
  | 102 => ⟨S_, .i1⟩
  | 103 => ⟨S16384, .i1⟩
  | 104 => ⟨S16384x256, .f32⟩
  | 105 => ⟨S16384x256, .i1⟩
  | 106 => ⟨S_, .f32⟩
  | 107 => ⟨S16384x256, .f32⟩
  | 108 => ⟨S16384x256, .f32⟩
  | 109 => ⟨S16384x256, .f32⟩
  | 110 => ⟨S16384x256, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S16384x256, .f32⟩
  | 119 => ⟨S16384x256, .f32⟩
  | 120 => ⟨S16384x256, .f32⟩
  | 121 => ⟨S16384x256, .f32⟩
  | 122 => ⟨S16384x256, .f32⟩
  | 123 => ⟨S_, .f32⟩
  | 124 => ⟨S16384, .f32⟩
  | 125 => ⟨S16384x1, .f32⟩
  | 126 => ⟨S512x256, .f32⟩
  | 127 => ⟨S_, .f32⟩
  | _ => ⟨S16384x768, .f32⟩

abbrev hbmTy0_2 (i : Nat) : BufTy := match i % 128 with
  | 0 => ⟨S512, .f32⟩
  | 1 => ⟨S1x512, .f32⟩
  | 2 => ⟨S16384x512, .f32⟩
  | 3 => ⟨S16384x512, .f32⟩
  | 4 => ⟨S16384x512, .f32⟩
  | 5 => ⟨S_, .f32⟩
  | 6 => ⟨S16384x256, .f32⟩
  | 7 => ⟨S16384x256, .f32⟩
  | 8 => ⟨S256x512, .f32⟩
  | 9 => ⟨S16384x512, .f32⟩
  | 10 => ⟨S16384x512, .f32⟩
  | 11 => ⟨S16384x512, .i32⟩
  | 12 => ⟨S_, .f32⟩
  | 13 => ⟨S_, .i32⟩
  | 14 => ⟨S16384, .f32⟩
  | 15 => ⟨S16384, .i32⟩
  | 16 => ⟨S_, .i32⟩
  | 17 => ⟨S16384, .i32⟩
  | 18 => ⟨S16384, .i1⟩
  | 19 => ⟨S_, .i32⟩
  | 20 => ⟨S16384, .i32⟩
  | 21 => ⟨S16384, .i32⟩
  | 22 => ⟨S16384, .i32⟩
  | 23 => ⟨S16384x1, .i32⟩
  | 24 => ⟨S1, .i32⟩
  | 25 => ⟨S_, .i32⟩
  | 26 => ⟨S16384x1, .i32⟩
  | 27 => ⟨S16384x1, .i1⟩
  | 28 => ⟨S1x1, .i32⟩
  | 29 => ⟨S16384x1, .i32⟩
  | 30 => ⟨S16384x1, .i1⟩
  | 31 => ⟨S16384x1, .i1⟩
  | 32 => ⟨S_, .i1⟩
  | 33 => ⟨S16384, .i1⟩
  | 34 => ⟨S16384x256, .f32⟩
  | 35 => ⟨S16384x256, .i1⟩
  | 36 => ⟨S_, .f32⟩
  | 37 => ⟨S16384x256, .f32⟩
  | 38 => ⟨S16384x256, .f32⟩
  | 39 => ⟨S16384x256, .f32⟩
  | 40 => ⟨S16384x256, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S16384x256, .f32⟩
  | 49 => ⟨S16384x256, .f32⟩
  | 50 => ⟨S16384x256, .f32⟩
  | 51 => ⟨S16384x256, .f32⟩
  | 52 => ⟨S16384x512, .f32⟩
  | 53 => ⟨S1x512, .f32⟩
  | 54 => ⟨S16384x512, .f32⟩
  | 55 => ⟨S16384x512, .f32⟩
  | 56 => ⟨S_, .f32⟩
  | 57 => ⟨S16384, .f32⟩
  | 58 => ⟨S16384x1, .f32⟩
  | 59 => ⟨S_, .f32⟩
  | 60 => ⟨S16384x1, .f32⟩
  | 61 => ⟨S16384x1, .f32⟩
  | 62 => ⟨S16384x512, .f32⟩
  | 63 => ⟨S16384x512, .f32⟩
  | 64 => ⟨S16384x512, .f32⟩
  | 65 => ⟨S_, .f32⟩
  | 66 => ⟨S16384, .f32⟩
  | 67 => ⟨S16384x1, .f32⟩
  | 68 => ⟨S_, .f32⟩
  | 69 => ⟨S16384x1, .f32⟩
  | 70 => ⟨S16384x1, .f32⟩
  | 71 => ⟨S16384x512, .f32⟩
  | 72 => ⟨S16384x512, .f32⟩
  | 73 => ⟨S_, .f32⟩
  | 74 => ⟨S16384x1, .f32⟩
  | 75 => ⟨S16384x1, .f32⟩
  | 76 => ⟨S16384x1, .f32⟩
  | 77 => ⟨S16384x512, .f32⟩
  | 78 => ⟨S16384x512, .f32⟩
  | 79 => ⟨S1x512, .f32⟩
  | 80 => ⟨S16384x512, .f32⟩
  | 81 => ⟨S16384x512, .f32⟩
  | 82 => ⟨S1x512, .f32⟩
  | 83 => ⟨S16384x512, .f32⟩
  | 84 => ⟨S16384x512, .f32⟩
  | 85 => ⟨S_, .f32⟩
  | 86 => ⟨S16384x512, .f32⟩
  | 87 => ⟨S16384x512, .f32⟩
  | 88 => ⟨S16384x768, .f32⟩
  | 89 => ⟨S1x768, .f32⟩
  | 90 => ⟨S16384x768, .f32⟩
  | 91 => ⟨S16384x768, .f32⟩
  | 92 => ⟨S_, .f32⟩
  | 93 => ⟨S16384, .f32⟩
  | 94 => ⟨S16384x1, .f32⟩
  | 95 => ⟨S_, .f32⟩
  | 96 => ⟨S16384x1, .f32⟩
  | 97 => ⟨S16384x1, .f32⟩
  | 98 => ⟨S16384x768, .f32⟩
  | 99 => ⟨S16384x768, .f32⟩
  | 100 => ⟨S16384x768, .f32⟩
  | 101 => ⟨S_, .f32⟩
  | 102 => ⟨S16384, .f32⟩
  | 103 => ⟨S16384x1, .f32⟩
  | 104 => ⟨S_, .f32⟩
  | 105 => ⟨S16384x1, .f32⟩
  | 106 => ⟨S16384x1, .f32⟩
  | 107 => ⟨S16384x768, .f32⟩
  | 108 => ⟨S16384x768, .f32⟩
  | 109 => ⟨S_, .f32⟩
  | 110 => ⟨S16384x1, .f32⟩
  | 111 => ⟨S16384x1, .f32⟩
  | 112 => ⟨S16384x1, .f32⟩
  | 113 => ⟨S16384x768, .f32⟩
  | 114 => ⟨S16384x768, .f32⟩
  | 115 => ⟨S1x768, .f32⟩
  | 116 => ⟨S16384x768, .f32⟩
  | 117 => ⟨S16384x768, .f32⟩
  | 118 => ⟨S1x768, .f32⟩
  | 119 => ⟨S16384x768, .f32⟩
  | 120 => ⟨S16384x768, .f32⟩
  | 121 => ⟨S_, .f32⟩
  | 122 => ⟨S16384x768, .f32⟩
  | 123 => ⟨S16384x768, .f32⟩
  | 124 => ⟨S16384x768, .f32⟩
  | 125 => ⟨S1x768, .f32⟩
  | 126 => ⟨S16384x768, .f32⟩
  | 127 => ⟨S16384x768, .f32⟩
  | _ => ⟨S16384x768, .f32⟩

abbrev hbmTy0_3 (i : Nat) : BufTy := match i % 128 with
  | 0 => ⟨S16384x1, .i32⟩
  | 1 => ⟨S16384x1, .i32⟩
  | 2 => ⟨S16384x1, .i32⟩
  | 3 => ⟨S16384x3, .i32⟩
  | _ => ⟨S16384x768, .f32⟩

abbrev hbmTy (i : Nat) : BufTy := match i / 128 with
  | 0 => hbmTy0_0 i
  | 1 => hbmTy0_1 i
  | 2 => hbmTy0_2 i
  | 3 => hbmTy0_3 i
  | _ => ⟨S16384x768, .f32⟩

abbrev bufTy : (tb : Table) → Fin (tcTables nBuf tb) → BufTy
  | .hbm, ⟨i, _⟩ => hbmTy i
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_v5 : Ref sig .tc := ⟨.hbm, 32, rfl⟩
abbrev main_cst_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_cst_2 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_call0_cst : Ref sig .tc := ⟨.hbm, 59, rfl⟩
abbrev main_call0_v0 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_4 : Ref sig .tc := ⟨.hbm, 66, rfl⟩
abbrev main_v33 : Ref sig .tc := ⟨.hbm, 67, rfl⟩
abbrev main_v34 : Ref sig .tc := ⟨.hbm, 68, rfl⟩
abbrev main_cst_5 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_6 : Ref sig .tc := ⟨.hbm, 75, rfl⟩
abbrev main_v40 : Ref sig .tc := ⟨.hbm, 76, rfl⟩
abbrev main_v41 : Ref sig .tc := ⟨.hbm, 77, rfl⟩
abbrev main_cst_7 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_8 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_call1_cst : Ref sig .tc := ⟨.hbm, 95, rfl⟩
abbrev main_call1_v0 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_9 : Ref sig .tc := ⟨.hbm, 102, rfl⟩
abbrev main_v62 : Ref sig .tc := ⟨.hbm, 103, rfl⟩
abbrev main_v63 : Ref sig .tc := ⟨.hbm, 104, rfl⟩
abbrev main_cst_10 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_11 : Ref sig .tc := ⟨.hbm, 111, rfl⟩
abbrev main_v69 : Ref sig .tc := ⟨.hbm, 112, rfl⟩
abbrev main_v70 : Ref sig .tc := ⟨.hbm, 113, rfl⟩
abbrev main_cst_12 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_13 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_14 : Ref sig .tc := ⟨.hbm, 131, rfl⟩
abbrev main_v86 : Ref sig .tc := ⟨.hbm, 132, rfl⟩
abbrev main_v87 : Ref sig .tc := ⟨.hbm, 133, rfl⟩
abbrev main_cst_15 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_16 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_17 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_call2_v0 : Ref sig .tc := ⟨.hbm, 150, rfl⟩
abbrev main_call2_cst : Ref sig .tc := ⟨.hbm, 151, rfl⟩
abbrev main_call2_c : Ref sig .tc := ⟨.hbm, 152, rfl⟩
abbrev main_call2_v1_0 : Ref sig .tc := ⟨.hbm, 153, rfl⟩
abbrev main_v101 : Ref sig .tc := ⟨.hbm, 154, rfl⟩
abbrev main_call3_c : Ref sig .tc := ⟨.hbm, 155, rfl⟩
abbrev main_call3_v0 : Ref sig .tc := ⟨.hbm, 156, rfl⟩
abbrev main_call3_v1 : Ref sig .tc := ⟨.hbm, 157, rfl⟩
abbrev main_call3_c_0 : Ref sig .tc := ⟨.hbm, 158, rfl⟩
abbrev main_call3_v2 : Ref sig .tc := ⟨.hbm, 159, rfl⟩
abbrev main_call3_v3 : Ref sig .tc := ⟨.hbm, 160, rfl⟩
abbrev main_call3_v4 : Ref sig .tc := ⟨.hbm, 161, rfl⟩
abbrev main_call3_v5 : Ref sig .tc := ⟨.hbm, 162, rfl⟩
abbrev main_call3_c_1 : Ref sig .tc := ⟨.hbm, 163, rfl⟩
abbrev main_call3_c_2 : Ref sig .tc := ⟨.hbm, 164, rfl⟩
abbrev main_call3_v6 : Ref sig .tc := ⟨.hbm, 165, rfl⟩
abbrev main_call3_v7 : Ref sig .tc := ⟨.hbm, 166, rfl⟩
abbrev main_call3_v8 : Ref sig .tc := ⟨.hbm, 167, rfl⟩
abbrev main_call3_v9 : Ref sig .tc := ⟨.hbm, 168, rfl⟩
abbrev main_call3_v10 : Ref sig .tc := ⟨.hbm, 169, rfl⟩
abbrev main_call3_v11 : Ref sig .tc := ⟨.hbm, 170, rfl⟩
abbrev main_call3_c_3 : Ref sig .tc := ⟨.hbm, 171, rfl⟩
abbrev main_call3_v12 : Ref sig .tc := ⟨.hbm, 172, rfl⟩
abbrev main_call3_v13 : Ref sig .tc := ⟨.hbm, 173, rfl⟩
abbrev main_call3_v14 : Ref sig .tc := ⟨.hbm, 174, rfl⟩
abbrev main_call3_cst : Ref sig .tc := ⟨.hbm, 175, rfl⟩
abbrev main_call3_v15 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_cst_18 : Ref sig .tc := ⟨.hbm, 180, rfl⟩
abbrev main_v105 : Ref sig .tc := ⟨.hbm, 181, rfl⟩
abbrev main_cst_19 : Ref sig .tc := ⟨.hbm, 182, rfl⟩
abbrev main_v106 : Ref sig .tc := ⟨.hbm, 183, rfl⟩
abbrev main_cst_20 : Ref sig .tc := ⟨.hbm, 184, rfl⟩
abbrev main_v107 : Ref sig .tc := ⟨.hbm, 185, rfl⟩
abbrev main_cst_21 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_cst_22 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_cst_23 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_cst_24 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_call4_v0 : Ref sig .tc := ⟨.hbm, 209, rfl⟩
abbrev main_call4_cst : Ref sig .tc := ⟨.hbm, 210, rfl⟩
abbrev main_call4_c : Ref sig .tc := ⟨.hbm, 211, rfl⟩
abbrev main_call4_v1_0 : Ref sig .tc := ⟨.hbm, 212, rfl⟩
abbrev main_v127 : Ref sig .tc := ⟨.hbm, 213, rfl⟩
abbrev main_call5_c : Ref sig .tc := ⟨.hbm, 214, rfl⟩
abbrev main_call5_v0 : Ref sig .tc := ⟨.hbm, 215, rfl⟩
abbrev main_call5_v1 : Ref sig .tc := ⟨.hbm, 216, rfl⟩
abbrev main_call5_c_0 : Ref sig .tc := ⟨.hbm, 217, rfl⟩
abbrev main_call5_v2 : Ref sig .tc := ⟨.hbm, 218, rfl⟩
abbrev main_call5_v3 : Ref sig .tc := ⟨.hbm, 219, rfl⟩
abbrev main_call5_v4 : Ref sig .tc := ⟨.hbm, 220, rfl⟩
abbrev main_call5_v5 : Ref sig .tc := ⟨.hbm, 221, rfl⟩
abbrev main_call5_c_1 : Ref sig .tc := ⟨.hbm, 222, rfl⟩
abbrev main_call5_c_2 : Ref sig .tc := ⟨.hbm, 223, rfl⟩
abbrev main_call5_v6 : Ref sig .tc := ⟨.hbm, 224, rfl⟩
abbrev main_call5_v7 : Ref sig .tc := ⟨.hbm, 225, rfl⟩
abbrev main_call5_v8 : Ref sig .tc := ⟨.hbm, 226, rfl⟩
abbrev main_call5_v9 : Ref sig .tc := ⟨.hbm, 227, rfl⟩
abbrev main_call5_v10 : Ref sig .tc := ⟨.hbm, 228, rfl⟩
abbrev main_call5_v11 : Ref sig .tc := ⟨.hbm, 229, rfl⟩
abbrev main_call5_c_3 : Ref sig .tc := ⟨.hbm, 230, rfl⟩
abbrev main_call5_v12 : Ref sig .tc := ⟨.hbm, 231, rfl⟩
abbrev main_call5_v13 : Ref sig .tc := ⟨.hbm, 232, rfl⟩
abbrev main_call5_v14 : Ref sig .tc := ⟨.hbm, 233, rfl⟩
abbrev main_call5_cst : Ref sig .tc := ⟨.hbm, 234, rfl⟩
abbrev main_call5_v15 : Ref sig .tc := ⟨.hbm, 235, rfl⟩
abbrev main_v128 : Ref sig .tc := ⟨.hbm, 236, rfl⟩
abbrev main_v129 : Ref sig .tc := ⟨.hbm, 237, rfl⟩
abbrev main_v130 : Ref sig .tc := ⟨.hbm, 238, rfl⟩
abbrev main_cst_25 : Ref sig .tc := ⟨.hbm, 239, rfl⟩
abbrev main_v131 : Ref sig .tc := ⟨.hbm, 240, rfl⟩
abbrev main_cst_26 : Ref sig .tc := ⟨.hbm, 241, rfl⟩
abbrev main_v132 : Ref sig .tc := ⟨.hbm, 242, rfl⟩
abbrev main_cst_27 : Ref sig .tc := ⟨.hbm, 243, rfl⟩
abbrev main_v133 : Ref sig .tc := ⟨.hbm, 244, rfl⟩
abbrev main_v134 : Ref sig .tc := ⟨.hbm, 245, rfl⟩
abbrev main_v135 : Ref sig .tc := ⟨.hbm, 246, rfl⟩
abbrev main_v136 : Ref sig .tc := ⟨.hbm, 247, rfl⟩
abbrev main_v137 : Ref sig .tc := ⟨.hbm, 248, rfl⟩
abbrev main_v138 : Ref sig .tc := ⟨.hbm, 249, rfl⟩
abbrev main_v139 : Ref sig .tc := ⟨.hbm, 250, rfl⟩
abbrev main_cst_28 : Ref sig .tc := ⟨.hbm, 251, rfl⟩
abbrev main_v140 : Ref sig .tc := ⟨.hbm, 252, rfl⟩
abbrev main_v141 : Ref sig .tc := ⟨.hbm, 253, rfl⟩
abbrev main_v142 : Ref sig .tc := ⟨.hbm, 254, rfl⟩
abbrev main_cst_29 : Ref sig .tc := ⟨.hbm, 255, rfl⟩
abbrev main_v143 : Ref sig .tc := ⟨.hbm, 256, rfl⟩
abbrev main_v144 : Ref sig .tc := ⟨.hbm, 257, rfl⟩
abbrev main_v145 : Ref sig .tc := ⟨.hbm, 258, rfl⟩
abbrev main_v146 : Ref sig .tc := ⟨.hbm, 259, rfl⟩
abbrev main_v147 : Ref sig .tc := ⟨.hbm, 260, rfl⟩
abbrev main_cst_30 : Ref sig .tc := ⟨.hbm, 261, rfl⟩
abbrev main_v148 : Ref sig .tc := ⟨.hbm, 262, rfl⟩
abbrev main_v149 : Ref sig .tc := ⟨.hbm, 263, rfl⟩
abbrev main_v150 : Ref sig .tc := ⟨.hbm, 264, rfl⟩
abbrev main_v151 : Ref sig .tc := ⟨.hbm, 265, rfl⟩
abbrev main_v152 : Ref sig .tc := ⟨.hbm, 266, rfl⟩
abbrev main_call6_v0 : Ref sig .tc := ⟨.hbm, 267, rfl⟩
abbrev main_call6_cst : Ref sig .tc := ⟨.hbm, 268, rfl⟩
abbrev main_call6_c : Ref sig .tc := ⟨.hbm, 269, rfl⟩
abbrev main_call6_v1_0 : Ref sig .tc := ⟨.hbm, 270, rfl⟩
abbrev main_v153 : Ref sig .tc := ⟨.hbm, 271, rfl⟩
abbrev main_call7_c : Ref sig .tc := ⟨.hbm, 272, rfl⟩
abbrev main_call7_v0 : Ref sig .tc := ⟨.hbm, 273, rfl⟩
abbrev main_call7_v1 : Ref sig .tc := ⟨.hbm, 274, rfl⟩
abbrev main_call7_c_0 : Ref sig .tc := ⟨.hbm, 275, rfl⟩
abbrev main_call7_v2 : Ref sig .tc := ⟨.hbm, 276, rfl⟩
abbrev main_call7_v3 : Ref sig .tc := ⟨.hbm, 277, rfl⟩
abbrev main_call7_v4 : Ref sig .tc := ⟨.hbm, 278, rfl⟩
abbrev main_call7_v5 : Ref sig .tc := ⟨.hbm, 279, rfl⟩
abbrev main_call7_c_1 : Ref sig .tc := ⟨.hbm, 280, rfl⟩
abbrev main_call7_c_2 : Ref sig .tc := ⟨.hbm, 281, rfl⟩
abbrev main_call7_v6 : Ref sig .tc := ⟨.hbm, 282, rfl⟩
abbrev main_call7_v7 : Ref sig .tc := ⟨.hbm, 283, rfl⟩
abbrev main_call7_v8 : Ref sig .tc := ⟨.hbm, 284, rfl⟩
abbrev main_call7_v9 : Ref sig .tc := ⟨.hbm, 285, rfl⟩
abbrev main_call7_v10 : Ref sig .tc := ⟨.hbm, 286, rfl⟩
abbrev main_call7_v11 : Ref sig .tc := ⟨.hbm, 287, rfl⟩
abbrev main_call7_c_3 : Ref sig .tc := ⟨.hbm, 288, rfl⟩
abbrev main_call7_v12 : Ref sig .tc := ⟨.hbm, 289, rfl⟩
abbrev main_call7_v13 : Ref sig .tc := ⟨.hbm, 290, rfl⟩
abbrev main_call7_v14 : Ref sig .tc := ⟨.hbm, 291, rfl⟩
abbrev main_call7_cst : Ref sig .tc := ⟨.hbm, 292, rfl⟩
abbrev main_call7_v15 : Ref sig .tc := ⟨.hbm, 293, rfl⟩
abbrev main_v154 : Ref sig .tc := ⟨.hbm, 294, rfl⟩
abbrev main_v155 : Ref sig .tc := ⟨.hbm, 295, rfl⟩
abbrev main_v156 : Ref sig .tc := ⟨.hbm, 296, rfl⟩
abbrev main_cst_31 : Ref sig .tc := ⟨.hbm, 297, rfl⟩
abbrev main_v157 : Ref sig .tc := ⟨.hbm, 298, rfl⟩
abbrev main_cst_32 : Ref sig .tc := ⟨.hbm, 299, rfl⟩
abbrev main_v158 : Ref sig .tc := ⟨.hbm, 300, rfl⟩
abbrev main_cst_33 : Ref sig .tc := ⟨.hbm, 301, rfl⟩
abbrev main_v159 : Ref sig .tc := ⟨.hbm, 302, rfl⟩
abbrev main_v160 : Ref sig .tc := ⟨.hbm, 303, rfl⟩
abbrev main_v161 : Ref sig .tc := ⟨.hbm, 304, rfl⟩
abbrev main_v162 : Ref sig .tc := ⟨.hbm, 305, rfl⟩
abbrev main_v163 : Ref sig .tc := ⟨.hbm, 306, rfl⟩
abbrev main_v164 : Ref sig .tc := ⟨.hbm, 307, rfl⟩
abbrev main_v165 : Ref sig .tc := ⟨.hbm, 308, rfl⟩
abbrev main_v166 : Ref sig .tc := ⟨.hbm, 309, rfl⟩
abbrev main_v167 : Ref sig .tc := ⟨.hbm, 310, rfl⟩
abbrev main_v168 : Ref sig .tc := ⟨.hbm, 311, rfl⟩
abbrev main_cst_34 : Ref sig .tc := ⟨.hbm, 312, rfl⟩
abbrev main_v169 : Ref sig .tc := ⟨.hbm, 313, rfl⟩
abbrev main_v170 : Ref sig .tc := ⟨.hbm, 314, rfl⟩
abbrev main_cst_35 : Ref sig .tc := ⟨.hbm, 315, rfl⟩
abbrev main_v171 : Ref sig .tc := ⟨.hbm, 316, rfl⟩
abbrev main_v172 : Ref sig .tc := ⟨.hbm, 317, rfl⟩
abbrev main_v173 : Ref sig .tc := ⟨.hbm, 318, rfl⟩
abbrev main_v174 : Ref sig .tc := ⟨.hbm, 319, rfl⟩
abbrev main_v175 : Ref sig .tc := ⟨.hbm, 320, rfl⟩
abbrev main_cst_36 : Ref sig .tc := ⟨.hbm, 321, rfl⟩
abbrev main_v176 : Ref sig .tc := ⟨.hbm, 322, rfl⟩
abbrev main_v177 : Ref sig .tc := ⟨.hbm, 323, rfl⟩
abbrev main_cst_37 : Ref sig .tc := ⟨.hbm, 324, rfl⟩
abbrev main_v178 : Ref sig .tc := ⟨.hbm, 325, rfl⟩
abbrev main_v179 : Ref sig .tc := ⟨.hbm, 326, rfl⟩
abbrev main_v180 : Ref sig .tc := ⟨.hbm, 327, rfl⟩
abbrev main_v181 : Ref sig .tc := ⟨.hbm, 328, rfl⟩
abbrev main_cst_38 : Ref sig .tc := ⟨.hbm, 329, rfl⟩
abbrev main_v182 : Ref sig .tc := ⟨.hbm, 330, rfl⟩
abbrev main_v183 : Ref sig .tc := ⟨.hbm, 331, rfl⟩
abbrev main_v184 : Ref sig .tc := ⟨.hbm, 332, rfl⟩
abbrev main_v185 : Ref sig .tc := ⟨.hbm, 333, rfl⟩
abbrev main_v186 : Ref sig .tc := ⟨.hbm, 334, rfl⟩
abbrev main_v187 : Ref sig .tc := ⟨.hbm, 335, rfl⟩
abbrev main_v188 : Ref sig .tc := ⟨.hbm, 336, rfl⟩
abbrev main_v189 : Ref sig .tc := ⟨.hbm, 337, rfl⟩
abbrev main_v190 : Ref sig .tc := ⟨.hbm, 338, rfl⟩
abbrev main_v191 : Ref sig .tc := ⟨.hbm, 339, rfl⟩
abbrev main_v192 : Ref sig .tc := ⟨.hbm, 340, rfl⟩
abbrev main_call8_cst : Ref sig .tc := ⟨.hbm, 341, rfl⟩
abbrev main_call8_v0 : Ref sig .tc := ⟨.hbm, 342, rfl⟩
abbrev main_v193 : Ref sig .tc := ⟨.hbm, 343, rfl⟩
abbrev main_v194 : Ref sig .tc := ⟨.hbm, 344, rfl⟩
abbrev main_v195 : Ref sig .tc := ⟨.hbm, 345, rfl⟩
abbrev main_v196 : Ref sig .tc := ⟨.hbm, 346, rfl⟩
abbrev main_v197 : Ref sig .tc := ⟨.hbm, 347, rfl⟩
abbrev main_cst_39 : Ref sig .tc := ⟨.hbm, 348, rfl⟩
abbrev main_v198 : Ref sig .tc := ⟨.hbm, 349, rfl⟩
abbrev main_v199 : Ref sig .tc := ⟨.hbm, 350, rfl⟩
abbrev main_cst_40 : Ref sig .tc := ⟨.hbm, 351, rfl⟩
abbrev main_v200 : Ref sig .tc := ⟨.hbm, 352, rfl⟩
abbrev main_v201 : Ref sig .tc := ⟨.hbm, 353, rfl⟩
abbrev main_v202 : Ref sig .tc := ⟨.hbm, 354, rfl⟩
abbrev main_v203 : Ref sig .tc := ⟨.hbm, 355, rfl⟩
abbrev main_v204 : Ref sig .tc := ⟨.hbm, 356, rfl⟩
abbrev main_cst_41 : Ref sig .tc := ⟨.hbm, 357, rfl⟩
abbrev main_v205 : Ref sig .tc := ⟨.hbm, 358, rfl⟩
abbrev main_v206 : Ref sig .tc := ⟨.hbm, 359, rfl⟩
abbrev main_cst_42 : Ref sig .tc := ⟨.hbm, 360, rfl⟩
abbrev main_v207 : Ref sig .tc := ⟨.hbm, 361, rfl⟩
abbrev main_v208 : Ref sig .tc := ⟨.hbm, 362, rfl⟩
abbrev main_v209 : Ref sig .tc := ⟨.hbm, 363, rfl⟩
abbrev main_v210 : Ref sig .tc := ⟨.hbm, 364, rfl⟩
abbrev main_cst_43 : Ref sig .tc := ⟨.hbm, 365, rfl⟩
abbrev main_v211 : Ref sig .tc := ⟨.hbm, 366, rfl⟩
abbrev main_v212 : Ref sig .tc := ⟨.hbm, 367, rfl⟩
abbrev main_v213 : Ref sig .tc := ⟨.hbm, 368, rfl⟩
abbrev main_v214 : Ref sig .tc := ⟨.hbm, 369, rfl⟩
abbrev main_v215 : Ref sig .tc := ⟨.hbm, 370, rfl⟩
abbrev main_v216 : Ref sig .tc := ⟨.hbm, 371, rfl⟩
abbrev main_v217 : Ref sig .tc := ⟨.hbm, 372, rfl⟩
abbrev main_v218 : Ref sig .tc := ⟨.hbm, 373, rfl⟩
abbrev main_v219 : Ref sig .tc := ⟨.hbm, 374, rfl⟩
abbrev main_v220 : Ref sig .tc := ⟨.hbm, 375, rfl⟩
abbrev main_v221 : Ref sig .tc := ⟨.hbm, 376, rfl⟩
abbrev main_call9_cst : Ref sig .tc := ⟨.hbm, 377, rfl⟩
abbrev main_call9_v0 : Ref sig .tc := ⟨.hbm, 378, rfl⟩
abbrev main_v222 : Ref sig .tc := ⟨.hbm, 379, rfl⟩
abbrev main_v223 : Ref sig .tc := ⟨.hbm, 380, rfl⟩
abbrev main_v224 : Ref sig .tc := ⟨.hbm, 381, rfl⟩
abbrev main_v225 : Ref sig .tc := ⟨.hbm, 382, rfl⟩
abbrev main_v226 : Ref sig .tc := ⟨.hbm, 383, rfl⟩
abbrev main_v227 : Ref sig .tc := ⟨.hbm, 384, rfl⟩
abbrev main_v228 : Ref sig .tc := ⟨.hbm, 385, rfl⟩
abbrev main_v229 : Ref sig .tc := ⟨.hbm, 386, rfl⟩
abbrev main_v230 : Ref sig .tc := ⟨.hbm, 387, rfl⟩

abbrev nD : Nat := 1
abbrev τ : Topo := Topo.v7x

variable {F : FTy → Type} [FloatOps F]
-- ==== Proof.Blk.lean ====
/- What one grid point computes, named: a block of the batch through encoder, the three codebooks and decoder. -/
module

public import proofs.«01_k».proof.Proof.Gen.KernelIdeal.Skeleton
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The arrays one grid point sees: its block of the batch, the weights and the codebooks. -/
structure Blk (F : FTy → Type) [FloatOps F] where
  x : Vec F S2048x768 .f32
  eW0 : Vec F S768x768 .f32
  eb0 : Vec F S768 .f32
  eg0 : Vec F S768 .f32
  et0 : Vec F S768 .f32
  eW1 : Vec F S768x512 .f32
  eb1 : Vec F S512 .f32
  eg1 : Vec F S512 .f32
  et1 : Vec F S512 .f32
  eW2 : Vec F S512x256 .f32
  eb2 : Vec F S256 .f32
  eg2 : Vec F S256 .f32
  et2 : Vec F S256 .f32
  dW0 : Vec F S256x512 .f32
  db0 : Vec F S512 .f32
  dW1 : Vec F S512x768 .f32
  db1 : Vec F S768 .f32
  dW2 : Vec F S768x768 .f32
  db2 : Vec F S768 .f32
  dg0 : Vec F S512 .f32
  dt0 : Vec F S512 .f32
  dg1 : Vec F S768 .f32
  dt1 : Vec F S768 .f32
  cb0 : Vec F S8x256 .f32
  cb1 : Vec F S64x256 .f32
  cb2 : Vec F S512x256 .f32

namespace Blk

variable (a : Blk F)

/-- The three rows of squared codebook norms. -/
def n0 : Vec F S1x8 .f32 := k0_pay2 a.cb0
def n1 : Vec F S1x64 .f32 := k0_pay3 a.cb1
def n2 : Vec F S1x512 .f32 := k0_pay4 a.cb2
/-- The encoder's two hidden layers and the code vector. -/
def h0 : Vec F S2048x768 .f32 := k0_pay6 (k0_pay5 a.x a.eW0 a.eb0 a.eg0 a.et0)
def h1 : Vec F S2048x512 .f32 := k0_pay7 a.h0 a.eW1 a.eb1 a.eg1 a.et1
def z : FVec F S2048x256 .f32 := k0_pay8 a.h1 a.eW2 a.eb2 a.eg2 a.et2
/-- First codebook: scores, norms, the index taken, the sum so far and what is left. -/
def s0 : FVec F S2048x8 .f32 := k0_pay10 a.h1 a.eW2 a.eb2 a.eg2 a.et2 a.cb0
def m0 : FVec F S2048x8 .f32 := k0_pay11 a.h1 a.eW2 a.eb2 a.eg2 a.et2 a.n0
def c0 : Vec F S2048x1 .i32 := k0_pay14 a.s0 a.m0
def l0 : F .f32 := k0_pay16 a.s0 a.m0
def q0 : FVec F S2048x256 .f32 := k0_pay17 k0_pay9 a.cb0 a.s0 a.m0
def r0 : FVec F S2048x256 .f32 := k0_pay18 a.z a.cb0 a.s0 a.m0
/-- Second codebook. -/
def s1 : FVec F S2048x64 .f32 := k0_pay19 a.z a.cb0 a.s0 a.m0 a.cb1
def m1 : FVec F S2048x64 .f32 := k0_pay20 a.z a.cb0 a.s0 a.m0
def c1 : Vec F S2048x1 .i32 := k0_pay23 a.s1 a.n1 a.m1
def l1 : F .f32 := k0_pay25 a.l0 a.s1 a.n1 a.m1
def q1 : FVec F S2048x256 .f32 := k0_pay26 a.q0 a.cb1 a.s1 a.n1 a.m1
/-- Third codebook. -/
def s2 : FVec F S2048x512 .f32 := k0_pay28 a.r0 a.cb1 a.s1 a.n1 a.m1 a.cb2
def m2 : FVec F S2048x1 .f32 := k0_pay29 a.r0 a.cb1 a.s1 a.n1 a.m1
def c2 : Vec F S2048x1 .i32 := k0_pay32 a.s2 a.m2 a.n2
def l2 : F .f32 := k0_pay33 a.l1 a.s2 a.m2 a.n2
/-- The decoder's hidden layers, the reconstruction, and the loss added to what it was. -/
def g0 : Vec F S2048x512 .f32 := k0_pay35 (k0_pay34 a.q1 a.cb2 a.s2 a.m2 a.n2 a.dW0 a.db0) a.dg0 a.dt0
def g1 : Vec F S2048x768 .f32 := k0_pay38 (k0_pay36 a.g0 a.dW1 a.db1) a.dg1 a.dt1 (k0_pay37 a.g0 a.dW1 a.db1)
def out : Vec F S2048x768 .f32 := k0_pay39 a.g1 a.dW2 a.db2
def loss (prev : Vec F S1x1 .f32) : Vec F S1x1 .f32 := k0_pay1 a.l2 prev

/-- Where the three rows of norms stand in the scratch that is carried from point to point. -/
abbrev R0 : Rect S8x512 := Rect.unit (s := S8x512) ![0, 0] ![1, 8] inb_S8x512_S1x8_0_0
abbrev R1 : Rect S8x512 := Rect.unit (s := S8x512) ![1, 0] ![1, 64] inb_S8x512_S1x64_1_0
abbrev R2 : Rect S8x512 := Rect.unit (s := S8x512) ![2, 0] ![1, 512] inb_S8x512_S1x512_2_0

/-- Scratch contents that hold the codebook norms; the rest of the scratch is never read. -/
structure Norms (s : Vec F S8x512 .f32) : Prop where
  r0 : View.ld s R0 = a.n0
  r1 : View.ld s R1 = a.n1
  r2 : View.ld s R2 = a.n2

end Blk

end Cert.KernelIdeal.Hand

end
-- ==== Proof.Body.lean ====
/- The kernel body's triple at the first grid point and at a later one. -/
module

public import proofs.«01_k».proof.Proof.Blk
public import proofs.«01_k».proof.Proof.Gen.KernelIdeal.Frame
public import Idealize.ShloMosaic.Lib.VecWindow
public import Idealize.ShloMosaic.Lib.Pipeline.ReadBack

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's branch is taken at the first point only. -/
abbrev First (i : grid0.Coords) : Prop := (Scalar.cmpi .ne (Scalar.extui (Scalar.cmpi .eq (BitVec.ofNat 32 (i 0).val) 0#32)) 0#32) = 1#1

theorem first_iff : ∀ t : Fin cfg0.N, First (grid0.coords t) ↔ t.val = 0 :=
  (by decide +kernel : ∀ t : Fin grid0.N, First (grid0.coords t) ↔ t.val = 0)

/-- A whole memref owned at `X` is its buffer at the one contents that read as `X`. -/
theorem owns_whole_unread {c : Dev nD} {sp : Space} {sh : Shape} {e : EltTy} {M : Memref sig .tc sp sh e} (h : M.IsWhole)
    (q : PosShare TreeShare) (X : sh.Idx → Elt F e) :
    (owns (c : Thread nD τ) M q X : sProp 𝕄) = (M.view.loc (c : Thread nD τ) ↦[M.view.set]{q} h.unread X) := by
  unfold owns
  have h₁ : iprop(∃ f, ⌜M.view.read (Elt F) f = X⌝ ∗ (M.view.loc (c : Thread nD τ) ↦[M.view.set]{q} f))
      ⊢ (M.view.loc (c : Thread nD τ) ↦[M.view.set]{q} h.unread X : sProp 𝕄) := by
    iintro ⟨%f, %hf, H⟩; obtain rfl := h.eq_unread hf; iexact H
  have h₂ : (M.view.loc (c : Thread nD τ) ↦[M.view.set]{q} h.unread X : sProp 𝕄)
      ⊢ iprop(∃ f, ⌜M.view.read (Elt F) f = X⌝ ∗ (M.view.loc (c : Thread nD τ) ↦[M.view.set]{q} f)) := by
    iintro H; iexists _; isplitr
    · ipureintro; exact h.read_unread X
    iexact H
  exact BI.equiv_iff.mp ⟨h₁, h₂⟩

section

variable {sp : Space} {sh : Shape} {e : EltTy}

/-- A store over a whole buffer leaves what was stored, however the sizes are spelt; a load of the whole after it
    reads it; a load of the whole of a buffer reads what it holds. -/
theorem left_full (v : View sig .tc sp sh e) (f : v.ty.Contents (Elt F)) {off : Fin sh.rank → ℕ} (inb : ∀ a, off a + sh.size a ≤ sh.size a)
    (x : (Rect.unit off sh.size inb).shape.Idx → Elt F e) (L : List (View.Piece (Elt F) sh e)) :
    v.read (Elt F) (v.writes (Elt F) f (⟨Rect.unit off (no_index sh.size) inb, x⟩ :: L)) = x := View.read_writes_full v f inb x L
theorem back_full (v : View sig .tc sp sh e) {off off' : Fin sh.rank → ℕ} (inb : ∀ a, off a + sh.size a ≤ sh.size a)
    (inb' : ∀ a, off' a + sh.size a ≤ sh.size a) (x : (Rect.unit off' sh.size inb').shape.Idx → Elt F e) (L : List (View.Piece (Elt F) sh e)) :
    v.readCov (⟨Rect.unit off' (no_index sh.size) inb', x⟩ :: L) (Rect.unit off (no_index sh.size) inb).toLoadRect = x :=
  View.readCov_full v inb inb' x L
theorem load_full {M : Memref sig .tc sp sh e} (h : M.IsWhole) {off : Fin sh.rank → ℕ} (inb : ∀ a, off a + sh.size a ≤ sh.size a)
    (X : sh.Idx → Elt F e) :
    M.view.readAt (Elt F) (Rect.unit off (no_index sh.size) inb).toLoadRect (h.unread X) = X := by
  rw [View.readAt_full, h.read_unread]

variable (v : View sig .tc sp S8x512 .f32) (a : Blk F)

/-- The three stores of norm rows, the last first. -/
abbrev rows (x0 : Vec F S1x8 .f32) (x1 : Vec F S1x64 .f32) (x2 : Vec F S1x512 .f32) : List (View.Piece (Elt F) S8x512 .f32) :=
  [⟨Blk.R2, x2⟩, ⟨Blk.R1, x1⟩, ⟨Blk.R0, x0⟩]

/-- A load of one row of norms after the three stores reads that row. -/
theorem norms_back0 (x0 : Vec F S1x8 .f32) (x1 : Vec F S1x64 .f32) (x2 : Vec F S1x512 .f32) :
    v.readCov (rows x0 x1 x2) Blk.R0.toLoadRect = x0 := by
  rw [View.readCov_skip _ _ _ _ _ (by decide), View.readCov_skip _ _ _ _ _ (by decide), View.readCov_cons_toLoadRect]
theorem norms_back1 (x0 : Vec F S1x8 .f32) (x1 : Vec F S1x64 .f32) (x2 : Vec F S1x512 .f32) :
    v.readCov (rows x0 x1 x2) Blk.R1.toLoadRect = x1 := by
  rw [View.readCov_skip _ _ _ _ _ (by decide), View.readCov_cons_toLoadRect]
theorem norms_back2 (x0 : Vec F S1x8 .f32) (x1 : Vec F S1x64 .f32) (x2 : Vec F S1x512 .f32) :
    v.readCov (rows x0 x1 x2) Blk.R2.toLoadRect = x2 := by
  rw [View.readCov_cons_toLoadRect]

/-- What the three stores leave holds the norms, whatever the rest of the scratch is. -/
theorem norms_left (f : v.ty.Contents (Elt F)) : a.Norms (v.read (Elt F) (v.writes (Elt F) f (rows a.n0 a.n1 a.n2))) where
  r0 := (View.readAt_writes_of_cover v f _ Blk.R0.toLoadRect fun j => ⟨⟨Blk.R0, a.n0⟩, by simp [rows], LoadRect.idx_mem_of_within (B := Blk.R0.toLoadRect) (by decide : LoadRect.within Blk.R0 Blk.R0.toLoadRect = true) j⟩).trans (norms_back0 v _ _ _)
  r1 := (View.readAt_writes_of_cover v f _ Blk.R1.toLoadRect fun j => ⟨⟨Blk.R1, a.n1⟩, by simp [rows], LoadRect.idx_mem_of_within (B := Blk.R1.toLoadRect) (by decide : LoadRect.within Blk.R1 Blk.R1.toLoadRect = true) j⟩).trans (norms_back1 v _ _ _)
  r2 := (View.readAt_writes_of_cover v f _ Blk.R2.toLoadRect fun j => ⟨⟨Blk.R2, a.n2⟩, by simp [rows], LoadRect.idx_mem_of_within (B := Blk.R2.toLoadRect) (by decide : LoadRect.within Blk.R2 Blk.R2.toLoadRect = true) j⟩).trans (norms_back2 v _ _ _)

variable {a} {s : Vec F S8x512 .f32} (hs : a.Norms s) {M : Memref sig .tc sp S8x512 .f32} (h : M.IsWhole)
include hs

/-- A load of one row of norms of a scratch that holds them. -/
theorem norms_load0 : M.view.readAt (Elt F) Blk.R0.toLoadRect (h.unread s) = a.n0 := by
  rw [View.readAt_eq_ld, h.read_unread]; exact hs.r0
theorem norms_load1 : M.view.readAt (Elt F) Blk.R1.toLoadRect (h.unread s) = a.n1 := by
  rw [View.readAt_eq_ld, h.read_unread]; exact hs.r1
theorem norms_load2 : M.view.readAt (Elt F) Blk.R2.toLoadRect (h.unread s) = a.n2 := by
  rw [View.readAt_eq_ld, h.read_unread]; exact hs.r2

end

section

variable (c : Dev nD) (i : grid0.Coords)
  (arg1 : Memref sig .tc .vmem S2048x768 .f32) (harg1 : arg1.IsWhole)
  (arg2 : Memref sig .tc .vmem S768x768 .f32) (harg2 : arg2.IsWhole)
  (arg3 : Memref sig .tc .vmem S768 .f32) (harg3 : arg3.IsWhole)
  (arg4 : Memref sig .tc .vmem S768 .f32) (harg4 : arg4.IsWhole)
  (arg5 : Memref sig .tc .vmem S768 .f32) (harg5 : arg5.IsWhole)
  (arg6 : Memref sig .tc .vmem S768x512 .f32) (harg6 : arg6.IsWhole)
  (arg7 : Memref sig .tc .vmem S512 .f32) (harg7 : arg7.IsWhole)
  (arg8 : Memref sig .tc .vmem S512 .f32) (harg8 : arg8.IsWhole)
  (arg9 : Memref sig .tc .vmem S512 .f32) (harg9 : arg9.IsWhole)
  (arg10 : Memref sig .tc .vmem S512x256 .f32) (harg10 : arg10.IsWhole)
  (arg11 : Memref sig .tc .vmem S256 .f32) (harg11 : arg11.IsWhole)
  (arg12 : Memref sig .tc .vmem S256 .f32) (harg12 : arg12.IsWhole)
  (arg13 : Memref sig .tc .vmem S256 .f32) (harg13 : arg13.IsWhole)
  (arg14 : Memref sig .tc .vmem S256x512 .f32) (harg14 : arg14.IsWhole)
  (arg15 : Memref sig .tc .vmem S512 .f32) (harg15 : arg15.IsWhole)
  (arg16 : Memref sig .tc .vmem S512x768 .f32) (harg16 : arg16.IsWhole)
  (arg17 : Memref sig .tc .vmem S768 .f32) (harg17 : arg17.IsWhole)
  (arg18 : Memref sig .tc .vmem S768x768 .f32) (harg18 : arg18.IsWhole)
  (arg19 : Memref sig .tc .vmem S768 .f32) (harg19 : arg19.IsWhole)
  (arg20 : Memref sig .tc .vmem S512 .f32) (harg20 : arg20.IsWhole)
  (arg21 : Memref sig .tc .vmem S512 .f32) (harg21 : arg21.IsWhole)
  (arg22 : Memref sig .tc .vmem S768 .f32) (harg22 : arg22.IsWhole)
  (arg23 : Memref sig .tc .vmem S768 .f32) (harg23 : arg23.IsWhole)
  (arg24 : Memref sig .tc .vmem S8x256 .f32) (harg24 : arg24.IsWhole)
  (arg25 : Memref sig .tc .vmem S64x256 .f32) (harg25 : arg25.IsWhole)
  (arg26 : Memref sig .tc .vmem S512x256 .f32) (harg26 : arg26.IsWhole)
  (arg27 : Memref sig .tc .vmem S2048x768 .f32) (harg27 : arg27.IsWhole)
  (arg28 : Memref sig .tc .vmem S1x1 .f32) (harg28 : arg28.IsWhole)
  (arg29 : Memref sig .tc .vmem S2048x1 .i32) (harg29 : arg29.IsWhole)
  (arg30 : Memref sig .tc .vmem S2048x1 .i32) (harg30 : arg30.IsWhole)
  (arg31 : Memref sig .tc .vmem S2048x1 .i32) (harg31 : arg31.IsWhole)
  (arg32 : Memref sig .tc .vmem S2048x768 .f32) (harg32 : arg32.IsWhole)
  (arg33 : Memref sig .tc .vmem S2048x512 .f32) (harg33 : arg33.IsWhole)
  (arg34 : Memref sig .tc .vmem S8x512 .f32) (harg34 : arg34.IsWhole)

/-- The inputs' staging buffers at the block's arrays. -/
def Ins (a : Blk F) : sProp 𝕄 :=
  iprop(owns (c : Thread nD τ) arg1 fullShare a.x ∗ owns (c : Thread nD τ) arg2 fullShare a.eW0 ∗ owns (c : Thread nD τ) arg3 fullShare a.eb0 ∗ owns (c : Thread nD τ) arg4 fullShare a.eg0 ∗ owns (c : Thread nD τ) arg5 fullShare a.et0 ∗ owns (c : Thread nD τ) arg6 fullShare a.eW1 ∗ owns (c : Thread nD τ) arg7 fullShare a.eb1 ∗ owns (c : Thread nD τ) arg8 fullShare a.eg1 ∗ owns (c : Thread nD τ) arg9 fullShare a.et1 ∗ owns (c : Thread nD τ) arg10 fullShare a.eW2 ∗ owns (c : Thread nD τ) arg11 fullShare a.eb2 ∗ owns (c : Thread nD τ) arg12 fullShare a.eg2 ∗ owns (c : Thread nD τ) arg13 fullShare a.et2 ∗ owns (c : Thread nD τ) arg14 fullShare a.dW0 ∗ owns (c : Thread nD τ) arg15 fullShare a.db0 ∗ owns (c : Thread nD τ) arg16 fullShare a.dW1 ∗ owns (c : Thread nD τ) arg17 fullShare a.db1 ∗ owns (c : Thread nD τ) arg18 fullShare a.dW2 ∗ owns (c : Thread nD τ) arg19 fullShare a.db2 ∗ owns (c : Thread nD τ) arg20 fullShare a.dg0 ∗ owns (c : Thread nD τ) arg21 fullShare a.dt0 ∗ owns (c : Thread nD τ) arg22 fullShare a.dg1 ∗ owns (c : Thread nD τ) arg23 fullShare a.dt1 ∗ owns (c : Thread nD τ) arg24 fullShare a.cb0 ∗ owns (c : Thread nD τ) arg25 fullShare a.cb1 ∗ owns (c : Thread nD τ) arg26 fullShare a.cb2)

/-- What a point leaves: the inputs as they were, the five results of the block (the loss added to `prev`), the
    scratch with the codebook norms still in place. -/
def Left (a : Blk F) (prev : Vec F S1x1 .f32) : sProp 𝕄 :=
  iprop(Ins c arg1 arg2 arg3 arg4 arg5 arg6 arg7 arg8 arg9 arg10 arg11 arg12 arg13 arg14 arg15 arg16 arg17 arg18 arg19 arg20 arg21 arg22 arg23 arg24 arg25 arg26 a ∗ owns (c : Thread nD τ) arg27 fullShare a.out ∗ owns (c : Thread nD τ) arg28 fullShare (a.loss prev) ∗ owns (c : Thread nD τ) arg29 fullShare a.c0 ∗ owns (c : Thread nD τ) arg30 fullShare a.c1 ∗ owns (c : Thread nD τ) arg31 fullShare a.c2
    ∗ (∃ d, owns (c : Thread nD τ) arg32 fullShare d) ∗ (∃ d, owns (c : Thread nD τ) arg33 fullShare d) ∗ (∃ s, ⌜a.Norms s⌝ ∗ owns (c : Thread nD τ) arg34 fullShare s))

set_option maxHeartbeats 4000000 in
/-- The first point: the norms are stored, the loss starts at nought. -/
theorem body_first (a : Blk F) (hi : First i) (E : Set ℕ) (K : PUnit → sProp 𝕄) :
    iprop(Ins c arg1 arg2 arg3 arg4 arg5 arg6 arg7 arg8 arg9 arg10 arg11 arg12 arg13 arg14 arg15 arg16 arg17 arg18 arg19 arg20 arg21 arg22 arg23 arg24 arg25 arg26 a ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (Left c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 a k0_pay40 -∗ K ⟨⟩))
      ⊢ wp frame (wpE (defs₀ (F := F)) Variants.none c none) E (cc0__rqvae_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
  simp only [cc0__rqvae_kernel_eq_skeleton]; unfold cc0__rqvae_kernel_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold Left Ins
  simp only [owns_whole_unread harg1, owns_whole_unread harg2, owns_whole_unread harg3, owns_whole_unread harg4, owns_whole_unread harg5, owns_whole_unread harg6, owns_whole_unread harg7, owns_whole_unread harg8, owns_whole_unread harg9, owns_whole_unread harg10, owns_whole_unread harg11, owns_whole_unread harg12, owns_whole_unread harg13, owns_whole_unread harg14, owns_whole_unread harg15, owns_whole_unread harg16, owns_whole_unread harg17, owns_whole_unread harg18, owns_whole_unread harg19, owns_whole_unread harg20, owns_whole_unread harg21, owns_whole_unread harg22, owns_whole_unread harg23, owns_whole_unread harg24, owns_whole_unread harg25, owns_whole_unread harg26]
  unfold owns
  iintro ⟨⟨H0, H1, H2, H3, H4, H5, H6, H7, H8, H9, H10, H11, H12, H13, H14, H15, H16, H17, H18, H19, H20, H21, H22, H23, H24, H25⟩, ⟨%d26, %f26, -, H26⟩, ⟨%d27, %f27, -, H27⟩, ⟨%d28, %f28, -, H28⟩, ⟨%d29, %f29, -, H29⟩, ⟨%d30, %f30, -, H30⟩, ⟨%ds0, %fs0, -, HS0⟩, ⟨%ds1, %fs1, -, HS1⟩, ⟨%ds2, %fs2, -, HS2⟩, Hk⟩

  sl_exec (disch := sl_exact hi)
  sl_step
  iapply Hk
  isplitl [H0 H1 H2 H3 H4 H5 H6 H7 H8 H9 H10 H11 H12 H13 H14 H15 H16 H17 H18 H19 H20 H21 H22 H23 H24 H25]
  · iframe H0 H1 H2 H3 H4 H5 H6 H7 H8 H9 H10 H11 H12 H13 H14 H15 H16 H17 H18 H19 H20 H21 H22 H23 H24
    iexact H25
  isplitl [H26]
  iexists _; isplitr
  rotate_left; iexact H26
  isplitl [H27]
  iexists _; isplitr
  rotate_left; iexact H27
  isplitl [H28]
  iexists _; isplitr
  rotate_left; iexact H28
  isplitl [H29]
  iexists _; isplitr
  rotate_left; iexact H29
  isplitl [H30]
  iexists _; isplitr
  rotate_left; iexact H30
  isplitl [HS0]
  · iexists _; iexists _; isplitr
    swap; iexact HS0
    ipureintro; rfl
  isplitl [HS1]
  · iexists _; iexists _; isplitr
    swap; iexact HS1
    ipureintro; rfl
  · iexists _; isplitr
    swap
    · iexists _; isplitr
      swap; iexact HS2
      ipureintro; rfl
    ipureintro
    delta body_first.sl.HS2_3; simp only [load_full, ← Blk.n0.eq_1, ← Blk.n1.eq_1, ← Blk.n2.eq_1]; exact norms_left (F := F) arg34.view a fs2
  all_goals
    ipureintro
    repeat delta body_first.sl.H27_1 body_first.sl.v330 body_first.sl.v206 body_first.sl.v162 body_first.sl.v118 body_first.sl.HS2_3 body_first.sl.v319 body_first.sl.HS0_2 body_first.sl.v281 body_first.sl.HS1_2 body_first.sl.HS1_1 body_first.sl.v41 body_first.sl.HS0_1 body_first.sl.v body_first.sl.v0 body_first.sl.v1 body_first.sl.v2 body_first.sl.r body_first.sl.r_1 body_first.sl.r_2 body_first.sl.r_3 body_first.sl.r_4 body_first.sl.r_5 body_first.sl.r_6 body_first.sl.r_7 body_first.sl.r_8 body_first.sl.r_9 body_first.sl.r_10 body_first.sl.r_11 body_first.sl.r_12 body_first.sl.r_13 body_first.sl.r_14 body_first.sl.r_15 body_first.sl.r_16 body_first.sl.r_17 body_first.sl.r_18 body_first.sl.r_19 body_first.sl.r_20 body_first.sl.r_21 body_first.sl.r_22
    simp only [left_full, back_full, load_full, norms_back0, norms_back1, norms_back2,
      ← Blk.n0.eq_1, ← Blk.n1.eq_1, ← Blk.n2.eq_1, ← Blk.h0.eq_1, ← Blk.h1.eq_1, ← Blk.z.eq_1, ← Blk.s0.eq_1, ← Blk.m0.eq_1, ← Blk.c0.eq_1, ← Blk.l0.eq_1, ← Blk.q0.eq_1, ← Blk.r0.eq_1, ← Blk.s1.eq_1, ← Blk.m1.eq_1,
      ← Blk.c1.eq_1, ← Blk.l1.eq_1, ← Blk.q1.eq_1, ← Blk.s2.eq_1, ← Blk.m2.eq_1, ← Blk.c2.eq_1, ← Blk.l2.eq_1, ← Blk.g0.eq_1, ← Blk.g1.eq_1, ← Blk.out.eq_1, ← Blk.loss.eq_1]

set_option maxHeartbeats 4000000 in
/-- A later point: the norms are read back, the loss is added to. -/
theorem body_later (a : Blk F) (hi : ¬ First i) (prev : Vec F S1x1 .f32) (s : Vec F S8x512 .f32) (hs : a.Norms s) (E : Set ℕ) (K : PUnit → sProp 𝕄) :
    iprop(Ins c arg1 arg2 arg3 arg4 arg5 arg6 arg7 arg8 arg9 arg10 arg11 arg12 arg13 arg14 arg15 arg16 arg17 arg18 arg19 arg20 arg21 arg22 arg23 arg24 arg25 arg26 a ∗ (∃ d, owns (c : Thread nD τ) arg27 fullShare d) ∗ owns (c : Thread nD τ) arg28 fullShare prev ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ owns (c : Thread nD τ) arg34 fullShare s ∗ (Left c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 a prev -∗ K ⟨⟩))
      ⊢ wp frame (wpE (defs₀ (F := F)) Variants.none c none) E (cc0__rqvae_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
  simp only [cc0__rqvae_kernel_eq_skeleton]; unfold cc0__rqvae_kernel_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold Left Ins
  simp only [owns_whole_unread harg1, owns_whole_unread harg2, owns_whole_unread harg3, owns_whole_unread harg4, owns_whole_unread harg5, owns_whole_unread harg6, owns_whole_unread harg7, owns_whole_unread harg8, owns_whole_unread harg9, owns_whole_unread harg10, owns_whole_unread harg11, owns_whole_unread harg12, owns_whole_unread harg13, owns_whole_unread harg14, owns_whole_unread harg15, owns_whole_unread harg16, owns_whole_unread harg17, owns_whole_unread harg18, owns_whole_unread harg19, owns_whole_unread harg20, owns_whole_unread harg21, owns_whole_unread harg22, owns_whole_unread harg23, owns_whole_unread harg24, owns_whole_unread harg25, owns_whole_unread harg26]
  unfold owns
  iintro ⟨⟨H0, H1, H2, H3, H4, H5, H6, H7, H8, H9, H10, H11, H12, H13, H14, H15, H16, H17, H18, H19, H20, H21, H22, H23, H24, H25⟩, ⟨%d26, %f26, -, H26⟩, ⟨%f27, %hf27, H27⟩, ⟨%d28, %f28, -, H28⟩, ⟨%d29, %f29, -, H29⟩, ⟨%d30, %f30, -, H30⟩, ⟨%ds0, %fs0, -, HS0⟩, ⟨%ds1, %fs1, -, HS1⟩, ⟨%fs2, %hfs2, HS2⟩, Hk⟩
  obtain rfl := harg28.eq_unread hf27; obtain rfl := harg34.eq_unread hfs2
  sl_exec (disch := sl_exact hi)
  sl_step
  iapply Hk
  isplitl [H0 H1 H2 H3 H4 H5 H6 H7 H8 H9 H10 H11 H12 H13 H14 H15 H16 H17 H18 H19 H20 H21 H22 H23 H24 H25]
  · iframe H0 H1 H2 H3 H4 H5 H6 H7 H8 H9 H10 H11 H12 H13 H14 H15 H16 H17 H18 H19 H20 H21 H22 H23 H24
    iexact H25
  isplitl [H26]
  iexists _; isplitr
  rotate_left; iexact H26
  isplitl [H27]
  iexists _; isplitr
  rotate_left; iexact H27
  isplitl [H28]
  iexists _; isplitr
  rotate_left; iexact H28
  isplitl [H29]
  iexists _; isplitr
  rotate_left; iexact H29
  isplitl [H30]
  iexists _; isplitr
  rotate_left; iexact H30
  isplitl [HS0]
  · iexists _; iexists _; isplitr
    swap; iexact HS0
    ipureintro; rfl
  isplitl [HS1]
  · iexists _; iexists _; isplitr
    swap; iexact HS1
    ipureintro; rfl
  · iexists _; isplitr
    swap
    · iexists _; isplitr
      swap; iexact HS2
      ipureintro; rfl
    ipureintro
    rw [harg34.read_unread]; exact hs
  all_goals
    ipureintro
    repeat delta body_later.sl.v319 body_later.sl.HS0_2 body_later.sl.v281 body_later.sl.HS1_2 body_later.sl.HS1_1 body_later.sl.v41 body_later.sl.HS0_1 body_later.sl.v body_later.sl.v0 body_later.sl.v1 body_later.sl.v2 body_later.sl.r body_later.sl.r_1 body_later.sl.r_2 body_later.sl.r_3 body_later.sl.r_4 body_later.sl.r_5 body_later.sl.r_6 body_later.sl.r_7 body_later.sl.r_8 body_later.sl.r_9 body_later.sl.r_10 body_later.sl.r_11 body_later.sl.r_12 body_later.sl.r_13 body_later.sl.r_14 body_later.sl.r_15 body_later.sl.r_16 body_later.sl.r_17 body_later.sl.r_18 body_later.sl.r_19 body_later.sl.r_20 body_later.sl.r_21 body_later.sl.r_22 body_later.sl.r_23 body_later.sl.r_24
    simp only [left_full, back_full, load_full, norms_back0, norms_back1, norms_back2, norms_load0 hs harg34, norms_load1 hs harg34, norms_load2 hs harg34,
      ← Blk.n0.eq_1, ← Blk.n1.eq_1, ← Blk.n2.eq_1, ← Blk.h0.eq_1, ← Blk.h1.eq_1, ← Blk.z.eq_1, ← Blk.s0.eq_1, ← Blk.m0.eq_1, ← Blk.c0.eq_1, ← Blk.l0.eq_1, ← Blk.q0.eq_1, ← Blk.r0.eq_1, ← Blk.s1.eq_1, ← Blk.m1.eq_1,
      ← Blk.c1.eq_1, ← Blk.l1.eq_1, ← Blk.q1.eq_1, ← Blk.s2.eq_1, ← Blk.m2.eq_1, ← Blk.c2.eq_1, ← Blk.l2.eq_1, ← Blk.g0.eq_1, ← Blk.g1.eq_1, ← Blk.out.eq_1, ← Blk.loss.eq_1]

end

end Cert.KernelIdeal.Hand

end
-- ==== Proof.Run.lean ====
/- The pipeline's proof data, its invariant, and the run of the whole program from the body's two triples. -/
module

public import proofs.«01_k».proof.Proof.Body
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays grid point `t` sees. -/
def blkAt (c : Dev nD) (t : Fin cfg0.N) : Blk F where
  x := iblk m c 0 t
  eW0 := iblk m c 1 t
  eb0 := iblk m c 2 t
  eg0 := iblk m c 3 t
  et0 := iblk m c 4 t
  eW1 := iblk m c 5 t
  eb1 := iblk m c 6 t
  eg1 := iblk m c 7 t
  et1 := iblk m c 8 t
  eW2 := iblk m c 9 t
  eb2 := iblk m c 10 t
  eg2 := iblk m c 11 t
  et2 := iblk m c 12 t
  dW0 := iblk m c 13 t
  db0 := iblk m c 14 t
  dW1 := iblk m c 15 t
  db1 := iblk m c 16 t
  dW2 := iblk m c 17 t
  db2 := iblk m c 18 t
  dg0 := iblk m c 19 t
  dt0 := iblk m c 20 t
  dg1 := iblk m c 21 t
  dt1 := iblk m c 22 t
  cb0 := iblk m c 23 t
  cb1 := iblk m c 24 t
  cb2 := iblk m c 25 t

/-- The loss before a point: nought at the first, afterwards what the points before have added up. -/
def lossTo (c : Dev nD) : (n : ℕ) → n ≤ cfg0.N → Vec F S1x1 .f32
  | 0, _ => k0_pay40
  | n + 1, h => (blkAt m c ⟨n, h⟩).loss (lossTo c n (Nat.le_of_succ_le h))

/-- The three scratch buffers whole. -/
abbrev sc0 : Memref sig .tc .vmem S2048x768 .f32 := Memref.whole cc0_scratch0
abbrev sc1 : Memref sig .tc .vmem S2048x512 .f32 := Memref.whole cc0_scratch1
abbrev sc2 : Memref sig .tc .vmem S8x512 .f32 := Memref.whole cc0_scratch2

/-- The invariant: before the first point the scratch is at anything; afterwards the third buffer holds the codebook norms. -/
def Inv (c : Dev nD) : (n : ℕ) → n ≤ cfg0.N → sProp 𝕄
  | 0, _ => Pipeline.ΦA spec0 c
  | n + 1, h => iprop(iprop((∃ d, owns (c : Thread nD τ) sc0 fullShare d) ∗ (∃ d, owns (c : Thread nD τ) sc1 fullShare d)
      ∗ (∃ s, ⌜(blkAt m c ⟨n, h⟩).Norms s⌝ ∗ owns (c : Thread nD τ) sc2 fullShare s)) ∗ (∃ r, prngReg c r))

theorem inv_pos (c : Dev nD) (n : ℕ) (h : n ≤ cfg0.N) (hz : n ≠ 0) :
    Inv m c n h = iprop(iprop((∃ d, owns (c : Thread nD τ) sc0 fullShare d) ∗ (∃ d, owns (c : Thread nD τ) sc1 fullShare d)
      ∗ (∃ s, ⌜(blkAt m c ⟨n - 1, by omega⟩).Norms s⌝ ∗ owns (c : Thread nD τ) sc2 fullShare s)) ∗ (∃ r, prngReg c r)) := by
  cases n with
  | zero => exact absurd rfl hz
  | succ n => rfl

/-- What the launch hands over, buffer by buffer. -/
theorem start_eq (c : Dev nD) : (Pipeline.ΦA spec0 c : sProp 𝕄)
    = iprop(iprop((∃ d, owns (c : Thread nD τ) sc0 fullShare d) ∗ (∃ d, owns (c : Thread nD τ) sc1 fullShare d)
      ∗ (∃ d, owns (c : Thread nD τ) sc2 fullShare d)) ∗ (∃ r, prngReg c r)) := by
  unfold Pipeline.ΦA; rw [scopedRest0_eq]; simp only [sc0, sc1, sc2, owns_whole]; rfl

/-- The proof data: each input's buffer keeps its block, each result's holds the block's result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => (blkAt m c t).out
    | ⟨27, _⟩ => lossTo m c (t.val + 1) t.isLt
    | ⟨28, _⟩ => (blkAt m c t).c0
    | ⟨29, _⟩ => (blkAt m c t).c1
    | ⟨30, _⟩ => (blkAt m c t).c2
    | ⟨_ + 31, h⟩ => absurd h (Nat.not_lt.2 (Nat.le_add_left _ _))
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = Inv m c t.val (Nat.le_of_lt t.isLt) := by
  dsimp only [dats]; exact Pipeline.Dat.Φ_castSucc (Inv m c) t

/-- What the body leaves in each window's buffer. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = iblk m c 24 t := by dsimp only [dats]
theorem after_25 (c : Dev nD) (t : Fin cfg0.N) : (dats m 0 c).after 25 t = iblk m c 25 t := by dsimp only [dats]
theorem after_26 (c : Dev nD) (t : Fin cfg0.N) : (dats m 0 c).after 26 t = (blkAt m c t).out := by dsimp only [dats]
theorem after_27 (c : Dev nD) (t : Fin cfg0.N) : (dats m 0 c).after 27 t = lossTo m c (t.val + 1) t.isLt := by dsimp only [dats]
theorem after_28 (c : Dev nD) (t : Fin cfg0.N) : (dats m 0 c).after 28 t = (blkAt m c t).c0 := by dsimp only [dats]
theorem after_29 (c : Dev nD) (t : Fin cfg0.N) : (dats m 0 c).after 29 t = (blkAt m c t).c1 := by dsimp only [dats]
theorem after_30 (c : Dev nD) (t : Fin cfg0.N) : (dats m 0 c).after 30 t = (blkAt m c t).c2 := by dsimp only [dats]

/-- What the body finds in each input's buffer. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d
theorem before_19 (c : Dev nD) (t : Fin cfg0.N) (d) : (dats m 0 c).before 19 t d = iblk m c 19 t :=
  before0_19_of m (dats m 0 c) (A_eq m c 19) (after_19 m c) t d
theorem before_20 (c : Dev nD) (t : Fin cfg0.N) (d) : (dats m 0 c).before 20 t d = iblk m c 20 t :=
  before0_20_of m (dats m 0 c) (A_eq m c 20) (after_20 m c) t d
theorem before_21 (c : Dev nD) (t : Fin cfg0.N) (d) : (dats m 0 c).before 21 t d = iblk m c 21 t :=
  before0_21_of m (dats m 0 c) (A_eq m c 21) (after_21 m c) t d
theorem before_22 (c : Dev nD) (t : Fin cfg0.N) (d) : (dats m 0 c).before 22 t d = iblk m c 22 t :=
  before0_22_of m (dats m 0 c) (A_eq m c 22) (after_22 m c) t d
theorem before_23 (c : Dev nD) (t : Fin cfg0.N) (d) : (dats m 0 c).before 23 t d = iblk m c 23 t :=
  before0_23_of m (dats m 0 c) (A_eq m c 23) (after_23 m c) t d
theorem before_24 (c : Dev nD) (t : Fin cfg0.N) (d) : (dats m 0 c).before 24 t d = iblk m c 24 t :=
  before0_24_of m (dats m 0 c) (A_eq m c 24) (after_24 m c) t d
theorem before_25 (c : Dev nD) (t : Fin cfg0.N) (d) : (dats m 0 c).before 25 t d = iblk m c 25 t :=
  before0_25_of m (dats m 0 c) (A_eq m c 25) (after_25 m c) t d

/-- After the first point the loss's buffer holds what the points before have added up. -/
theorem before_27 (c : Dev nD) (t : Fin cfg0.N) (h0 : t.val ≠ 0) (d) :
    (dats m 0 c).before 27 t d = lossTo m c t.val (Nat.le_of_lt t.isLt) := by
  have hN : t.val < 8 := lt_of_lt_of_eq t.isLt (show cfg0.N = 8 from N_0)
  rw [Dat.before_out_kept _ 27 rfl t (by omega) (Bool.eq_false_iff.mpr fun h => by
    have := (flush0_27 _).mp h; dsimp only at this; omega) (fun _ => rfl) (fun _ _ => rfl)]
  dsimp only [dats]
  obtain ⟨n, hn⟩ := t
  cases n with
  | zero => exact absurd rfl h0
  | succ n => rfl

def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d)) ∗ (∃ d, owns (c : Thread nD τ) (win0_13.stage (cfg0.slots t 13)) fullShare ((dats m 0 c).before 13 t d)) ∗ (∃ d, owns (c : Thread nD τ) (win0_14.stage (cfg0.slots t 14)) fullShare ((dats m 0 c).before 14 t d)) ∗ (∃ d, owns (c : Thread nD τ) (win0_15.stage (cfg0.slots t 15)) fullShare ((dats m 0 c).before 15 t d)) ∗ (∃ d, owns (c : Thread nD τ) (win0_16.stage (cfg0.slots t 16)) fullShare ((dats m 0 c).before 16 t d)) ∗ (∃ d, owns (c : Thread nD τ) (win0_17.stage (cfg0.slots t 17)) fullShare ((dats m 0 c).before 17 t d)) ∗ (∃ d, owns (c : Thread nD τ) (win0_18.stage (cfg0.slots t 18)) fullShare ((dats m 0 c).before 18 t d)) ∗ (∃ d, owns (c : Thread nD τ) (win0_19.stage (cfg0.slots t 19)) fullShare ((dats m 0 c).before 19 t d)) ∗ (∃ d, owns (c : Thread nD τ) (win0_20.stage (cfg0.slots t 20)) fullShare ((dats m 0 c).before 20 t d)) ∗ (∃ d, owns (c : Thread nD τ) (win0_21.stage (cfg0.slots t 21)) fullShare ((dats m 0 c).before 21 t d)) ∗ (∃ d, owns (c : Thread nD τ) (win0_22.stage (cfg0.slots t 22)) fullShare ((dats m 0 c).before 22 t d)) ∗ (∃ d, owns (c : Thread nD τ) (win0_23.stage (cfg0.slots t 23)) fullShare ((dats m 0 c).before 23 t d)) ∗ (∃ d, owns (c : Thread nD τ) (win0_24.stage (cfg0.slots t 24)) fullShare ((dats m 0 c).before 24 t d)) ∗ (∃ d, owns (c : Thread nD τ) (win0_25.stage (cfg0.slots t 25)) fullShare ((dats m 0 c).before 25 t d)) ∗ (∃ d, owns (c : Thread nD τ) (win0_26.stage (cfg0.slots t 26)) fullShare ((dats m 0 c).before 26 t d)) ∗ (∃ d, owns (c : Thread nD τ) (win0_27.stage (cfg0.slots t 27)) fullShare ((dats m 0 c).before 27 t d)) ∗ (∃ d, owns (c : Thread nD τ) (win0_28.stage (cfg0.slots t 28)) fullShare ((dats m 0 c).before 28 t d)) ∗ (∃ d, owns (c : Thread nD τ) (win0_29.stage (cfg0.slots t 29)) fullShare ((dats m 0 c).before 29 t d)) ∗ (∃ d, owns (c : Thread nD τ) (win0_30.stage (cfg0.slots t 30)) fullShare ((dats m 0 c).before 30 t d)))

def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ owns (c : Thread nD τ) (win0_11.stage (cfg0.slots t 11)) fullShare ((dats m 0 c).after 11 t) ∗ owns (c : Thread nD τ) (win0_12.stage (cfg0.slots t 12)) fullShare ((dats m 0 c).after 12 t) ∗ owns (c : Thread nD τ) (win0_13.stage (cfg0.slots t 13)) fullShare ((dats m 0 c).after 13 t) ∗ owns (c : Thread nD τ) (win0_14.stage (cfg0.slots t 14)) fullShare ((dats m 0 c).after 14 t) ∗ owns (c : Thread nD τ) (win0_15.stage (cfg0.slots t 15)) fullShare ((dats m 0 c).after 15 t) ∗ owns (c : Thread nD τ) (win0_16.stage (cfg0.slots t 16)) fullShare ((dats m 0 c).after 16 t) ∗ owns (c : Thread nD τ) (win0_17.stage (cfg0.slots t 17)) fullShare ((dats m 0 c).after 17 t) ∗ owns (c : Thread nD τ) (win0_18.stage (cfg0.slots t 18)) fullShare ((dats m 0 c).after 18 t) ∗ owns (c : Thread nD τ) (win0_19.stage (cfg0.slots t 19)) fullShare ((dats m 0 c).after 19 t) ∗ owns (c : Thread nD τ) (win0_20.stage (cfg0.slots t 20)) fullShare ((dats m 0 c).after 20 t) ∗ owns (c : Thread nD τ) (win0_21.stage (cfg0.slots t 21)) fullShare ((dats m 0 c).after 21 t) ∗ owns (c : Thread nD τ) (win0_22.stage (cfg0.slots t 22)) fullShare ((dats m 0 c).after 22 t) ∗ owns (c : Thread nD τ) (win0_23.stage (cfg0.slots t 23)) fullShare ((dats m 0 c).after 23 t) ∗ owns (c : Thread nD τ) (win0_24.stage (cfg0.slots t 24)) fullShare ((dats m 0 c).after 24 t) ∗ owns (c : Thread nD τ) (win0_25.stage (cfg0.slots t 25)) fullShare ((dats m 0 c).after 25 t) ∗ owns (c : Thread nD τ) (win0_26.stage (cfg0.slots t 26)) fullShare ((dats m 0 c).after 26 t) ∗ owns (c : Thread nD τ) (win0_27.stage (cfg0.slots t 27)) fullShare ((dats m 0 c).after 27 t) ∗ owns (c : Thread nD τ) (win0_28.stage (cfg0.slots t 28)) fullShare ((dats m 0 c).after 28 t) ∗ owns (c : Thread nD τ) (win0_29.stage (cfg0.slots t 29)) fullShare ((dats m 0 c).after 29 t) ∗ owns (c : Thread nD τ) (win0_30.stage (cfg0.slots t 30)) fullShare ((dats m 0 c).after 30 t))

/-- The codebooks' windows do not move, so the norms one point leaves are the next one's. -/
theorem norms_next (c : Dev nD) (t : Fin cfg0.N) (h0 : t.val ≠ 0) {s : Vec F S8x512 .f32}
    (hs : (blkAt m c ⟨t.val - 1, by omega⟩).Norms s) : (blkAt m c t).Norms s := ⟨hs.r0, hs.r1, hs.r2⟩

set_option maxHeartbeats 4000000 in
/-- The state a point leaves is the invariant and the buffers after it. -/
theorem leave (c : Dev nD) (t : Fin cfg0.N) (p : Vec F S1x1 .f32) (hp : (blkAt m c t).loss p = lossTo m c (t.val + 1) t.isLt) :
    iprop((∃ r, prngReg c r) ∗ (dats m 0 c).owesAt () t.castSucc) ⊢ iprop(Left c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (win0_14.stage (cfg0.slots t 14)) (win0_15.stage (cfg0.slots t 15)) (win0_16.stage (cfg0.slots t 16)) (win0_17.stage (cfg0.slots t 17)) (win0_18.stage (cfg0.slots t 18)) (win0_19.stage (cfg0.slots t 19)) (win0_20.stage (cfg0.slots t 20)) (win0_21.stage (cfg0.slots t 21)) (win0_22.stage (cfg0.slots t 22)) (win0_23.stage (cfg0.slots t 23)) (win0_24.stage (cfg0.slots t 24)) (win0_25.stage (cfg0.slots t 25)) (win0_26.stage (cfg0.slots t 26)) (win0_27.stage (cfg0.slots t 27)) (win0_28.stage (cfg0.slots t 28)) (win0_29.stage (cfg0.slots t 29)) (win0_30.stage (cfg0.slots t 30)) sc0 sc1 sc2 (blkAt m c t) p -∗ bodyPost m c t) := by
  unfold bodyPost Left Ins
  rw [hp, show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, after_28, after_29, after_30]
  rw [show (dats m 0 c).Φ t.succ = Inv m c (t.val + 1) t.isLt from rfl]
  unfold Inv
  iintro ⟨Hg, Ho⟩ ⟨⟨H0, H1, H2, H3, H4, H5, H6, H7, H8, H9, H10, H11, H12, H13, H14, H15, H16, H17, H18, H19, H20, H21, H22, H23, H24, H25⟩, H26, H27, H28, H29, H30, HS0, HS1, HS2⟩
  isplitl [HS0 HS1 HS2 Hg]
  · isplitl [HS0 HS1 HS2]
    · iframe HS0 HS1
      iexact HS2
    iexact Hg
  iframe Ho H0 H1 H2 H3 H4 H5 H6 H7 H8 H9 H10 H11 H12 H13 H14 H15 H16 H17 H18 H19 H20 H21 H22 H23 H24 H25 H26 H27 H28 H29
  iexact H30

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before_0, before_1, before_2, before_3, before_4, before_5, before_6, before_7, before_8, before_9, before_10, before_11, before_12, before_13, before_14, before_15, before_16, before_17, before_18, before_19, before_20, before_21, before_22, before_23, before_24, before_25]
  by_cases h0 : t.val = 0
  · rw [inv_castSucc, show Inv m c t.val (Nat.le_of_lt t.isLt) = Pipeline.ΦA spec0 c from by
      obtain ⟨n, hn⟩ := t; dsimp only at h0; subst h0; rfl, start_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
    iapply (body_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (win0_30.stage (cfg0.slots t 30)) (hstage0_30 ((cfg0.slots t 30).cast nbuf0_30)) sc0 (Memref.isWhole_whole _) sc1 (Memref.isWhole_whole _) sc2 (Memref.isWhole_whole _) (blkAt m c t) ((first_iff t).mpr h0) Set.univ (fun _ => bodyPost m c t))
    isplitl [H0 H1 H2 H3 H4 H5 H6 H7 H8 H9 H10 H11 H12 H13 H14 H15 H16 H17 H18 H19 H20 H21 H22 H23 H24 H25]
    · unfold Ins
      iframe H0 H1 H2 H3 H4 H5 H6 H7 H8 H9 H10 H11 H12 H13 H14 H15 H16 H17 H18 H19 H20 H21 H22 H23 H24
      iexact H25
    isplitl [H26]; · iexists _; iexact H26
    isplitl [H27]; · iexists _; iexact H27
    isplitl [H28]; · iexists _; iexact H28
    isplitl [H29]; · iexists _; iexact H29
    isplitl [H30]; · iexists _; iexact H30
    isplitl [HS0]; · iexact HS0
    isplitl [HS1]; · iexact HS1
    isplitl [HS2]; · iexact HS2
    iapply (leave m c t k0_pay40 (by obtain ⟨n, hn⟩ := t; dsimp only at h0; subst h0; rfl))
    iframe Hg
    iexact Ho
  · simp only [before_27 m c t h0]
    rw [inv_castSucc, inv_pos m c _ _ h0]
    iintro ⟨⟨⟨HS0, HS1, ⟨%s, %hs, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
    iapply (body_later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (win0_30.stage (cfg0.slots t 30)) (hstage0_30 ((cfg0.slots t 30).cast nbuf0_30)) sc0 (Memref.isWhole_whole _) sc1 (Memref.isWhole_whole _) sc2 (Memref.isWhole_whole _) (blkAt m c t) (fun h => h0 ((first_iff t).mp h)) (lossTo m c t.val (Nat.le_of_lt t.isLt)) s (norms_next m c t h0 hs) Set.univ (fun _ => bodyPost m c t))
    isplitl [H0 H1 H2 H3 H4 H5 H6 H7 H8 H9 H10 H11 H12 H13 H14 H15 H16 H17 H18 H19 H20 H21 H22 H23 H24 H25]
    · unfold Ins
      iframe H0 H1 H2 H3 H4 H5 H6 H7 H8 H9 H10 H11 H12 H13 H14 H15 H16 H17 H18 H19 H20 H21 H22 H23 H24
      iexact H25
    isplitl [H26]; · iexists _; iexact H26
    isplitl [H27]; · iexact H27
    isplitl [H28]; · iexists _; iexact H28
    isplitl [H29]; · iexists _; iexact H29
    isplitl [H30]; · iexists _; iexact H30
    isplitl [HS0]; · iexact HS0
    isplitl [HS1]; · iexact HS1
    isplitl [HS2]; · iexact HS2
    iapply (leave m c t _ rfl)
    iframe Hg
    iexact Ho

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

/-- After the last point the scratch's contents are forgotten. -/
theorem hout (c : Dev nD) : (dats m 0 c).Φ (Fin.last cfg0.N) ⊢ Pipeline.ΦA spec0 c := by
  rw [show (dats m 0 c).Φ (Fin.last cfg0.N) = Inv m c cfg0.N le_rfl from rfl,
    inv_pos m c _ _ (by have : cfg0.N = 8 := N_0; omega), start_eq]
  iintro ⟨⟨HS0, HS1, ⟨%s, -, HS2⟩⟩, Hg⟩
  isplitl [HS0 HS1 HS2]
  · iframe HS0 HS1
    iexists _; iexact HS2
  iexact Hg

set_option backward.isDefEq.respectTransparency.types false in
set_option maxHeartbeats 800000 in
/-- Every run ends, with the arrays at what the proof data says and no counter raised. -/
theorem run_all : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The arguments end as they began and every counter is back at nought. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.KernelIdeal.Hand

end
-- ==== Proof.Row.lean ====
module
public import Idealize.ShloMosaic.Lib.Pointwise
public import Idealize.ShloMosaic.Lib.SortNet.Extract
@[expose] public section
set_option maxRecDepth 16384
noncomputable section

/-! The network on one row of numbers: layers, nearest codeword, and the facts about them that make no mention of a program. -/
namespace Cert.Vq
open Idealize.ShloMosaic

/-- A matmul and its bias on one row. -/
def lin {k n : Nat} (x : Fin k → EReal) (w : Fin k → Fin n → EReal) (b : Fin n → EReal) (j : Fin n) : EReal :=
  ∑ i, x i * w i j + b j

/-- The mean of a row, `N` the word of its length. -/
def mean {n : Nat} (N : BitVec 32) (y : Fin n → EReal) : EReal := Ideal.div (∑ i, y i) (Ideal.ofBits .f32 N)

/-- The mean squared distance of a row from its mean. -/
def var {n : Nat} (N : BitVec 32) (y : Fin n → EReal) : EReal :=
  Ideal.div (∑ i, (y i - mean N y) * (y i - mean N y)) (Ideal.ofBits .f32 N)

/-- Layer normalization of a row. -/
def lnr {n : Nat} (N : BitVec 32) (y g t : Fin n → EReal) (j : Fin n) : EReal :=
  Ideal.div (y j - mean N y) (Ideal.sqrt (var N y + Ideal.ofBits .f32 925353388#32)) * g j + t j

def relu {n : Nat} (y : Fin n → EReal) (j : Fin n) : EReal := max (y j) 0

/-! ### Rows of real numbers -/

/-- A row none of whose entries is infinite. -/
def Re {n : Nat} (x : Fin n → EReal) : Prop := ∃ q : Fin n → ℝ, x = fun i => (q i : EReal)

theorem re_of {n : Nat} {x : Fin n → EReal} (h : ∀ i, ∃ q : ℝ, x i = q) : Re x := by
  choose q hq using h
  exact ⟨q, funext hq⟩

theorem Re.at {n : Nat} {x : Fin n → EReal} (h : Re x) (i : Fin n) : ∃ q : ℝ, x i = q := by
  obtain ⟨q, rfl⟩ := h; exact ⟨q i, rfl⟩

theorem coe_sum {n : Nat} (q : Fin n → ℝ) : ∑ i, (q i : EReal) = ((∑ i, q i : ℝ) : EReal) := by
  induction n with
  | zero => simp
  | succ n ih => rw [Fin.sum_univ_succ, Fin.sum_univ_succ, ih, EReal.coe_add]

theorem eps_pos : ∃ e : ℝ, 0 < e ∧ Ideal.ofBits .f32 925353388#32 = (e : EReal) := by
  refine ⟨(10995116 : ℝ) / 2 ^ 40, by positivity, ?_⟩
  simp [Ideal.ofBits, Ideal.ieee]
  rw [← EReal.coe_mul]
  norm_num

/-- A square is not negative. -/
theorem sq_nonneg' (x : EReal) : 0 ≤ x * x := by
  induction x using EReal.rec with
  | bot => rw [EReal.bot_mul_bot]; exact le_top
  | top => rw [EReal.top_mul_top]; exact le_top
  | coe q => rw [← EReal.coe_mul]; exact_mod_cast mul_self_nonneg q

/-- A normalized row is real whatever the row: an infinite deviation makes the variance infinite, and the quotient nought. -/
theorem Re.lnr {n : Nat} {N : BitVec 32} {y g t : Fin n → EReal} {c : ℝ} (hc : 0 < c) (hN : Ideal.ofBits .f32 N = (c : EReal))
    (hg : Re g) (ht : Re t) : Re (lnr N y g t) := by
  obtain ⟨g, rfl⟩ := hg
  obtain ⟨t, rfl⟩ := ht
  obtain ⟨e, he, hE⟩ := eps_pos
  have hq : ∀ j, ∃ q : ℝ, Ideal.div (y j - mean N y) (Ideal.sqrt (var N y + Ideal.ofBits .f32 925353388#32)) = q := by
    intro j
    have h0 : ∀ i ∈ Finset.univ, 0 ≤ (y i - mean N y) * (y i - mean N y) := fun i _ => sq_nonneg' _
    have hj : (y j - mean N y) * (y j - mean N y) ≤ ∑ i, (y i - mean N y) * (y i - mean N y) :=
      Finset.single_le_sum h0 (Finset.mem_univ j)
    have hs := Finset.sum_nonneg h0
    rw [var, hN, hE, Ideal.div_coe hc.ne']
    generalize ∑ i, (y i - mean N y) * (y i - mean N y) = s at hj hs ⊢
    generalize y j - mean N y = d at hj ⊢
    induction s using EReal.rec with
    | bot => exact absurd hs (by simp)
    | top =>
      refine ⟨0, ?_⟩
      rw [EReal.top_mul_coe_of_pos (by positivity), EReal.top_add_coe]
      show Ideal.div d ⊤ = _
      rw [Ideal.div, if_neg EReal.top_ne_zero, EReal.inv_top, mul_zero, EReal.coe_zero]
    | coe s =>
      have hp : 0 ≤ s * (1 / c) := mul_nonneg (EReal.coe_nonneg.1 hs) (by positivity)
      induction d using EReal.rec with
      | bot => rw [EReal.bot_mul_bot] at hj; exact absurd hj (by simp)
      | top => rw [EReal.top_mul_top] at hj; exact absurd hj (by simp)
      | coe d =>
        rw [← EReal.coe_mul, ← EReal.coe_add, Ideal.sqrt_coe, if_neg (by linarith), Ideal.div_coe (Real.sqrt_pos.2 (by linarith)).ne',
          ← EReal.coe_mul]
        exact ⟨_, rfl⟩
  refine re_of fun j => ?_
  obtain ⟨q, hq⟩ := hq j
  rw [Vq.lnr, hq, ← EReal.coe_mul, ← EReal.coe_add]
  exact ⟨_, rfl⟩

theorem n768 : Ideal.ofBits .f32 1145044992#32 = ((768 : ℝ) : EReal) := by
  simp [Ideal.ofBits, Ideal.ieee]
  rw [← EReal.coe_mul]
  norm_num
theorem n512 : Ideal.ofBits .f32 1140850688#32 = ((512 : ℝ) : EReal) := by
  simp [Ideal.ofBits, Ideal.ieee]
  rw [← EReal.coe_mul]
  norm_num
theorem n256 : Ideal.ofBits .f32 1132462080#32 = ((256 : ℝ) : EReal) := by
  simp [Ideal.ofBits, Ideal.ieee]
  rw [← EReal.coe_mul]
  norm_num
theorem two : Ideal.ofBits .f32 1073741824#32 = ((2 : ℝ) : EReal) := by
  simp [Ideal.ofBits, Ideal.ieee]
  rw [← EReal.coe_mul]
  norm_num
theorem half : Ideal.ofBits .f32 1056964608#32 = ((1 / 2 : ℝ) : EReal) := by
  simp [Ideal.ofBits, Ideal.ieee]
  rw [← EReal.coe_mul]
  norm_num
theorem count : Ideal.ofBits .f32 1249902592#32 = ((4194304 : ℝ) : EReal) := by
  simp [Ideal.ofBits, Ideal.ieee]
  rw [← EReal.coe_mul]
  norm_num
theorem scale : Ideal.ofBits .f32 872415232#32 = ((1 / 8388608 : ℝ) : EReal) := by
  simp [Ideal.ofBits, Ideal.ieee]
  rw [← EReal.coe_mul]
  norm_num
theorem top : Ideal.ofBits .f32 2139095040#32 = ⊤ := by
  simp [Ideal.ofBits, Ideal.ieee]

/-! ### The first smallest entry of a row -/

theorem exists_near {n : Nat} [NeZero n] (d : Fin n → EReal) : ∃ k, (∀ l, d k ≤ d l) ∧ ∀ l, l < k → d k < d l := by
  obtain ⟨a, -, ha⟩ := Finset.exists_min_image Finset.univ d ⟨0, Finset.mem_univ _⟩
  obtain ⟨k, hk, hm⟩ := Finset.exists_min_image (Finset.univ.filter fun l => d l = d a) id ⟨a, by simp⟩
  have hka : d k = d a := (Finset.mem_filter.1 hk).2
  refine ⟨k, fun l => hka ▸ ha l (Finset.mem_univ _), fun l hl => lt_of_le_of_ne (hka ▸ ha l (Finset.mem_univ _)) fun e => ?_⟩
  exact absurd (hm l (by simp [← e, hka])) (not_le.2 hl)

def near {n : Nat} [NeZero n] (d : Fin n → EReal) : Fin n := (exists_near d).choose
theorem near_le {n : Nat} [NeZero n] (d : Fin n → EReal) (l : Fin n) : d (near d) ≤ d l := (exists_near d).choose_spec.1 l
theorem near_lt {n : Nat} [NeZero n] (d : Fin n → EReal) (l : Fin n) (h : l < near d) : d (near d) < d l :=
  (exists_near d).choose_spec.2 l h

theorem fold_min {n : Nat} [NeZero n] (d : Fin n → EReal) :
    Finset.fold min (Ideal.ofBits .f32 2139095040#32) d Finset.univ = d (near d) := by
  rw [top]
  refine le_antisymm ?_ ?_
  · exact (Finset.fold_min_le _).2 (Or.inr ⟨near d, Finset.mem_univ _, le_rfl⟩)
  · exact (Finset.le_fold_min _).2 ⟨le_top, fun l _ => near_le d l⟩

theorem toInt_small (k : Nat) (h : k ≤ 512) : (BitVec.ofNat 32 k).toInt = k := by
  rw [BitVec.toInt_eq_toNat_of_lt (by rw [BitVec.toNat_ofNat]; omega), BitVec.toNat_ofNat]
  omega

/-- The smallest of the places that hold the minimum. -/
theorem fold_code {n : Nat} [NeZero n] (hn : n ≤ 512) (N : BitVec 32) (hN : N.toInt = n) (d : Fin n → EReal) :
    Finset.fold IntOp.minsi (2147483647#32) (fun x => if d x ≤ d (near d) then BitVec.ofNat 32 x.val else N) Finset.univ
      = BitVec.ofNat 32 (near d).val := by
  apply BitVec.toInt_inj.1
  have key := Finset.fold_hom (op := IntOp.minsi (w := 32)) (op' := min) (b := 2147483647#32)
    (f := fun x : Fin n => if d x ≤ d (near d) then BitVec.ofNat 32 x.val else N) (s := Finset.univ)
    (m := BitVec.toInt) (fun x y => SortNet.toInt_minsi x y)
  rw [← key, toInt_small (near d).val (by omega)]
  refine le_antisymm ?_ ?_
  · refine (Finset.fold_min_le _).2 (Or.inr ⟨near d, Finset.mem_univ _, ?_⟩)
    rw [if_pos le_rfl, toInt_small (near d).val (by omega)]
  · refine (Finset.le_fold_min _).2 ⟨?_, fun l _ => ?_⟩
    · rw [show (2147483647#32).toInt = 2147483647 from by decide]; omega
    · by_cases h : d l ≤ d (near d)
      · rw [if_pos h, toInt_small l.val (by omega)]
        have : ¬ l < near d := fun hl => absurd (near_lt d l hl) (not_lt.2 h)
        have : (near d).val ≤ l.val := not_lt.1 this
        omega
      · rw [if_neg h, hN]; omega

/-- A left fold of a choice between two ends at the entry that wins against all. -/
theorem foldl_pick {α : Type} (f : α → α → α) (c : α) (hs : ∀ p q, f p q = p ∨ f p q = q) :
    ∀ (L : List α) (a : α), (∀ q ∈ L, f c q = c) → (∀ p, p = a ∨ p ∈ L → f p c = c) → (a = c ∨ c ∈ L) → L.foldl f a = c
  | [], a, _, _, h => by rcases h with h | h; exact h; exact absurd h List.not_mem_nil
  | q :: L, a, hl, hr, h => by
    rw [List.foldl_cons]
    refine foldl_pick f c hs L (f a q) (fun q' h' => hl q' (List.mem_cons_of_mem _ h')) (fun p hp => ?_) ?_
    · rcases hp with rfl | hp
      · rcases hs a q with e | e <;> rw [e]
        · exact hr a (Or.inl rfl)
        · exact hr q (Or.inr List.mem_cons_self)
      · exact hr p (Or.inr (List.mem_cons_of_mem _ hp))
    · rcases h with rfl | h
      · exact Or.inl (hl q List.mem_cons_self)
      · rcases List.mem_cons.1 h with rfl | h
        · exact Or.inl (hr a (Or.inl rfl))
        · exact Or.inr h

/-! ### Codewords by one-hot rows -/

def hot (a b : BitVec 32) : EReal := FloatOps.sitofp (F := Ideal) .f32 (BitVec.setWidth 32 (IntOp.cmpi .eq a b))

theorem hot_ofNat {a b : Nat} (ha : a < 512) (hb : b < 512) :
    hot (BitVec.ofNat 32 a) (BitVec.ofNat 32 b) = if a = b then 1 else 0 := by
  have e : BitVec.ofNat 32 a = BitVec.ofNat 32 b ↔ a = b := by
    constructor
    · intro h
      have := congrArg BitVec.toNat h
      simpa [BitVec.toNat_ofNat, Nat.mod_eq_of_lt (show a < 4294967296 by omega), Nat.mod_eq_of_lt (show b < 4294967296 by omega)] using this
    · rintro rfl; rfl
  by_cases h : a = b
  · subst h
    simp [hot, IntOp.cmpi, FloatOps.sitofp, FloatOps.scalar]
  · rw [if_neg h]
    have : (BitVec.ofNat 32 a == BitVec.ofNat 32 b) = false := beq_eq_false_iff_ne.2 fun h' => h (e.1 h')
    simp [hot, IntOp.cmpi, FloatOps.sitofp, FloatOps.scalar, this]

theorem sum_hot {n : Nat} (hn : n ≤ 512) (k : Fin n) (c : Fin n → EReal) :
    ∑ x, hot (BitVec.ofNat 32 x.val) (BitVec.ofNat 32 k.val) * c x = c k := by
  rw [Finset.sum_eq_single k]
  · rw [hot_ofNat (by omega) (by omega), if_pos rfl, one_mul]
  · intro x _ hx
    rw [hot_ofNat (by omega) (by omega), if_neg (fun e => hx (Fin.ext e)), zero_mul]
  · intro h; exact absurd (Finset.mem_univ _) h

/-- The three parts of the codebook, picked out and added, are the codeword. -/
theorem pick {n : Nat} (hn : n ≤ 512) (k : Fin n) (c : Fin n → EReal) (hc : Re c) :
    ∑ x, hot (BitVec.ofNat 32 x.val) (BitVec.ofNat 32 k.val) * c x
      + ∑ x, hot (BitVec.ofNat 32 x.val) (BitVec.ofNat 32 k.val) * (c x - c x)
      + ∑ x, hot (BitVec.ofNat 32 x.val) (BitVec.ofNat 32 k.val) * (c x - c x - (c x - c x)) = c k := by
  rw [sum_hot hn k c, sum_hot hn k (fun x => c x - c x), sum_hot hn k (fun x => c x - c x - (c x - c x))]
  obtain ⟨q, hq⟩ := hc.at k
  simp only [hq, ← EReal.coe_sub, ← EReal.coe_add]
  norm_num

/-! ### Distances -/

/-- The squared distance of a row to each codeword, as the squares' sums less twice the product. -/
def dist {n m : Nat} (r : Fin m → EReal) (c : Fin n → Fin m → EReal) (k : Fin n) : EReal :=
  ∑ j, r j * r j + ∑ j, c k j * c k j - ∑ j, Ideal.ofBits .f32 1073741824#32 * r j * c k j

theorem dist_kernel {n m : Nat} {r : Fin m → EReal} {c : Fin n → Fin m → EReal} (hr : Re r) (hc : ∀ k, Re (c k)) (k : Fin n) :
    ∑ j, r j * r j + ∑ j, c k j * c k j - Ideal.ofBits .f32 1073741824#32 * ∑ j, r j * c k j = dist r c k := by
  obtain ⟨r, rfl⟩ := hr
  obtain ⟨q, hq⟩ := hc k
  simp only [dist, hq, two, ← EReal.coe_mul, coe_sum]
  rw [Finset.mul_sum]
  simp only [mul_assoc]

theorem dist_sq {n m : Nat} {r : Fin m → EReal} {c : Fin n → Fin m → EReal} (hr : Re r) (hc : ∀ k, Re (c k)) (k : Fin n) :
    dist r c k = ∑ j, (c k j - r j) * (c k j - r j) := by
  obtain ⟨r, rfl⟩ := hr
  obtain ⟨q, hq⟩ := hc k
  simp only [dist, hq, two, ← EReal.coe_mul, coe_sum, ← EReal.coe_sub, ← EReal.coe_add]
  rw [← Finset.sum_add_distrib, ← Finset.sum_sub_distrib]
  exact congrArg _ (Finset.sum_congr rfl fun j _ => by ring)

theorem through {a b : EReal} (ha : ∃ q : ℝ, a = q) (hb : ∃ q : ℝ, b = q) : a + (b - a) = b := by
  obtain ⟨a, rfl⟩ := ha
  obtain ⟨b, rfl⟩ := hb
  rw [← EReal.coe_sub, ← EReal.coe_add]
  congr 1; ring

/-! ### The whole network on one row -/

structure Wts where
  eW0 : Fin 768 → Fin 768 → EReal
  eb0 : Fin 768 → EReal
  eg0 : Fin 768 → EReal
  et0 : Fin 768 → EReal
  eW1 : Fin 768 → Fin 512 → EReal
  eb1 : Fin 512 → EReal
  eg1 : Fin 512 → EReal
  et1 : Fin 512 → EReal
  eW2 : Fin 512 → Fin 256 → EReal
  eb2 : Fin 256 → EReal
  eg2 : Fin 256 → EReal
  et2 : Fin 256 → EReal
  dW0 : Fin 256 → Fin 512 → EReal
  db0 : Fin 512 → EReal
  dg0 : Fin 512 → EReal
  dt0 : Fin 512 → EReal
  dW1 : Fin 512 → Fin 768 → EReal
  db1 : Fin 768 → EReal
  dg1 : Fin 768 → EReal
  dt1 : Fin 768 → EReal
  dW2 : Fin 768 → Fin 768 → EReal
  db2 : Fin 768 → EReal
  c0 : Fin 8 → Fin 256 → EReal
  c1 : Fin 64 → Fin 256 → EReal
  c2 : Fin 512 → Fin 256 → EReal

namespace Wts
variable (p : Wts) (x : Fin 768 → EReal)

def h0 : Fin 768 → EReal := relu (lnr 1145044992#32 (lin x p.eW0 p.eb0) p.eg0 p.et0)
def h1 : Fin 512 → EReal := relu (lnr 1140850688#32 (lin (p.h0 x) p.eW1 p.eb1) p.eg1 p.et1)
def z : Fin 256 → EReal := lnr 1132462080#32 (lin (p.h1 x) p.eW2 p.eb2) p.eg2 p.et2
def k0 : Fin 8 := near (dist (p.z x) p.c0)
def t0 : Fin 256 → EReal := p.c0 (p.k0 x)
def r0 (j : Fin 256) : EReal := p.z x j - p.t0 x j
def k1 : Fin 64 := near (dist (p.r0 x) p.c1)
def t1 : Fin 256 → EReal := p.c1 (p.k1 x)
def r1 (j : Fin 256) : EReal := p.r0 x j - p.t1 x j
def k2 : Fin 512 := near (dist (p.r1 x) p.c2)
def t2 : Fin 256 → EReal := p.c2 (p.k2 x)
def q (j : Fin 256) : EReal := p.t0 x j + p.t1 x j + p.t2 x j
def g0 : Fin 512 → EReal := relu (lnr 1140850688#32 (lin (p.q x) p.dW0 p.db0) p.dg0 p.dt0)
def g1 : Fin 768 → EReal := relu (lnr 1145044992#32 (lin (p.g0 x) p.dW1 p.db1) p.dg1 p.dt1)
def out : Fin 768 → EReal := lin (p.g1 x) p.dW2 p.db2

/-- The last normalization's scale and shift and the codebooks are real numbers. -/
structure Fin' : Prop where
  eg2 : Re p.eg2
  et2 : Re p.et2
  c0 : ∀ i, Re (p.c0 i)
  c1 : ∀ i, Re (p.c1 i)
  c2 : ∀ i, Re (p.c2 i)

variable {p x}

theorem re_z (f : p.Fin') : Re (p.z x) := Re.lnr (by norm_num) n256 f.eg2 f.et2

theorem re_sub {n : Nat} {a b : Fin n → EReal} (ha : Re a) (hb : Re b) : Re fun j => a j - b j := by
  obtain ⟨a, rfl⟩ := ha
  obtain ⟨b, rfl⟩ := hb
  exact ⟨fun j => a j - b j, funext fun j => (EReal.coe_sub _ _).symm⟩

theorem re_r0 (f : p.Fin') : Re (p.r0 x) := re_sub (re_z f) (f.c0 _)
theorem re_r1 (f : p.Fin') : Re (p.r1 x) := re_sub (re_r0 f) (f.c1 _)

end Wts
end Cert.Vq
end
-- ==== Proof.KernelVal.lean ====
module
public import proofs.«01_k».proof.Proof.Blk
public import proofs.«01_k».proof.Proof.Row
@[expose] public section
set_option maxRecDepth 16384
noncomputable section

/-! What the kernel computes from one block, row by row, over the extended reals. -/
namespace Cert.KernelIdeal.Hand
open Idealize.ShloMosaic Idealize.ShloMosaic.TcCoe Idealize.SL.Sem
open Cert.KernelIdeal Cert.KernelIdeal.Gen Cert.Vq
set_option maxHeartbeats 4000000

namespace Blk

/-- The block's weights as functions of their places. -/
def wts (b : Blk Ideal) : Wts where
  eW0 i j := b.eW0 (ix2 i j)
  eb0 j := b.eb0 (ix1 j)
  eg0 j := b.eg0 (ix1 j)
  et0 j := b.et0 (ix1 j)
  eW1 i j := b.eW1 (ix2 i j)
  eb1 j := b.eb1 (ix1 j)
  eg1 j := b.eg1 (ix1 j)
  et1 j := b.et1 (ix1 j)
  eW2 i j := b.eW2 (ix2 i j)
  eb2 j := b.eb2 (ix1 j)
  eg2 j := b.eg2 (ix1 j)
  et2 j := b.et2 (ix1 j)
  dW0 i j := b.dW0 (ix2 i j)
  db0 j := b.db0 (ix1 j)
  dg0 j := b.dg0 (ix1 j)
  dt0 j := b.dt0 (ix1 j)
  dW1 i j := b.dW1 (ix2 i j)
  db1 j := b.db1 (ix1 j)
  dg1 j := b.dg1 (ix1 j)
  dt1 j := b.dt1 (ix1 j)
  dW2 i j := b.dW2 (ix2 i j)
  db2 j := b.db2 (ix1 j)
  c0 i j := b.cb0 (ix2 i j)
  c1 i j := b.cb1 (ix2 i j)
  c2 i j := b.cb2 (ix2 i j)

/-- A row of the block. -/
def row (b : Blk Ideal) (r : Fin 2048) (j : Fin 768) : EReal := b.x (ix2 r j)

variable {b : Blk Ideal} {r : Fin 2048}

theorem h0_row (j : Fin 768) : b.h0 (ix2 r j) = b.wts.h0 (b.row r) j := by
  pointwise [h0, k0_pay6, k0_pay5]
  rfl

theorem h1_row (j : Fin 512) : b.h1 (ix2 r j) = b.wts.h1 (b.row r) j := by
  pointwise [h1, k0_pay7]
  simp only [h0_row]
  rfl

theorem z_row (j : Fin 256) : b.z (ix2 r j) = b.wts.z (b.row r) j := by
  pointwise [z, k0_pay8]
  simp only [h1_row]
  rfl

section
variable (f : b.wts.Fin')
include f

/-! ### First codebook -/

theorem d0_row (k : Fin 8) : k0_pay12 b.s0 b.m0 (ix2 r k) = dist (b.wts.z (b.row r)) b.wts.c0 k := by
  pointwise [k0_pay12, m0, k0_pay11, n0, k0_pay2, s0, k0_pay10]
  have hz : ∀ j, k0_pay8 b.h1 b.eW2 b.eb2 b.eg2 b.et2 (ix2 r j) = b.wts.z (b.row r) j := z_row
  simp only [hz]
  exact dist_kernel (Wts.re_z f) f.c0 k

theorem c0_row : b.c0 (ix2 r 0) = BitVec.ofNat 32 (b.wts.k0 (b.row r)).val := by
  pointwise [c0, k0_pay14, k0_pay13]
  simp only [d0_row f, fold_min]
  exact fold_code (by norm_num) 8#32 (by decide) _

theorem t0_row (j : Fin 256) : k0_pay15 b.cb0 b.s0 b.m0 (ix2 r j) = b.wts.t0 (b.row r) j := by
  pointwise [k0_pay15]
  have hk : k0_pay14 b.s0 b.m0 (ix2 r 0) = BitVec.ofNat 32 (b.wts.k0 (b.row r)).val := c0_row f
  rw [hk]
  exact pick (by norm_num) _ (fun x => b.cb0 (ix2 x j)) (re_of fun i => (f.c0 i).at j)

theorem q0_row (j : Fin 256) : b.q0 (ix2 r j) = b.wts.t0 (b.row r) j := by
  pointwise [q0, k0_pay17, k0_pay9]
  exact t0_row f j

theorem r0_row (j : Fin 256) : b.r0 (ix2 r j) = b.wts.r0 (b.row r) j := by
  pointwise [r0, k0_pay18]
  rw [t0_row f, z_row]
  rfl

/-! ### Second codebook -/

theorem d1_row (k : Fin 64) : k0_pay21 b.s1 b.n1 b.m1 (ix2 r k) = dist (b.wts.r0 (b.row r)) b.wts.c1 k := by
  pointwise [k0_pay21, m1, k0_pay20, n1, k0_pay3, s1, k0_pay19]
  have hz : ∀ j, k0_pay18 b.z b.cb0 b.s0 b.m0 (ix2 r j) = b.wts.r0 (b.row r) j := r0_row f
  simp only [hz]
  exact dist_kernel (Wts.re_r0 f) f.c1 k

theorem c1_row : b.c1 (ix2 r 0) = BitVec.ofNat 32 (b.wts.k1 (b.row r)).val := by
  pointwise [c1, k0_pay23, k0_pay22]
  simp only [d1_row f, fold_min]
  exact fold_code (by norm_num) 64#32 (by decide) _

theorem t1_row (j : Fin 256) : k0_pay24 b.cb1 b.s1 b.n1 b.m1 (ix2 r j) = b.wts.t1 (b.row r) j := by
  pointwise [k0_pay24]
  have hk : k0_pay23 b.s1 b.n1 b.m1 (ix2 r 0) = BitVec.ofNat 32 (b.wts.k1 (b.row r)).val := c1_row f
  rw [hk]
  exact pick (by norm_num) _ (fun x => b.cb1 (ix2 x j)) (re_of fun i => (f.c1 i).at j)

theorem q1_row (j : Fin 256) : b.q1 (ix2 r j) = b.wts.t0 (b.row r) j + b.wts.t1 (b.row r) j := by
  pointwise [q1, k0_pay26]
  rw [t1_row f, q0_row f]

theorem r1_row (j : Fin 256) : k0_pay27 b.r0 b.cb1 b.s1 b.n1 b.m1 (ix2 r j) = b.wts.r1 (b.row r) j := by
  pointwise [k0_pay27]
  rw [t1_row f, r0_row f]
  rfl

/-! ### Third codebook -/

theorem d2_row (k : Fin 512) : k0_pay30 b.s2 b.m2 b.n2 (ix2 r k) = dist (b.wts.r1 (b.row r)) b.wts.c2 k := by
  pointwise [k0_pay30, m2, k0_pay29, n2, k0_pay4, s2, k0_pay28]
  simp only [r1_row f]
  exact dist_kernel (Wts.re_r1 f) f.c2 k

theorem c2_row : b.c2 (ix2 r 0) = BitVec.ofNat 32 (b.wts.k2 (b.row r)).val := by
  pointwise [c2, k0_pay32, k0_pay31]
  simp only [d2_row f, fold_min]
  exact fold_code (by norm_num) 512#32 (by decide) _

theorem g0_row (j : Fin 512) : b.g0 (ix2 r j) = b.wts.g0 (b.row r) j := by
  pointwise [g0, k0_pay35, k0_pay34]
  have hk : k0_pay32 b.s2 b.m2 b.n2 (ix2 r 0) = BitVec.ofNat 32 (b.wts.k2 (b.row r)).val := c2_row f
  have ht : ∀ y : Fin 256, ∑ x : Fin 512, FloatOps.sitofp (F := Ideal) .f32 (BitVec.setWidth 32 (IntOp.cmpi .eq (BitVec.ofNat 32 x.val)
          (BitVec.ofNat 32 (b.wts.k2 (b.row r)).val))) * b.cb2 (ix2 x y)
      + ∑ x : Fin 512, FloatOps.sitofp (F := Ideal) .f32 (BitVec.setWidth 32 (IntOp.cmpi .eq (BitVec.ofNat 32 x.val)
          (BitVec.ofNat 32 (b.wts.k2 (b.row r)).val))) * (b.cb2 (ix2 x y) - b.cb2 (ix2 x y))
      + ∑ x : Fin 512, FloatOps.sitofp (F := Ideal) .f32 (BitVec.setWidth 32 (IntOp.cmpi .eq (BitVec.ofNat 32 x.val)
          (BitVec.ofNat 32 (b.wts.k2 (b.row r)).val))) * (b.cb2 (ix2 x y) - b.cb2 (ix2 x y) - (b.cb2 (ix2 x y) - b.cb2 (ix2 x y)))
      = b.wts.t2 (b.row r) y := fun y =>
    pick (by norm_num) _ (fun x => b.cb2 (ix2 x y)) (re_of fun i => (f.c2 i).at y)
  simp only [hk, ht, q1_row f]
  rfl

theorem g1_row (j : Fin 768) : b.g1 (ix2 r j) = b.wts.g1 (b.row r) j := by
  pointwise [g1, k0_pay38, k0_pay37, k0_pay36]
  simp only [g0_row f]
  rfl

theorem out_row (j : Fin 768) : b.out (ix2 r j) = b.wts.out (b.row r) j := by
  pointwise [out, k0_pay39]
  simp only [g1_row f]
  rfl

end

/-- What the block adds to the running loss. -/
theorem loss_eq (f : b.wts.Fin') (prev : Vec Ideal S1x1 .f32) :
    b.loss prev (ix2 0 0) = prev (ix2 0 0)
      + (∑ r, dist (b.wts.z (b.row r)) b.wts.c0 (b.wts.k0 (b.row r))
          + ∑ r, dist (b.wts.r0 (b.row r)) b.wts.c1 (b.wts.k1 (b.row r))
          + ∑ r, dist (b.wts.r1 (b.row r)) b.wts.c2 (b.wts.k2 (b.row r))) * Ideal.ofBits .f32 872415232#32 := by
  have e0 : b.l0 = ∑ r, dist (b.wts.z (b.row r)) b.wts.c0 (b.wts.k0 (b.row r)) := by
    pointwise [l0, k0_pay16, k0_pay13]
    simp only [d0_row f, fold_min, Finset.univ_unique, Finset.sum_singleton]
    rfl
  have e1 : b.l1 = b.l0 + ∑ r, dist (b.wts.r0 (b.row r)) b.wts.c1 (b.wts.k1 (b.row r)) := by
    pointwise [l1, k0_pay25, k0_pay22]
    simp only [d1_row f, fold_min, Finset.univ_unique, Finset.sum_singleton]
    rfl
  have e2 : b.l2 = b.l1 + ∑ r, dist (b.wts.r1 (b.row r)) b.wts.c2 (b.wts.k2 (b.row r)) := by
    pointwise [l2, k0_pay33, k0_pay31]
    simp only [d2_row f, fold_min, Finset.univ_unique, Finset.sum_singleton]
    rfl
  pointwise [loss, k0_pay1]
  rw [e2, e1, e0]

end Blk
end Cert.KernelIdeal.Hand
end
-- ==== Proof.Loss.lean ====
module
public import proofs.«01_k».proof.Proof.Row
@[expose] public section
noncomputable section

/-! Adding the losses block by block and scaling each block's sum, against halving three means over all rows. -/
namespace Cert.Vq
open Idealize.ShloMosaic

/-- The rows in blocks. -/
def rowEquiv : Fin 8 × Fin 2048 ≃ Fin 16384 := finProdFinEquiv.trans (finCongr (by norm_num))

theorem rowEquiv_val (t : Fin 8) (r : Fin 2048) : (rowEquiv (t, r)).val = t.val * 2048 + r.val := by
  show r.val + 2048 * t.val = _
  ring

theorem sum_blocks (a : Fin 16384 → ℝ) : ∑ t : Fin 8, ∑ r : Fin 2048, a (rowEquiv (t, r)) = ∑ i, a i := by
  rw [← Fintype.sum_prod_type' (f := fun t r => a (rowEquiv (t, r)))]
  exact Fintype.sum_equiv rowEquiv _ _ fun _ => rfl

theorem regroup {a b d : Fin 16384 → EReal} (ha : Re a) (hb : Re b) (hd : Re d) :
    ∑ t : Fin 8, (∑ r : Fin 2048, a (rowEquiv (t, r)) + ∑ r : Fin 2048, b (rowEquiv (t, r)) + ∑ r : Fin 2048, d (rowEquiv (t, r)))
        * Ideal.ofBits .f32 872415232#32
      = Ideal.ofBits .f32 1056964608#32 * Ideal.div (∑ i, a i) (Ideal.ofBits .f32 1249902592#32)
        + Ideal.ofBits .f32 1056964608#32 * Ideal.div (∑ i, b i) (Ideal.ofBits .f32 1249902592#32)
        + Ideal.ofBits .f32 1056964608#32 * Ideal.div (∑ i, d i) (Ideal.ofBits .f32 1249902592#32) := by
  obtain ⟨a, rfl⟩ := ha
  obtain ⟨b, rfl⟩ := hb
  obtain ⟨d, rfl⟩ := hd
  rw [scale, half, count, Ideal.div_coe (by norm_num), Ideal.div_coe (by norm_num), Ideal.div_coe (by norm_num)]
  simp only [coe_sum, ← EReal.coe_add, ← EReal.coe_mul]
  rw [← sum_blocks a, ← sum_blocks b, ← sum_blocks d, ← Finset.sum_mul, Finset.sum_add_distrib, Finset.sum_add_distrib]
  congr 1
  ring

/-- A squared distance between real rows is real. -/
theorem re_dist {n m l : Nat} {r : Fin l → Fin m → EReal} {c : Fin n → Fin m → EReal} (hr : ∀ i, Re (r i)) (hc : ∀ k, Re (c k))
    (k : Fin l → Fin n) : Re fun i => dist (r i) c (k i) := by
  refine re_of fun i => ?_
  rw [dist_sq (hr i) hc]
  obtain ⟨u, hu⟩ := hr i
  obtain ⟨v, hv⟩ := hc (k i)
  refine ⟨∑ j, (v j - u j) * (v j - u j), ?_⟩
  rw [← coe_sum]
  refine Finset.sum_congr rfl fun j _ => ?_
  rw [hu, hv, EReal.coe_mul, EReal.coe_sub]

end Cert.Vq
end
-- ==== Proof.Arrays.lean ====
module
public import proofs.«01_k».proof.Proof.Run
public import proofs.«01_k».proof.Proof.KernelVal
public import proofs.«01_k».proof.Proof.Loss
public import Idealize.ShloMosaic.Lib.Pipeline.ValueKit
@[expose] public section
set_option maxRecDepth 16384
noncomputable section

/-! The result arrays of the kernel after the whole grid. -/
namespace Cert.KernelIdeal.Hand
open Idealize.ShloMosaic Idealize.ShloMosaic.TcCoe Idealize.SL.Sem
open Cert.KernelIdeal Cert.KernelIdeal.Gen Cert.Vq
set_option maxHeartbeats 4000000
variable (m : (ℓ : Loc nD τ sig) → Buf (Elt Ideal) ℓ) (c : Dev nD)

set_option synthInstance.maxHeartbeats 400000 in
set_option synthInstance.maxSize 4096 in
/-- Which block every window shows at a point. -/
theorem idx : ∀ t : Fin cfg0.N, win0_0.index t = ![t.val, 0] ∧ win0_1.index t = ![0, 0] ∧ win0_2.index t = ![0] ∧ win0_3.index t = ![0] ∧ win0_4.index t = ![0] ∧ win0_5.index t = ![0, 0] ∧ win0_6.index t = ![0] ∧ win0_7.index t = ![0] ∧ win0_8.index t = ![0] ∧ win0_9.index t = ![0, 0] ∧ win0_10.index t = ![0] ∧ win0_11.index t = ![0] ∧ win0_12.index t = ![0] ∧ win0_13.index t = ![0, 0] ∧ win0_14.index t = ![0] ∧ win0_15.index t = ![0, 0] ∧ win0_16.index t = ![0] ∧ win0_17.index t = ![0, 0] ∧ win0_18.index t = ![0] ∧ win0_19.index t = ![0] ∧ win0_20.index t = ![0] ∧ win0_21.index t = ![0] ∧ win0_22.index t = ![0] ∧ win0_23.index t = ![0, 0] ∧ win0_24.index t = ![0, 0] ∧ win0_25.index t = ![0, 0] ∧ win0_26.index t = ![t.val, 0] ∧ win0_27.index t = ![0, 0] ∧ win0_28.index t = ![t.val, 0] ∧ win0_29.index t = ![t.val, 0] ∧ win0_30.index t = ![t.val, 0] :=
  (by decide +kernel : ∀ t : Fin grid0.N, _)

/-- The weights the arguments hold. -/
def argWts : Wts where
  eW0 i j := (m ((c.tc : Thread nD τ).loc main_arg1) : Vec Ideal S768x768 .f32) (ix2 i j)
  eb0 j := (m ((c.tc : Thread nD τ).loc main_arg2) : Vec Ideal S768 .f32) (ix1 j)
  eg0 j := (m ((c.tc : Thread nD τ).loc main_arg3) : Vec Ideal S768 .f32) (ix1 j)
  et0 j := (m ((c.tc : Thread nD τ).loc main_arg4) : Vec Ideal S768 .f32) (ix1 j)
  eW1 i j := (m ((c.tc : Thread nD τ).loc main_arg5) : Vec Ideal S768x512 .f32) (ix2 i j)
  eb1 j := (m ((c.tc : Thread nD τ).loc main_arg6) : Vec Ideal S512 .f32) (ix1 j)
  eg1 j := (m ((c.tc : Thread nD τ).loc main_arg7) : Vec Ideal S512 .f32) (ix1 j)
  et1 j := (m ((c.tc : Thread nD τ).loc main_arg8) : Vec Ideal S512 .f32) (ix1 j)
  eW2 i j := (m ((c.tc : Thread nD τ).loc main_arg9) : Vec Ideal S512x256 .f32) (ix2 i j)
  eb2 j := (m ((c.tc : Thread nD τ).loc main_arg10) : Vec Ideal S256 .f32) (ix1 j)
  eg2 j := (m ((c.tc : Thread nD τ).loc main_arg11) : Vec Ideal S256 .f32) (ix1 j)
  et2 j := (m ((c.tc : Thread nD τ).loc main_arg12) : Vec Ideal S256 .f32) (ix1 j)
  dW0 i j := (m ((c.tc : Thread nD τ).loc main_arg13) : Vec Ideal S256x512 .f32) (ix2 i j)
  db0 j := (m ((c.tc : Thread nD τ).loc main_arg14) : Vec Ideal S512 .f32) (ix1 j)
  dW1 i j := (m ((c.tc : Thread nD τ).loc main_arg15) : Vec Ideal S512x768 .f32) (ix2 i j)
  db1 j := (m ((c.tc : Thread nD τ).loc main_arg16) : Vec Ideal S768 .f32) (ix1 j)
  dW2 i j := (m ((c.tc : Thread nD τ).loc main_arg17) : Vec Ideal S768x768 .f32) (ix2 i j)
  db2 j := (m ((c.tc : Thread nD τ).loc main_arg18) : Vec Ideal S768 .f32) (ix1 j)
  dg0 j := (m ((c.tc : Thread nD τ).loc main_arg19) : Vec Ideal S512 .f32) (ix1 j)
  dt0 j := (m ((c.tc : Thread nD τ).loc main_arg20) : Vec Ideal S512 .f32) (ix1 j)
  dg1 j := (m ((c.tc : Thread nD τ).loc main_arg21) : Vec Ideal S768 .f32) (ix1 j)
  dt1 j := (m ((c.tc : Thread nD τ).loc main_arg22) : Vec Ideal S768 .f32) (ix1 j)
  c0 i j := (m ((c.tc : Thread nD τ).loc main_arg23) : Vec Ideal S8x256 .f32) (ix2 i j)
  c1 i j := (m ((c.tc : Thread nD τ).loc main_arg24) : Vec Ideal S64x256 .f32) (ix2 i j)
  c2 i j := (m ((c.tc : Thread nD τ).loc main_arg25) : Vec Ideal S512x256 .f32) (ix2 i j)

/-- A row of the input argument. -/
def argRow (i : Fin 16384) (j : Fin 768) : EReal := (m ((c.tc : Thread nD τ).loc main_arg0) : Vec Ideal S16384x768 .f32) (ix2 i j)

theorem iblk1 (t : Fin cfg0.N) : iblk m c 1 t = m ((c.tc : Thread nD τ).loc main_arg1) := by blk_ext! [iblk, V, idx t]
theorem iblk2 (t : Fin cfg0.N) : iblk m c 2 t = m ((c.tc : Thread nD τ).loc main_arg2) := by blk_ext! [iblk, V, idx t]
theorem iblk3 (t : Fin cfg0.N) : iblk m c 3 t = m ((c.tc : Thread nD τ).loc main_arg3) := by blk_ext! [iblk, V, idx t]
theorem iblk4 (t : Fin cfg0.N) : iblk m c 4 t = m ((c.tc : Thread nD τ).loc main_arg4) := by blk_ext! [iblk, V, idx t]
theorem iblk5 (t : Fin cfg0.N) : iblk m c 5 t = m ((c.tc : Thread nD τ).loc main_arg5) := by blk_ext! [iblk, V, idx t]
theorem iblk6 (t : Fin cfg0.N) : iblk m c 6 t = m ((c.tc : Thread nD τ).loc main_arg6) := by blk_ext! [iblk, V, idx t]
theorem iblk7 (t : Fin cfg0.N) : iblk m c 7 t = m ((c.tc : Thread nD τ).loc main_arg7) := by blk_ext! [iblk, V, idx t]
theorem iblk8 (t : Fin cfg0.N) : iblk m c 8 t = m ((c.tc : Thread nD τ).loc main_arg8) := by blk_ext! [iblk, V, idx t]
theorem iblk9 (t : Fin cfg0.N) : iblk m c 9 t = m ((c.tc : Thread nD τ).loc main_arg9) := by blk_ext! [iblk, V, idx t]
theorem iblk10 (t : Fin cfg0.N) : iblk m c 10 t = m ((c.tc : Thread nD τ).loc main_arg10) := by blk_ext! [iblk, V, idx t]
theorem iblk11 (t : Fin cfg0.N) : iblk m c 11 t = m ((c.tc : Thread nD τ).loc main_arg11) := by blk_ext! [iblk, V, idx t]
theorem iblk12 (t : Fin cfg0.N) : iblk m c 12 t = m ((c.tc : Thread nD τ).loc main_arg12) := by blk_ext! [iblk, V, idx t]
theorem iblk13 (t : Fin cfg0.N) : iblk m c 13 t = m ((c.tc : Thread nD τ).loc main_arg13) := by blk_ext! [iblk, V, idx t]
theorem iblk14 (t : Fin cfg0.N) : iblk m c 14 t = m ((c.tc : Thread nD τ).loc main_arg14) := by blk_ext! [iblk, V, idx t]
theorem iblk15 (t : Fin cfg0.N) : iblk m c 15 t = m ((c.tc : Thread nD τ).loc main_arg15) := by blk_ext! [iblk, V, idx t]
theorem iblk16 (t : Fin cfg0.N) : iblk m c 16 t = m ((c.tc : Thread nD τ).loc main_arg16) := by blk_ext! [iblk, V, idx t]
theorem iblk17 (t : Fin cfg0.N) : iblk m c 17 t = m ((c.tc : Thread nD τ).loc main_arg17) := by blk_ext! [iblk, V, idx t]
theorem iblk18 (t : Fin cfg0.N) : iblk m c 18 t = m ((c.tc : Thread nD τ).loc main_arg18) := by blk_ext! [iblk, V, idx t]
theorem iblk19 (t : Fin cfg0.N) : iblk m c 19 t = m ((c.tc : Thread nD τ).loc main_arg19) := by blk_ext! [iblk, V, idx t]
theorem iblk20 (t : Fin cfg0.N) : iblk m c 20 t = m ((c.tc : Thread nD τ).loc main_arg20) := by blk_ext! [iblk, V, idx t]
theorem iblk21 (t : Fin cfg0.N) : iblk m c 21 t = m ((c.tc : Thread nD τ).loc main_arg21) := by blk_ext! [iblk, V, idx t]
theorem iblk22 (t : Fin cfg0.N) : iblk m c 22 t = m ((c.tc : Thread nD τ).loc main_arg22) := by blk_ext! [iblk, V, idx t]
theorem iblk23 (t : Fin cfg0.N) : iblk m c 23 t = m ((c.tc : Thread nD τ).loc main_arg23) := by blk_ext! [iblk, V, idx t]
theorem iblk24 (t : Fin cfg0.N) : iblk m c 24 t = m ((c.tc : Thread nD τ).loc main_arg24) := by blk_ext! [iblk, V, idx t]
theorem iblk25 (t : Fin cfg0.N) : iblk m c 25 t = m ((c.tc : Thread nD τ).loc main_arg25) := by blk_ext! [iblk, V, idx t]

theorem wts_at (t : Fin cfg0.N) : (blkAt m c t).wts = argWts m c := by
  unfold Blk.wts blkAt argWts
  simp only [iblk1, iblk2, iblk3, iblk4, iblk5, iblk6, iblk7, iblk8, iblk9, iblk10, iblk11, iblk12, iblk13, iblk14, iblk15, iblk16, iblk17, iblk18, iblk19, iblk20, iblk21, iblk22, iblk23, iblk24, iblk25]

theorem row_lt (t : Fin cfg0.N) (r : Fin 2048) : t.val * 2048 + r.val < 16384 := by
  have h : t.val < 8 := t.isLt
  omega

/-- The array row a block's row is. -/
def rowAt (t : Fin cfg0.N) (r : Fin 2048) : Fin 16384 := ⟨t.val * 2048 + r.val, row_lt t r⟩

theorem rowAt_eq (t : Fin cfg0.N) (r : Fin 2048) : rowAt t r = rowEquiv (t, r) := Fin.ext (rowEquiv_val t r).symm

theorem row_at (t : Fin cfg0.N) (r : Fin 2048) : (blkAt m c t).row r = argRow m c (rowAt t r) := by
  funext j
  show iblk m c 0 t (ix2 r j) = argRow m c (rowAt t r) j
  unfold argRow rowAt
  blk_ext [iblk, V, idx t]

/-- What a block adds to the loss, before scaling. -/
def blockLoss (t : Fin 8) : EReal :=
  ∑ r : Fin 2048, dist ((argWts m c).z (argRow m c (rowEquiv (t, r)))) (argWts m c).c0 ((argWts m c).k0 (argRow m c (rowEquiv (t, r))))
    + ∑ r : Fin 2048, dist ((argWts m c).r0 (argRow m c (rowEquiv (t, r)))) (argWts m c).c1 ((argWts m c).k1 (argRow m c (rowEquiv (t, r))))
    + ∑ r : Fin 2048, dist ((argWts m c).r1 (argRow m c (rowEquiv (t, r)))) (argWts m c).c2 ((argWts m c).k2 (argRow m c (rowEquiv (t, r))))

section
variable (f : (argWts m c).Fin')
include f

/-- The reconstruction. -/
theorem arr_out : (dats m 0 c).arrAt 26 cfg0.N
    = fun i : S16384x768.Idx => (argWts m c).out (argRow m c (i 0)) (i 1) := by
  refine (dats m 0 c).arrAt_eq_of_covers 26 _ (by decide +kernel) fun t _ y => ?_
  blk_simp
  rw [after_26]
  idx_vars y
  rw [(blkAt m c t).out_row (wts_at m c t ▸ f), wts_at, row_at]
  refine congrArg₂ (fun i j => (argWts m c).out (argRow m c i) j) (Fin.ext ?_) (Fin.ext ?_)
  · rw [rowAt]
    blk_simp [idx t]
  · blk_simp [idx t]

theorem arr_c0 : (dats m 0 c).arrAt 28 cfg0.N
    = fun i : S16384x1.Idx => BitVec.ofNat 32 ((argWts m c).k0 (argRow m c (i 0))).val := by
  refine (dats m 0 c).arrAt_eq_of_covers 28 _ (by decide +kernel) fun t _ y => ?_
  blk_simp
  rw [after_28]
  idx_vars y
  obtain rfl : y1 = 0 := Subsingleton.elim _ _
  rw [(blkAt m c t).c0_row (wts_at m c t ▸ f), wts_at, row_at]
  refine congrArg (fun i => BitVec.ofNat 32 ((argWts m c).k0 (argRow m c i)).val) (Fin.ext ?_)
  rw [rowAt]
  blk_simp [idx t]

theorem arr_c1 : (dats m 0 c).arrAt 29 cfg0.N
    = fun i : S16384x1.Idx => BitVec.ofNat 32 ((argWts m c).k1 (argRow m c (i 0))).val := by
  refine (dats m 0 c).arrAt_eq_of_covers 29 _ (by decide +kernel) fun t _ y => ?_
  blk_simp
  rw [after_29]
  idx_vars y
  obtain rfl : y1 = 0 := Subsingleton.elim _ _
  rw [(blkAt m c t).c1_row (wts_at m c t ▸ f), wts_at, row_at]
  refine congrArg (fun i => BitVec.ofNat 32 ((argWts m c).k1 (argRow m c i)).val) (Fin.ext ?_)
  rw [rowAt]
  blk_simp [idx t]

theorem arr_c2 : (dats m 0 c).arrAt 30 cfg0.N
    = fun i : S16384x1.Idx => BitVec.ofNat 32 ((argWts m c).k2 (argRow m c (i 0))).val := by
  refine (dats m 0 c).arrAt_eq_of_covers 30 _ (by decide +kernel) fun t _ y => ?_
  blk_simp
  rw [after_30]
  idx_vars y
  obtain rfl : y1 = 0 := Subsingleton.elim _ _
  rw [(blkAt m c t).c2_row (wts_at m c t ▸ f), wts_at, row_at]
  refine congrArg (fun i => BitVec.ofNat 32 ((argWts m c).k2 (argRow m c i)).val) (Fin.ext ?_)
  rw [rowAt]
  blk_simp [idx t]

/-- What the points before one have added up. -/
theorem lossTo_eq : (n : ℕ) → (h : n ≤ 8) → lossTo m c n h (ix2 0 0)
    = ∑ t : Fin n, blockLoss m c (t.castLE h) * Ideal.ofBits .f32 872415232#32
  | 0, _ => Ideal.ofBits_zero_f32
  | n + 1, h => by
    rw [show lossTo m c (n + 1) h = (blkAt m c ⟨n, h⟩).loss (lossTo m c n (Nat.le_of_succ_le h)) from rfl,
      (blkAt m c ⟨n, h⟩).loss_eq (wts_at m c ⟨n, h⟩ ▸ f),
      lossTo_eq n (Nat.le_of_succ_le h), wts_at]
    refine Eq.trans ?_ (Fin.sum_univ_castSucc _).symm
    refine congrArg₂ (· + ·) rfl (congrArg (· * _) ?_)
    unfold blockLoss
    simp only [row_at, rowAt_eq]
    rfl

/-- The loss's array: half of each mean, summed. -/
theorem arr_loss : (dats m 0 c).arrAt 27 cfg0.N = fun _ : S1x1.Idx =>
    Ideal.ofBits .f32 1056964608#32 * Ideal.div (∑ i, dist ((argWts m c).z (argRow m c i)) (argWts m c).c0 ((argWts m c).k0 (argRow m c i))) (Ideal.ofBits .f32 1249902592#32)
      + Ideal.ofBits .f32 1056964608#32 * Ideal.div (∑ i, dist ((argWts m c).r0 (argRow m c i)) (argWts m c).c1 ((argWts m c).k1 (argRow m c i))) (Ideal.ofBits .f32 1249902592#32)
      + Ideal.ofBits .f32 1056964608#32 * Ideal.div (∑ i, dist ((argWts m c).r1 (argRow m c i)) (argWts m c).c2 ((argWts m c).k2 (argRow m c i))) (Ideal.ofBits .f32 1249902592#32) := by
  refine (dats m 0 c).arrAt_eq_of_after_last 27 t0_7 (by decide +kernel) _ fun j => ?_
  rw [after_27]
  blk_simp
  idx_vars j
  obtain rfl : j0 = 0 := Subsingleton.elim _ _
  obtain rfl : j1 = 0 := Subsingleton.elim _ _
  rw [← regroup (re_dist (fun i => Wts.re_z (x := argRow m c i) f) f.c0 fun i => (argWts m c).k0 (argRow m c i))
    (re_dist (fun i => Wts.re_r0 (x := argRow m c i) f) f.c1 fun i => (argWts m c).k1 (argRow m c i))
    (re_dist (fun i => Wts.re_r1 (x := argRow m c i) f) f.c2 fun i => (argWts m c).k2 (argRow m c i))]
  exact lossTo_eq m c f 8 (le_refl 8)
end
end Cert.KernelIdeal.Hand
end
-- ==== Proof.Tail.lean ====
module
public import proofs.«01_k».proof.Proof.Run
public import Idealize.ShloMosaic.Lib.Pipeline.ValueKit
@[expose] public section
set_option maxRecDepth 16384
noncomputable section

/-! The two host operations after the kernel. -/
namespace Cert.KernelIdeal.Hand
open Idealize.ShloMosaic Idealize.ShloMosaic.TcCoe Idealize.SL.Sem
open Cert.KernelIdeal Cert.KernelIdeal.Gen
set_option maxHeartbeats 4000000
variable (m : (ℓ : Loc nD τ sig) → Buf (Elt Ideal) ℓ) (c : Dev nD)

theorem tail_array (w : Fin (cfgs 0).W) : Pipeline.withArrays (cfgs 0).spec c (V0 m c) (fun w => (dats m 0 c).arrAt w (cfgs 0).N)
    (Proc.devRef .tc (Pipeline.arrRef (cfgs 0).spec w)) = (dats m 0 c).arrAt w (cfgs 0).N :=
  Pipeline.withArrays_arr _ launch0.win.arr_inj c _ _ w

/-- Three columns of codes side by side. -/
def columns (a b d : Vec Ideal S16384x1 .i32) : Vec Ideal S16384x3 .i32 :=
  concatenate S16384x3 1 [⟨S16384x1, a⟩, ⟨S16384x1, b⟩, ⟨S16384x1, d⟩] concatenates_S16384x1_S16384x1_S16384x1_S16384x3_d1

theorem tail_loss : Pipeline.afterTail₀ cfgs (dats m) 0 (V0 m) [hostOps1] c main_v2
    = shapeCast S_ ((dats m 0 c).arrAt 27 cfg0.N : Vec Ideal S1x1 .f32) shapeCasts_S1x1_S_ := by
  unfold Pipeline.afterTail₀
  rw [show ([hostOps1] : List (List (HloOp τ sig (Elt Ideal)))).flatten = hostOps1 from rfl]
  after_region_results
  exact congrArg (fun v : Vec Ideal S1x1 .f32 => shapeCast S_ v shapeCasts_S1x1_S_) (tail_array m c 27)

theorem tail_codes : Pipeline.afterTail₀ cfgs (dats m) 0 (V0 m) [hostOps1] c main_v1
    = columns ((dats m 0 c).arrAt 28 cfg0.N) ((dats m 0 c).arrAt 29 cfg0.N) ((dats m 0 c).arrAt 30 cfg0.N) := by
  unfold Pipeline.afterTail₀
  rw [show ([hostOps1] : List (List (HloOp τ sig (Elt Ideal)))).flatten = hostOps1 from rfl]
  after_region_results
  have e := congr (congr (congrArg columns (tail_array m c 28)) (tail_array m c 29)) (tail_array m c 30)
  exact e
end Cert.KernelIdeal.Hand
end
-- ==== Proof.RefOps.lean ====
/- The reference as a list of its own operations, cut at its layers: what each cut writes and that nothing
   else moves. -/
module

public import proofs.«01_k».proof.Proof.Gen.ReferenceIdeal
public import Idealize.ShloMosaic.Lib.StableHlo.Run
public import Idealize.ShloMosaic.Lib.Pipeline.Frame

@[expose] public section

set_option maxRecDepth 8192

noncomputable section

namespace Cert.ReferenceIdeal.Hand

open Cert.ReferenceIdeal Cert.ReferenceIdeal.Gen Idealize.ShloMosaic Idealize.ShloMosaic.TcCoe Idealize.SL.Sem
open Idealize.ShloMosaic.StableHlo

variable {F : FTy → Type} [FloatOps F]

/-- Contents of a tensor, by shape and element type. -/
abbrev A (F : FTy → Type) (s : Shape) (e : EltTy) := (⟨s, e⟩ : BufTy).Contents (Elt F)

/-- The three columns of codes, side by side. -/
def codesOf (a b c : A F S16384x1 .i32) : A F S16384x3 .i32 :=
  concatenate S16384x3 1 [⟨S16384x1, a⟩, ⟨S16384x1, b⟩, ⟨S16384x1, c⟩] concatenates_S16384x1_S16384x1_S16384x1_S16384x3_d1

abbrev enc0 : List (HloOp τ sig (Elt F)) :=
  [ binary main_arg0 main_arg1 main_v0 ((fun l r => Host.dotGeneral dot_S16384x768_S768x768_S16384x768_1_0_0_1_n_n none l r) : A F S16384x768 .f32 → A F S768x768 .f32 → A F S16384x768 .f32),
    unary main_arg2 main_v1 (broadcastInDim S1x768 ![1] bcast_S768_S1x768_1 : A F S768 .f32 → A F S1x768 .f32),
    unary main_v1 main_v2 (broadcastInDim S16384x768 ![0, 1] bcast_S1x768_S16384x768_0_1 : A F S1x768 .f32 → A F S16384x768 .f32),
    binary main_v0 main_v2 main_v3 (addf : A F S16384x768 .f32 → A F S16384x768 .f32 → A F S16384x768 .f32),
    nullary main_cst (constant S_ .f32 0x00000000#32),
    binary main_v3 main_cst main_v4 ((fun x v => Host.reduceAdd x v reducesTo_S16384x768_S16384_d1 h_S_) : A F S16384x768 .f32 → A F S_ .f32 → A F S16384 .f32),
    unary main_v4 main_v5 (broadcastInDim S16384x1 ![0] bcast_S16384_S16384x1_0 : A F S16384 .f32 → A F S16384x1 .f32),
    nullary main_cst_0 (constant S_ .f32 0x44400000#32),
    unary main_cst_0 main_v6 (broadcastInDim S16384x1 ![] bcast_S_S16384x1 : A F S_ .f32 → A F S16384x1 .f32),
    binary main_v5 main_v6 main_v7 (Host.divf : A F S16384x1 .f32 → A F S16384x1 .f32 → A F S16384x1 .f32),
    unary main_v7 main_v8 (broadcastInDim S16384x768 ![0, 1] bcast_S16384x1_S16384x768_0_1 : A F S16384x1 .f32 → A F S16384x768 .f32),
    binary main_v3 main_v8 main_v9 (subf : A F S16384x768 .f32 → A F S16384x768 .f32 → A F S16384x768 .f32),
    binary main_v9 main_v9 main_v10 (mulf : A F S16384x768 .f32 → A F S16384x768 .f32 → A F S16384x768 .f32),
    nullary main_cst_1 (constant S_ .f32 0x00000000#32),
    binary main_v10 main_cst_1 main_v11 ((fun x v => Host.reduceAdd x v reducesTo_S16384x768_S16384_d1 h_S_) : A F S16384x768 .f32 → A F S_ .f32 → A F S16384 .f32),
    unary main_v11 main_v12 (broadcastInDim S16384x1 ![0] bcast_S16384_S16384x1_0 : A F S16384 .f32 → A F S16384x1 .f32),
    nullary main_cst_2 (constant S_ .f32 0x44400000#32),
    unary main_cst_2 main_v13 (broadcastInDim S16384x1 ![] bcast_S_S16384x1 : A F S_ .f32 → A F S16384x1 .f32),
    binary main_v12 main_v13 main_v14 (Host.divf : A F S16384x1 .f32 → A F S16384x1 .f32 → A F S16384x1 .f32),
    unary main_v7 main_v15 (broadcastInDim S16384x768 ![0, 1] bcast_S16384x1_S16384x768_0_1 : A F S16384x1 .f32 → A F S16384x768 .f32),
    binary main_v3 main_v15 main_v16 (subf : A F S16384x768 .f32 → A F S16384x768 .f32 → A F S16384x768 .f32),
    nullary main_cst_3 (constant S_ .f32 0x3727C5AC#32),
    unary main_cst_3 main_v17 (broadcastInDim S16384x1 ![] bcast_S_S16384x1 : A F S_ .f32 → A F S16384x1 .f32),
    binary main_v14 main_v17 main_v18 (addf : A F S16384x1 .f32 → A F S16384x1 .f32 → A F S16384x1 .f32),
    unary main_v18 main_v19 (Host.sqrt : A F S16384x1 .f32 → A F S16384x1 .f32),
    unary main_v19 main_v20 (broadcastInDim S16384x768 ![0, 1] bcast_S16384x1_S16384x768_0_1 : A F S16384x1 .f32 → A F S16384x768 .f32),
    binary main_v16 main_v20 main_v21 (Host.divf : A F S16384x768 .f32 → A F S16384x768 .f32 → A F S16384x768 .f32),
    unary main_arg3 main_v22 (broadcastInDim S1x768 ![1] bcast_S768_S1x768_1 : A F S768 .f32 → A F S1x768 .f32),
    unary main_v22 main_v23 (broadcastInDim S16384x768 ![0, 1] bcast_S1x768_S16384x768_0_1 : A F S1x768 .f32 → A F S16384x768 .f32),
    binary main_v21 main_v23 main_v24 (mulf : A F S16384x768 .f32 → A F S16384x768 .f32 → A F S16384x768 .f32),
    unary main_arg4 main_v25 (broadcastInDim S1x768 ![1] bcast_S768_S1x768_1 : A F S768 .f32 → A F S1x768 .f32),
    unary main_v25 main_v26 (broadcastInDim S16384x768 ![0, 1] bcast_S1x768_S16384x768_0_1 : A F S1x768 .f32 → A F S16384x768 .f32),
    binary main_v24 main_v26 main_v27 (addf : A F S16384x768 .f32 → A F S16384x768 .f32 → A F S16384x768 .f32),
    TRef.nullary (TRef.of (T := ⟨S_, .f32⟩) main_call0_cst) (constant S_ .f32 0x00000000#32),
    TRef.unary (TRef.of (T := ⟨S_, .f32⟩) main_call0_cst) (TRef.of (T := ⟨S16384x768, .f32⟩) main_call0_v0) (broadcastInDim S16384x768 ![] bcast_S_S16384x768),
    TRef.binary (TRef.of (T := ⟨S16384x768, .f32⟩) main_v27) (TRef.of (T := ⟨S16384x768, .f32⟩) main_call0_v0) (TRef.of (T := ⟨S16384x768, .f32⟩) main_v28) maximumf ]
abbrev enc0_W : List (Ref sig .tc) := [main_v0, main_v1, main_v2, main_v3, main_cst, main_v4, main_v5, main_cst_0, main_v6, main_v7, main_v8, main_v9, main_v10, main_cst_1, main_v11, main_v12, main_cst_2, main_v13, main_v14, main_v15, main_v16, main_cst_3, main_v17, main_v18, main_v19, main_v20, main_v21, main_v22, main_v23, main_v24, main_v25, main_v26, main_v27, main_call0_cst, main_call0_v0, main_v28]

abbrev enc1a : List (HloOp τ sig (Elt F)) :=
  [ binary main_v28 main_arg5 main_v29 ((fun l r => Host.dotGeneral dot_S16384x768_S768x512_S16384x512_1_0_0_1_n_n none l r) : A F S16384x768 .f32 → A F S768x512 .f32 → A F S16384x512 .f32),
    unary main_arg6 main_v30 (broadcastInDim S1x512 ![1] bcast_S512_S1x512_1 : A F S512 .f32 → A F S1x512 .f32),
    unary main_v30 main_v31 (broadcastInDim S16384x512 ![0, 1] bcast_S1x512_S16384x512_0_1 : A F S1x512 .f32 → A F S16384x512 .f32),
    binary main_v29 main_v31 main_v32 (addf : A F S16384x512 .f32 → A F S16384x512 .f32 → A F S16384x512 .f32),
    nullary main_cst_4 (constant S_ .f32 0x00000000#32),
    binary main_v32 main_cst_4 main_v33 ((fun x v => Host.reduceAdd x v reducesTo_S16384x512_S16384_d1 h_S_) : A F S16384x512 .f32 → A F S_ .f32 → A F S16384 .f32),
    unary main_v33 main_v34 (broadcastInDim S16384x1 ![0] bcast_S16384_S16384x1_0 : A F S16384 .f32 → A F S16384x1 .f32),
    nullary main_cst_5 (constant S_ .f32 0x44000000#32),
    unary main_cst_5 main_v35 (broadcastInDim S16384x1 ![] bcast_S_S16384x1 : A F S_ .f32 → A F S16384x1 .f32),
    binary main_v34 main_v35 main_v36 (Host.divf : A F S16384x1 .f32 → A F S16384x1 .f32 → A F S16384x1 .f32),
    unary main_v36 main_v37 (broadcastInDim S16384x512 ![0, 1] bcast_S16384x1_S16384x512_0_1 : A F S16384x1 .f32 → A F S16384x512 .f32),
    binary main_v32 main_v37 main_v38 (subf : A F S16384x512 .f32 → A F S16384x512 .f32 → A F S16384x512 .f32),
    binary main_v38 main_v38 main_v39 (mulf : A F S16384x512 .f32 → A F S16384x512 .f32 → A F S16384x512 .f32),
    nullary main_cst_6 (constant S_ .f32 0x00000000#32),
    binary main_v39 main_cst_6 main_v40 ((fun x v => Host.reduceAdd x v reducesTo_S16384x512_S16384_d1 h_S_) : A F S16384x512 .f32 → A F S_ .f32 → A F S16384 .f32),
    unary main_v40 main_v41 (broadcastInDim S16384x1 ![0] bcast_S16384_S16384x1_0 : A F S16384 .f32 → A F S16384x1 .f32),
    nullary main_cst_7 (constant S_ .f32 0x44000000#32),
    unary main_cst_7 main_v42 (broadcastInDim S16384x1 ![] bcast_S_S16384x1 : A F S_ .f32 → A F S16384x1 .f32),
    binary main_v41 main_v42 main_v43 (Host.divf : A F S16384x1 .f32 → A F S16384x1 .f32 → A F S16384x1 .f32),
    unary main_v36 main_v44 (broadcastInDim S16384x512 ![0, 1] bcast_S16384x1_S16384x512_0_1 : A F S16384x1 .f32 → A F S16384x512 .f32),
    binary main_v32 main_v44 main_v45 (subf : A F S16384x512 .f32 → A F S16384x512 .f32 → A F S16384x512 .f32),
    nullary main_cst_8 (constant S_ .f32 0x3727C5AC#32),
    unary main_cst_8 main_v46 (broadcastInDim S16384x1 ![] bcast_S_S16384x1 : A F S_ .f32 → A F S16384x1 .f32),
    binary main_v43 main_v46 main_v47 (addf : A F S16384x1 .f32 → A F S16384x1 .f32 → A F S16384x1 .f32),
    unary main_v47 main_v48 (Host.sqrt : A F S16384x1 .f32 → A F S16384x1 .f32),
    unary main_v48 main_v49 (broadcastInDim S16384x512 ![0, 1] bcast_S16384x1_S16384x512_0_1 : A F S16384x1 .f32 → A F S16384x512 .f32) ]
abbrev enc1a_W : List (Ref sig .tc) := [main_v29, main_v30, main_v31, main_v32, main_cst_4, main_v33, main_v34, main_cst_5, main_v35, main_v36, main_v37, main_v38, main_v39, main_cst_6, main_v40, main_v41, main_cst_7, main_v42, main_v43, main_v44, main_v45, main_cst_8, main_v46, main_v47, main_v48, main_v49]

abbrev enc1b : List (HloOp τ sig (Elt F)) :=
  [ binary main_v45 main_v49 main_v50 (Host.divf : A F S16384x512 .f32 → A F S16384x512 .f32 → A F S16384x512 .f32),
    unary main_arg7 main_v51 (broadcastInDim S1x512 ![1] bcast_S512_S1x512_1 : A F S512 .f32 → A F S1x512 .f32),
    unary main_v51 main_v52 (broadcastInDim S16384x512 ![0, 1] bcast_S1x512_S16384x512_0_1 : A F S1x512 .f32 → A F S16384x512 .f32),
    binary main_v50 main_v52 main_v53 (mulf : A F S16384x512 .f32 → A F S16384x512 .f32 → A F S16384x512 .f32),
    unary main_arg8 main_v54 (broadcastInDim S1x512 ![1] bcast_S512_S1x512_1 : A F S512 .f32 → A F S1x512 .f32),
    unary main_v54 main_v55 (broadcastInDim S16384x512 ![0, 1] bcast_S1x512_S16384x512_0_1 : A F S1x512 .f32 → A F S16384x512 .f32),
    binary main_v53 main_v55 main_v56 (addf : A F S16384x512 .f32 → A F S16384x512 .f32 → A F S16384x512 .f32),
    TRef.nullary (TRef.of (T := ⟨S_, .f32⟩) main_call1_cst) (constant S_ .f32 0x00000000#32),
    TRef.unary (TRef.of (T := ⟨S_, .f32⟩) main_call1_cst) (TRef.of (T := ⟨S16384x512, .f32⟩) main_call1_v0) (broadcastInDim S16384x512 ![] bcast_S_S16384x512),
    TRef.binary (TRef.of (T := ⟨S16384x512, .f32⟩) main_v56) (TRef.of (T := ⟨S16384x512, .f32⟩) main_call1_v0) (TRef.of (T := ⟨S16384x512, .f32⟩) main_v57) maximumf ]
abbrev enc1b_W : List (Ref sig .tc) := [main_v50, main_v51, main_v52, main_v53, main_v54, main_v55, main_v56, main_call1_cst, main_call1_v0, main_v57]

abbrev enc2 : List (HloOp τ sig (Elt F)) :=
  [ binary main_v57 main_arg9 main_v58 ((fun l r => Host.dotGeneral dot_S16384x512_S512x256_S16384x256_1_0_0_1_n_n none l r) : A F S16384x512 .f32 → A F S512x256 .f32 → A F S16384x256 .f32),
    unary main_arg10 main_v59 (broadcastInDim S1x256 ![1] bcast_S256_S1x256_1 : A F S256 .f32 → A F S1x256 .f32),
    unary main_v59 main_v60 (broadcastInDim S16384x256 ![0, 1] bcast_S1x256_S16384x256_0_1 : A F S1x256 .f32 → A F S16384x256 .f32),
    binary main_v58 main_v60 main_v61 (addf : A F S16384x256 .f32 → A F S16384x256 .f32 → A F S16384x256 .f32),
    nullary main_cst_9 (constant S_ .f32 0x00000000#32),
    binary main_v61 main_cst_9 main_v62 ((fun x v => Host.reduceAdd x v reducesTo_S16384x256_S16384_d1 h_S_) : A F S16384x256 .f32 → A F S_ .f32 → A F S16384 .f32),
    unary main_v62 main_v63 (broadcastInDim S16384x1 ![0] bcast_S16384_S16384x1_0 : A F S16384 .f32 → A F S16384x1 .f32),
    nullary main_cst_10 (constant S_ .f32 0x43800000#32),
    unary main_cst_10 main_v64 (broadcastInDim S16384x1 ![] bcast_S_S16384x1 : A F S_ .f32 → A F S16384x1 .f32),
    binary main_v63 main_v64 main_v65 (Host.divf : A F S16384x1 .f32 → A F S16384x1 .f32 → A F S16384x1 .f32),
    unary main_v65 main_v66 (broadcastInDim S16384x256 ![0, 1] bcast_S16384x1_S16384x256_0_1 : A F S16384x1 .f32 → A F S16384x256 .f32),
    binary main_v61 main_v66 main_v67 (subf : A F S16384x256 .f32 → A F S16384x256 .f32 → A F S16384x256 .f32),
    binary main_v67 main_v67 main_v68 (mulf : A F S16384x256 .f32 → A F S16384x256 .f32 → A F S16384x256 .f32),
    nullary main_cst_11 (constant S_ .f32 0x00000000#32),
    binary main_v68 main_cst_11 main_v69 ((fun x v => Host.reduceAdd x v reducesTo_S16384x256_S16384_d1 h_S_) : A F S16384x256 .f32 → A F S_ .f32 → A F S16384 .f32),
    unary main_v69 main_v70 (broadcastInDim S16384x1 ![0] bcast_S16384_S16384x1_0 : A F S16384 .f32 → A F S16384x1 .f32),
    nullary main_cst_12 (constant S_ .f32 0x43800000#32),
    unary main_cst_12 main_v71 (broadcastInDim S16384x1 ![] bcast_S_S16384x1 : A F S_ .f32 → A F S16384x1 .f32),
    binary main_v70 main_v71 main_v72 (Host.divf : A F S16384x1 .f32 → A F S16384x1 .f32 → A F S16384x1 .f32),
    unary main_v65 main_v73 (broadcastInDim S16384x256 ![0, 1] bcast_S16384x1_S16384x256_0_1 : A F S16384x1 .f32 → A F S16384x256 .f32),
    binary main_v61 main_v73 main_v74 (subf : A F S16384x256 .f32 → A F S16384x256 .f32 → A F S16384x256 .f32),
    nullary main_cst_13 (constant S_ .f32 0x3727C5AC#32),
    unary main_cst_13 main_v75 (broadcastInDim S16384x1 ![] bcast_S_S16384x1 : A F S_ .f32 → A F S16384x1 .f32),
    binary main_v72 main_v75 main_v76 (addf : A F S16384x1 .f32 → A F S16384x1 .f32 → A F S16384x1 .f32),
    unary main_v76 main_v77 (Host.sqrt : A F S16384x1 .f32 → A F S16384x1 .f32),
    unary main_v77 main_v78 (broadcastInDim S16384x256 ![0, 1] bcast_S16384x1_S16384x256_0_1 : A F S16384x1 .f32 → A F S16384x256 .f32),
    binary main_v74 main_v78 main_v79 (Host.divf : A F S16384x256 .f32 → A F S16384x256 .f32 → A F S16384x256 .f32),
    unary main_arg11 main_v80 (broadcastInDim S1x256 ![1] bcast_S256_S1x256_1 : A F S256 .f32 → A F S1x256 .f32),
    unary main_v80 main_v81 (broadcastInDim S16384x256 ![0, 1] bcast_S1x256_S16384x256_0_1 : A F S1x256 .f32 → A F S16384x256 .f32),
    binary main_v79 main_v81 main_v82 (mulf : A F S16384x256 .f32 → A F S16384x256 .f32 → A F S16384x256 .f32),
    unary main_arg12 main_v83 (broadcastInDim S1x256 ![1] bcast_S256_S1x256_1 : A F S256 .f32 → A F S1x256 .f32),
    unary main_v83 main_v84 (broadcastInDim S16384x256 ![0, 1] bcast_S1x256_S16384x256_0_1 : A F S1x256 .f32 → A F S16384x256 .f32),
    binary main_v82 main_v84 main_v85 (addf : A F S16384x256 .f32 → A F S16384x256 .f32 → A F S16384x256 .f32) ]
abbrev enc2_W : List (Ref sig .tc) := [main_v58, main_v59, main_v60, main_v61, main_cst_9, main_v62, main_v63, main_cst_10, main_v64, main_v65, main_v66, main_v67, main_v68, main_cst_11, main_v69, main_v70, main_cst_12, main_v71, main_v72, main_v73, main_v74, main_cst_13, main_v75, main_v76, main_v77, main_v78, main_v79, main_v80, main_v81, main_v82, main_v83, main_v84, main_v85]

abbrev dist0 : List (HloOp τ sig (Elt F)) :=
  [ nullary main_cst_14 (constant S_ .f32 0x00000000#32),
    unary main_cst_14 main_v86 (broadcastInDim S16384x256 ![] bcast_S_S16384x256 : A F S_ .f32 → A F S16384x256 .f32),
    binary main_v85 main_v85 main_v87 (mulf : A F S16384x256 .f32 → A F S16384x256 .f32 → A F S16384x256 .f32),
    nullary main_cst_15 (constant S_ .f32 0x00000000#32),
    binary main_v87 main_cst_15 main_v88 ((fun x v => Host.reduceAdd x v reducesTo_S16384x256_S16384_d1 h_S_) : A F S16384x256 .f32 → A F S_ .f32 → A F S16384 .f32),
    unary main_v88 main_v89 (broadcastInDim S16384x1 ![0] bcast_S16384_S16384x1_0 : A F S16384 .f32 → A F S16384x1 .f32),
    binary main_arg23 main_arg23 main_v90 (mulf : A F S8x256 .f32 → A F S8x256 .f32 → A F S8x256 .f32),
    nullary main_cst_16 (constant S_ .f32 0x00000000#32),
    binary main_v90 main_cst_16 main_v91 ((fun x v => Host.reduceAdd x v reducesTo_S8x256_S8_d1 h_S_) : A F S8x256 .f32 → A F S_ .f32 → A F S8 .f32),
    unary main_v91 main_v92 (broadcastInDim S1x8 ![1] bcast_S8_S1x8_1 : A F S8 .f32 → A F S1x8 .f32),
    unary main_v89 main_v93 (broadcastInDim S16384x8 ![0, 1] bcast_S16384x1_S16384x8_0_1 : A F S16384x1 .f32 → A F S16384x8 .f32),
    unary main_v92 main_v94 (broadcastInDim S16384x8 ![0, 1] bcast_S1x8_S16384x8_0_1 : A F S1x8 .f32 → A F S16384x8 .f32),
    binary main_v93 main_v94 main_v95 (addf : A F S16384x8 .f32 → A F S16384x8 .f32 → A F S16384x8 .f32),
    nullary main_cst_17 (constant S_ .f32 0x40000000#32),
    unary main_cst_17 main_v96 (broadcastInDim S16384x256 ![] bcast_S_S16384x256 : A F S_ .f32 → A F S16384x256 .f32),
    binary main_v96 main_v85 main_v97 (mulf : A F S16384x256 .f32 → A F S16384x256 .f32 → A F S16384x256 .f32),
    unary main_arg23 main_v98 ((transpose S256x8 [1, 0] · transposes_S8x256_S256x8_1_0) : A F S8x256 .f32 → A F S256x8 .f32),
    binary main_v97 main_v98 main_v99 ((fun l r => Host.dotGeneral dot_S16384x256_S256x8_S16384x8_1_0_0_1_n_n none l r) : A F S16384x256 .f32 → A F S256x8 .f32 → A F S16384x8 .f32),
    binary main_v95 main_v99 main_v100 (subf : A F S16384x8 .f32 → A F S16384x8 .f32 → A F S16384x8 .f32) ]
abbrev dist0_W : List (Ref sig .tc) := [main_cst_14, main_v86, main_v87, main_cst_15, main_v88, main_v89, main_v90, main_cst_16, main_v91, main_v92, main_v93, main_v94, main_v95, main_cst_17, main_v96, main_v97, main_v98, main_v99, main_v100]

abbrev arg0 : List (HloOp τ sig (Elt F)) :=
  [ TRef.nullary (TRef.of (T := ⟨S16384x8, .i32⟩) main_call2_v0) (iotaInDim S16384x8 32 1),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S16384x8, .f32⟩) main_v100) (TRef.of (T := ⟨S16384x8, .i32⟩) main_call2_v0) (TRef.of (T := ⟨S_, .f32⟩) main_call2_cst) (TRef.of (T := ⟨S_, .i32⟩) main_call2_c) (TRef.of (T := ⟨S16384, .f32⟩) main_call2_v1_0) (fun x y u v j => (Host.argReduce reducer_argmin_f32_i32 x y u v reducesTo_S16384x8_S16384_d1 h_S_ j).1),
    TRef.quaternary (TRef.of (T := ⟨S16384x8, .f32⟩) main_v100) (TRef.of (T := ⟨S16384x8, .i32⟩) main_call2_v0) (TRef.of (T := ⟨S_, .f32⟩) main_call2_cst) (TRef.of (T := ⟨S_, .i32⟩) main_call2_c) (TRef.of (T := ⟨S16384, .i32⟩) main_v101) (fun x y u v j => (Host.argReduce reducer_argmin_f32_i32 x y u v reducesTo_S16384x8_S16384_d1 h_S_ j).2) ]
abbrev arg0_W : List (Ref sig .tc) := [main_call2_v0, main_call2_cst, main_call2_c, main_call2_v1_0, main_v101]

abbrev take0 : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S16384, .i32⟩) main_call3_v0) (broadcastInDim S16384 ![] bcast_S_S16384),
    TRef.binary (TRef.of (T := ⟨S16384, .i32⟩) main_v101) (TRef.of (T := ⟨S16384, .i32⟩) main_call3_v0) (TRef.of (T := ⟨S16384, .i1⟩) main_call3_v1) (cmpi .slt),
    TRef.nullary (TRef.of (T := ⟨S_, .i32⟩) main_call3_c_0) (constantI S_ 32 8#32),
    TRef.unary (TRef.of (T := ⟨S_, .i32⟩) main_call3_c_0) (TRef.of (T := ⟨S16384, .i32⟩) main_call3_v2) (broadcastInDim S16384 ![] bcast_S_S16384),
    TRef.binary (TRef.of (T := ⟨S16384, .i32⟩) main_v101) (TRef.of (T := ⟨S16384, .i32⟩) main_call3_v2) (TRef.of (T := ⟨S16384, .i32⟩) main_call3_v3) addi,
    TRef.ternary (TRef.of (T := ⟨S16384, .i1⟩) main_call3_v1) (TRef.of (T := ⟨S16384, .i32⟩) main_call3_v3) (TRef.of (T := ⟨S16384, .i32⟩) main_v101) (TRef.of (T := ⟨S16384, .i32⟩) main_call3_v4) select,
    TRef.unary (TRef.of (T := ⟨S16384, .i32⟩) main_call3_v4) (TRef.of (T := ⟨S16384x1, .i32⟩) main_call3_v5) (broadcastInDim S16384x1 ![0] bcast_S16384_S16384x1_0),
    TRef.nullary (TRef.of (T := ⟨S1, .i32⟩) main_call3_c_1) (constantI S1 32 7#32),
    TRef.nullary (TRef.of (T := ⟨S_, .i32⟩) main_call3_c_2) (constantI S_ 32 0#32),
    TRef.unary (TRef.of (T := ⟨S_, .i32⟩) main_call3_c_2) (TRef.of (T := ⟨S16384x1, .i32⟩) main_call3_v6) (broadcastInDim S16384x1 ![] bcast_S_S16384x1),
    TRef.binary (TRef.of (T := ⟨S16384x1, .i32⟩) main_call3_v5) (TRef.of (T := ⟨S16384x1, .i32⟩) main_call3_v6) (TRef.of (T := ⟨S16384x1, .i1⟩) main_call3_v7) (cmpi .sge),
    TRef.unary (TRef.of (T := ⟨S1, .i32⟩) main_call3_c_1) (TRef.of (T := ⟨S1x1, .i32⟩) main_call3_v8) (broadcastInDim S1x1 ![1] bcast_S1_S1x1_1),
    TRef.unary (TRef.of (T := ⟨S1x1, .i32⟩) main_call3_v8) (TRef.of (T := ⟨S16384x1, .i32⟩) main_call3_v9) (broadcastInDim S16384x1 ![0, 1] bcast_S1x1_S16384x1_0_1),
    TRef.binary (TRef.of (T := ⟨S16384x1, .i32⟩) main_call3_v5) (TRef.of (T := ⟨S16384x1, .i32⟩) main_call3_v9) (TRef.of (T := ⟨S16384x1, .i1⟩) main_call3_v10) (cmpi .sle),
    TRef.binary (TRef.of (T := ⟨S16384x1, .i1⟩) main_call3_v7) (TRef.of (T := ⟨S16384x1, .i1⟩) main_call3_v10) (TRef.of (T := ⟨S16384x1, .i1⟩) main_call3_v11) andi,
    TRef.nullary (TRef.of (T := ⟨S_, .i1⟩) main_call3_c_3) (constantI S_ 1 1#1),
    TRef.binary (TRef.of (T := ⟨S16384x1, .i1⟩) main_call3_v11) (TRef.of (T := ⟨S_, .i1⟩) main_call3_c_3) (TRef.of (T := ⟨S16384, .i1⟩) main_call3_v12) (fun x v => Host.reduce IntOp.andi x v reducesTo_S16384x1_S16384_d1 h_S_),
    TRef.binary (TRef.of (T := ⟨S8x256, .f32⟩) main_arg23) (TRef.of (T := ⟨S16384x1, .i32⟩) main_call3_v5) (TRef.of (T := ⟨S16384x256, .f32⟩) main_call3_v13) (fun x i => Host.gather gather_S8x256_S16384x1_S16384x256_1_0_n_n_0_1_1256 x i),
    TRef.unary (TRef.of (T := ⟨S16384, .i1⟩) main_call3_v12) (TRef.of (T := ⟨S16384x256, .i1⟩) main_call3_v14) (broadcastInDim S16384x256 ![0] bcast_S16384_S16384x256_0),
    TRef.nullary (TRef.of (T := ⟨S_, .f32⟩) main_call3_cst) (constant S_ .f32 0x7FC00000#32),
    TRef.unary (TRef.of (T := ⟨S_, .f32⟩) main_call3_cst) (TRef.of (T := ⟨S16384x256, .f32⟩) main_call3_v15) (broadcastInDim S16384x256 ![] bcast_S_S16384x256),
    TRef.ternary (TRef.of (T := ⟨S16384x256, .i1⟩) main_call3_v14) (TRef.of (T := ⟨S16384x256, .f32⟩) main_call3_v13) (TRef.of (T := ⟨S16384x256, .f32⟩) main_call3_v15) (TRef.of (T := ⟨S16384x256, .f32⟩) main_v102) select ]
abbrev take0_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v102]

abbrev upd0 : List (HloOp τ sig (Elt F)) :=
  [ binary main_v102 main_v85 main_v103 (subf : A F S16384x256 .f32 → A F S16384x256 .f32 → A F S16384x256 .f32),
    binary main_v103 main_v103 main_v104 (mulf : A F S16384x256 .f32 → A F S16384x256 .f32 → A F S16384x256 .f32),
    nullary main_cst_18 (constant S_ .f32 0x00000000#32),
    binary main_v104 main_cst_18 main_v105 ((fun x v => Host.reduceAdd x v reducesTo_S16384x256_S_d0_1 h_S_) : A F S16384x256 .f32 → A F S_ .f32 → A F S_ .f32),
    nullary main_cst_19 (constant S_ .f32 0x4A800000#32),
    binary main_v105 main_cst_19 main_v106 (Host.divf : A F S_ .f32 → A F S_ .f32 → A F S_ .f32),
    nullary main_cst_20 (constant S_ .f32 0x3F000000#32),
    binary main_cst_20 main_v106 main_v107 (mulf : A F S_ .f32 → A F S_ .f32 → A F S_ .f32),
    nullary main_cst_21 (constant S_ .f32 0x00000000#32),
    binary main_cst_21 main_v107 main_v108 (addf : A F S_ .f32 → A F S_ .f32 → A F S_ .f32),
    binary main_v102 main_v85 main_v109 (subf : A F S16384x256 .f32 → A F S16384x256 .f32 → A F S16384x256 .f32),
    binary main_v85 main_v109 main_v110 (addf : A F S16384x256 .f32 → A F S16384x256 .f32 → A F S16384x256 .f32),
    binary main_v86 main_v110 main_v111 (addf : A F S16384x256 .f32 → A F S16384x256 .f32 → A F S16384x256 .f32),
    binary main_v85 main_v110 main_v112 (subf : A F S16384x256 .f32 → A F S16384x256 .f32 → A F S16384x256 .f32) ]
abbrev upd0_W : List (Ref sig .tc) := [main_v103, main_v104, main_cst_18, main_v105, main_cst_19, main_v106, main_cst_20, main_v107, main_cst_21, main_v108, main_v109, main_v110, main_v111, main_v112]

abbrev dist1 : List (HloOp τ sig (Elt F)) :=
  [ binary main_v112 main_v112 main_v113 (mulf : A F S16384x256 .f32 → A F S16384x256 .f32 → A F S16384x256 .f32),
    nullary main_cst_22 (constant S_ .f32 0x00000000#32),
    binary main_v113 main_cst_22 main_v114 ((fun x v => Host.reduceAdd x v reducesTo_S16384x256_S16384_d1 h_S_) : A F S16384x256 .f32 → A F S_ .f32 → A F S16384 .f32),
    unary main_v114 main_v115 (broadcastInDim S16384x1 ![0] bcast_S16384_S16384x1_0 : A F S16384 .f32 → A F S16384x1 .f32),
    binary main_arg24 main_arg24 main_v116 (mulf : A F S64x256 .f32 → A F S64x256 .f32 → A F S64x256 .f32),
    nullary main_cst_23 (constant S_ .f32 0x00000000#32),
    binary main_v116 main_cst_23 main_v117 ((fun x v => Host.reduceAdd x v reducesTo_S64x256_S64_d1 h_S_) : A F S64x256 .f32 → A F S_ .f32 → A F S64 .f32),
    unary main_v117 main_v118 (broadcastInDim S1x64 ![1] bcast_S64_S1x64_1 : A F S64 .f32 → A F S1x64 .f32),
    unary main_v115 main_v119 (broadcastInDim S16384x64 ![0, 1] bcast_S16384x1_S16384x64_0_1 : A F S16384x1 .f32 → A F S16384x64 .f32),
    unary main_v118 main_v120 (broadcastInDim S16384x64 ![0, 1] bcast_S1x64_S16384x64_0_1 : A F S1x64 .f32 → A F S16384x64 .f32),
    binary main_v119 main_v120 main_v121 (addf : A F S16384x64 .f32 → A F S16384x64 .f32 → A F S16384x64 .f32),
    nullary main_cst_24 (constant S_ .f32 0x40000000#32),
    unary main_cst_24 main_v122 (broadcastInDim S16384x256 ![] bcast_S_S16384x256 : A F S_ .f32 → A F S16384x256 .f32),
    binary main_v122 main_v112 main_v123 (mulf : A F S16384x256 .f32 → A F S16384x256 .f32 → A F S16384x256 .f32),
    unary main_arg24 main_v124 ((transpose S256x64 [1, 0] · transposes_S64x256_S256x64_1_0) : A F S64x256 .f32 → A F S256x64 .f32),
    binary main_v123 main_v124 main_v125 ((fun l r => Host.dotGeneral dot_S16384x256_S256x64_S16384x64_1_0_0_1_n_n none l r) : A F S16384x256 .f32 → A F S256x64 .f32 → A F S16384x64 .f32),
    binary main_v121 main_v125 main_v126 (subf : A F S16384x64 .f32 → A F S16384x64 .f32 → A F S16384x64 .f32) ]
abbrev dist1_W : List (Ref sig .tc) := [main_v113, main_cst_22, main_v114, main_v115, main_v116, main_cst_23, main_v117, main_v118, main_v119, main_v120, main_v121, main_cst_24, main_v122, main_v123, main_v124, main_v125, main_v126]

abbrev arg1 : List (HloOp τ sig (Elt F)) :=
  [ TRef.nullary (TRef.of (T := ⟨S16384x64, .i32⟩) main_call4_v0) (iotaInDim S16384x64 32 1),
    TRef.nullary (TRef.of (T := ⟨S_, .f32⟩) main_call4_cst) (constant S_ .f32 0x7F800000#32),
    TRef.nullary (TRef.of (T := ⟨S_, .i32⟩) main_call4_c) (constantI S_ 32 0#32),
    TRef.quaternary (TRef.of (T := ⟨S16384x64, .f32⟩) main_v126) (TRef.of (T := ⟨S16384x64, .i32⟩) main_call4_v0) (TRef.of (T := ⟨S_, .f32⟩) main_call4_cst) (TRef.of (T := ⟨S_, .i32⟩) main_call4_c) (TRef.of (T := ⟨S16384, .f32⟩) main_call4_v1_0) (fun x y u v j => (Host.argReduce reducer_argmin_f32_i32 x y u v reducesTo_S16384x64_S16384_d1 h_S_ j).1),
    TRef.quaternary (TRef.of (T := ⟨S16384x64, .f32⟩) main_v126) (TRef.of (T := ⟨S16384x64, .i32⟩) main_call4_v0) (TRef.of (T := ⟨S_, .f32⟩) main_call4_cst) (TRef.of (T := ⟨S_, .i32⟩) main_call4_c) (TRef.of (T := ⟨S16384, .i32⟩) main_v127) (fun x y u v j => (Host.argReduce reducer_argmin_f32_i32 x y u v reducesTo_S16384x64_S16384_d1 h_S_ j).2) ]
abbrev arg1_W : List (Ref sig .tc) := [main_call4_v0, main_call4_cst, main_call4_c, main_call4_v1_0, main_v127]

abbrev take1 : List (HloOp τ sig (Elt F)) :=
  [ TRef.nullary (TRef.of (T := ⟨S_, .i32⟩) main_call5_c) (constantI S_ 32 0#32),
    TRef.unary (TRef.of (T := ⟨S_, .i32⟩) main_call5_c) (TRef.of (T := ⟨S16384, .i32⟩) main_call5_v0) (broadcastInDim S16384 ![] bcast_S_S16384),
    TRef.binary (TRef.of (T := ⟨S16384, .i32⟩) main_v127) (TRef.of (T := ⟨S16384, .i32⟩) main_call5_v0) (TRef.of (T := ⟨S16384, .i1⟩) main_call5_v1) (cmpi .slt),
    TRef.nullary (TRef.of (T := ⟨S_, .i32⟩) main_call5_c_0) (constantI S_ 32 64#32),
    TRef.unary (TRef.of (T := ⟨S_, .i32⟩) main_call5_c_0) (TRef.of (T := ⟨S16384, .i32⟩) main_call5_v2) (broadcastInDim S16384 ![] bcast_S_S16384),
    TRef.binary (TRef.of (T := ⟨S16384, .i32⟩) main_v127) (TRef.of (T := ⟨S16384, .i32⟩) main_call5_v2) (TRef.of (T := ⟨S16384, .i32⟩) main_call5_v3) addi,
    TRef.ternary (TRef.of (T := ⟨S16384, .i1⟩) main_call5_v1) (TRef.of (T := ⟨S16384, .i32⟩) main_call5_v3) (TRef.of (T := ⟨S16384, .i32⟩) main_v127) (TRef.of (T := ⟨S16384, .i32⟩) main_call5_v4) select,
    TRef.unary (TRef.of (T := ⟨S16384, .i32⟩) main_call5_v4) (TRef.of (T := ⟨S16384x1, .i32⟩) main_call5_v5) (broadcastInDim S16384x1 ![0] bcast_S16384_S16384x1_0),
    TRef.nullary (TRef.of (T := ⟨S1, .i32⟩) main_call5_c_1) (constantI S1 32 63#32),
    TRef.nullary (TRef.of (T := ⟨S_, .i32⟩) main_call5_c_2) (constantI S_ 32 0#32),
    TRef.unary (TRef.of (T := ⟨S_, .i32⟩) main_call5_c_2) (TRef.of (T := ⟨S16384x1, .i32⟩) main_call5_v6) (broadcastInDim S16384x1 ![] bcast_S_S16384x1),
    TRef.binary (TRef.of (T := ⟨S16384x1, .i32⟩) main_call5_v5) (TRef.of (T := ⟨S16384x1, .i32⟩) main_call5_v6) (TRef.of (T := ⟨S16384x1, .i1⟩) main_call5_v7) (cmpi .sge),
    TRef.unary (TRef.of (T := ⟨S1, .i32⟩) main_call5_c_1) (TRef.of (T := ⟨S1x1, .i32⟩) main_call5_v8) (broadcastInDim S1x1 ![1] bcast_S1_S1x1_1),
    TRef.unary (TRef.of (T := ⟨S1x1, .i32⟩) main_call5_v8) (TRef.of (T := ⟨S16384x1, .i32⟩) main_call5_v9) (broadcastInDim S16384x1 ![0, 1] bcast_S1x1_S16384x1_0_1),
    TRef.binary (TRef.of (T := ⟨S16384x1, .i32⟩) main_call5_v5) (TRef.of (T := ⟨S16384x1, .i32⟩) main_call5_v9) (TRef.of (T := ⟨S16384x1, .i1⟩) main_call5_v10) (cmpi .sle),
    TRef.binary (TRef.of (T := ⟨S16384x1, .i1⟩) main_call5_v7) (TRef.of (T := ⟨S16384x1, .i1⟩) main_call5_v10) (TRef.of (T := ⟨S16384x1, .i1⟩) main_call5_v11) andi,
    TRef.nullary (TRef.of (T := ⟨S_, .i1⟩) main_call5_c_3) (constantI S_ 1 1#1),
    TRef.binary (TRef.of (T := ⟨S16384x1, .i1⟩) main_call5_v11) (TRef.of (T := ⟨S_, .i1⟩) main_call5_c_3) (TRef.of (T := ⟨S16384, .i1⟩) main_call5_v12) (fun x v => Host.reduce IntOp.andi x v reducesTo_S16384x1_S16384_d1 h_S_),
    TRef.binary (TRef.of (T := ⟨S64x256, .f32⟩) main_arg24) (TRef.of (T := ⟨S16384x1, .i32⟩) main_call5_v5) (TRef.of (T := ⟨S16384x256, .f32⟩) main_call5_v13) (fun x i => Host.gather gather_S64x256_S16384x1_S16384x256_1_0_n_n_0_1_1256 x i),
    TRef.unary (TRef.of (T := ⟨S16384, .i1⟩) main_call5_v12) (TRef.of (T := ⟨S16384x256, .i1⟩) main_call5_v14) (broadcastInDim S16384x256 ![0] bcast_S16384_S16384x256_0),
    TRef.nullary (TRef.of (T := ⟨S_, .f32⟩) main_call5_cst) (constant S_ .f32 0x7FC00000#32),
    TRef.unary (TRef.of (T := ⟨S_, .f32⟩) main_call5_cst) (TRef.of (T := ⟨S16384x256, .f32⟩) main_call5_v15) (broadcastInDim S16384x256 ![] bcast_S_S16384x256),
    TRef.ternary (TRef.of (T := ⟨S16384x256, .i1⟩) main_call5_v14) (TRef.of (T := ⟨S16384x256, .f32⟩) main_call5_v13) (TRef.of (T := ⟨S16384x256, .f32⟩) main_call5_v15) (TRef.of (T := ⟨S16384x256, .f32⟩) main_v128) select ]
abbrev take1_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v128]

abbrev upd1 : List (HloOp τ sig (Elt F)) :=
  [ binary main_v128 main_v112 main_v129 (subf : A F S16384x256 .f32 → A F S16384x256 .f32 → A F S16384x256 .f32),
    binary main_v129 main_v129 main_v130 (mulf : A F S16384x256 .f32 → A F S16384x256 .f32 → A F S16384x256 .f32),
    nullary main_cst_25 (constant S_ .f32 0x00000000#32),
    binary main_v130 main_cst_25 main_v131 ((fun x v => Host.reduceAdd x v reducesTo_S16384x256_S_d0_1 h_S_) : A F S16384x256 .f32 → A F S_ .f32 → A F S_ .f32),
    nullary main_cst_26 (constant S_ .f32 0x4A800000#32),
    binary main_v131 main_cst_26 main_v132 (Host.divf : A F S_ .f32 → A F S_ .f32 → A F S_ .f32),
    nullary main_cst_27 (constant S_ .f32 0x3F000000#32),
    binary main_cst_27 main_v132 main_v133 (mulf : A F S_ .f32 → A F S_ .f32 → A F S_ .f32),
    binary main_v108 main_v133 main_v134 (addf : A F S_ .f32 → A F S_ .f32 → A F S_ .f32),
    binary main_v128 main_v112 main_v135 (subf : A F S16384x256 .f32 → A F S16384x256 .f32 → A F S16384x256 .f32),
    binary main_v112 main_v135 main_v136 (addf : A F S16384x256 .f32 → A F S16384x256 .f32 → A F S16384x256 .f32),
    binary main_v111 main_v136 main_v137 (addf : A F S16384x256 .f32 → A F S16384x256 .f32 → A F S16384x256 .f32),
    binary main_v112 main_v136 main_v138 (subf : A F S16384x256 .f32 → A F S16384x256 .f32 → A F S16384x256 .f32) ]
abbrev upd1_W : List (Ref sig .tc) := [main_v129, main_v130, main_cst_25, main_v131, main_cst_26, main_v132, main_cst_27, main_v133, main_v134, main_v135, main_v136, main_v137, main_v138]

abbrev dist2a : List (HloOp τ sig (Elt F)) :=
  [ binary main_v138 main_v138 main_v139 (mulf : A F S16384x256 .f32 → A F S16384x256 .f32 → A F S16384x256 .f32),
    nullary main_cst_28 (constant S_ .f32 0x00000000#32),
    binary main_v139 main_cst_28 main_v140 ((fun x v => Host.reduceAdd x v reducesTo_S16384x256_S16384_d1 h_S_) : A F S16384x256 .f32 → A F S_ .f32 → A F S16384 .f32),
    unary main_v140 main_v141 (broadcastInDim S16384x1 ![0] bcast_S16384_S16384x1_0 : A F S16384 .f32 → A F S16384x1 .f32),
    binary main_arg25 main_arg25 main_v142 (mulf : A F S512x256 .f32 → A F S512x256 .f32 → A F S512x256 .f32),
    nullary main_cst_29 (constant S_ .f32 0x00000000#32),
    binary main_v142 main_cst_29 main_v143 ((fun x v => Host.reduceAdd x v reducesTo_S512x256_S512_d1 h_S_) : A F S512x256 .f32 → A F S_ .f32 → A F S512 .f32),
    unary main_v143 main_v144 (broadcastInDim S1x512 ![1] bcast_S512_S1x512_1 : A F S512 .f32 → A F S1x512 .f32),
    unary main_v141 main_v145 (broadcastInDim S16384x512 ![0, 1] bcast_S16384x1_S16384x512_0_1 : A F S16384x1 .f32 → A F S16384x512 .f32),
    unary main_v144 main_v146 (broadcastInDim S16384x512 ![0, 1] bcast_S1x512_S16384x512_0_1 : A F S1x512 .f32 → A F S16384x512 .f32),
    binary main_v145 main_v146 main_v147 (addf : A F S16384x512 .f32 → A F S16384x512 .f32 → A F S16384x512 .f32),
    nullary main_cst_30 (constant S_ .f32 0x40000000#32) ]
abbrev dist2a_W : List (Ref sig .tc) := [main_v139, main_cst_28, main_v140, main_v141, main_v142, main_cst_29, main_v143, main_v144, main_v145, main_v146, main_v147, main_cst_30]

abbrev dist2b : List (HloOp τ sig (Elt F)) :=
  [ unary main_cst_30 main_v148 (broadcastInDim S16384x256 ![] bcast_S_S16384x256 : A F S_ .f32 → A F S16384x256 .f32),
    binary main_v148 main_v138 main_v149 (mulf : A F S16384x256 .f32 → A F S16384x256 .f32 → A F S16384x256 .f32),
    unary main_arg25 main_v150 ((transpose S256x512 [1, 0] · transposes_S512x256_S256x512_1_0) : A F S512x256 .f32 → A F S256x512 .f32),
    binary main_v149 main_v150 main_v151 ((fun l r => Host.dotGeneral dot_S16384x256_S256x512_S16384x512_1_0_0_1_n_n none l r) : A F S16384x256 .f32 → A F S256x512 .f32 → A F S16384x512 .f32),
    binary main_v147 main_v151 main_v152 (subf : A F S16384x512 .f32 → A F S16384x512 .f32 → A F S16384x512 .f32) ]
abbrev dist2b_W : List (Ref sig .tc) := [main_v148, main_v149, main_v150, main_v151, main_v152]

abbrev arg2 : List (HloOp τ sig (Elt F)) :=
  [ TRef.nullary (TRef.of (T := ⟨S16384x512, .i32⟩) main_call6_v0) (iotaInDim S16384x512 32 1),
    TRef.nullary (TRef.of (T := ⟨S_, .f32⟩) main_call6_cst) (constant S_ .f32 0x7F800000#32),
    TRef.nullary (TRef.of (T := ⟨S_, .i32⟩) main_call6_c) (constantI S_ 32 0#32),
    TRef.quaternary (TRef.of (T := ⟨S16384x512, .f32⟩) main_v152) (TRef.of (T := ⟨S16384x512, .i32⟩) main_call6_v0) (TRef.of (T := ⟨S_, .f32⟩) main_call6_cst) (TRef.of (T := ⟨S_, .i32⟩) main_call6_c) (TRef.of (T := ⟨S16384, .f32⟩) main_call6_v1_0) (fun x y u v j => (Host.argReduce reducer_argmin_f32_i32 x y u v reducesTo_S16384x512_S16384_d1 h_S_ j).1),
    TRef.quaternary (TRef.of (T := ⟨S16384x512, .f32⟩) main_v152) (TRef.of (T := ⟨S16384x512, .i32⟩) main_call6_v0) (TRef.of (T := ⟨S_, .f32⟩) main_call6_cst) (TRef.of (T := ⟨S_, .i32⟩) main_call6_c) (TRef.of (T := ⟨S16384, .i32⟩) main_v153) (fun x y u v j => (Host.argReduce reducer_argmin_f32_i32 x y u v reducesTo_S16384x512_S16384_d1 h_S_ j).2) ]
abbrev arg2_W : List (Ref sig .tc) := [main_call6_v0, main_call6_cst, main_call6_c, main_call6_v1_0, main_v153]

abbrev take2 : List (HloOp τ sig (Elt F)) :=
  [ TRef.nullary (TRef.of (T := ⟨S_, .i32⟩) main_call7_c) (constantI S_ 32 0#32),
    TRef.unary (TRef.of (T := ⟨S_, .i32⟩) main_call7_c) (TRef.of (T := ⟨S16384, .i32⟩) main_call7_v0) (broadcastInDim S16384 ![] bcast_S_S16384),
    TRef.binary (TRef.of (T := ⟨S16384, .i32⟩) main_v153) (TRef.of (T := ⟨S16384, .i32⟩) main_call7_v0) (TRef.of (T := ⟨S16384, .i1⟩) main_call7_v1) (cmpi .slt),
    TRef.nullary (TRef.of (T := ⟨S_, .i32⟩) main_call7_c_0) (constantI S_ 32 512#32),
    TRef.unary (TRef.of (T := ⟨S_, .i32⟩) main_call7_c_0) (TRef.of (T := ⟨S16384, .i32⟩) main_call7_v2) (broadcastInDim S16384 ![] bcast_S_S16384),
    TRef.binary (TRef.of (T := ⟨S16384, .i32⟩) main_v153) (TRef.of (T := ⟨S16384, .i32⟩) main_call7_v2) (TRef.of (T := ⟨S16384, .i32⟩) main_call7_v3) addi,
    TRef.ternary (TRef.of (T := ⟨S16384, .i1⟩) main_call7_v1) (TRef.of (T := ⟨S16384, .i32⟩) main_call7_v3) (TRef.of (T := ⟨S16384, .i32⟩) main_v153) (TRef.of (T := ⟨S16384, .i32⟩) main_call7_v4) select,
    TRef.unary (TRef.of (T := ⟨S16384, .i32⟩) main_call7_v4) (TRef.of (T := ⟨S16384x1, .i32⟩) main_call7_v5) (broadcastInDim S16384x1 ![0] bcast_S16384_S16384x1_0),
    TRef.nullary (TRef.of (T := ⟨S1, .i32⟩) main_call7_c_1) (constantI S1 32 511#32),
    TRef.nullary (TRef.of (T := ⟨S_, .i32⟩) main_call7_c_2) (constantI S_ 32 0#32),
    TRef.unary (TRef.of (T := ⟨S_, .i32⟩) main_call7_c_2) (TRef.of (T := ⟨S16384x1, .i32⟩) main_call7_v6) (broadcastInDim S16384x1 ![] bcast_S_S16384x1),
    TRef.binary (TRef.of (T := ⟨S16384x1, .i32⟩) main_call7_v5) (TRef.of (T := ⟨S16384x1, .i32⟩) main_call7_v6) (TRef.of (T := ⟨S16384x1, .i1⟩) main_call7_v7) (cmpi .sge),
    TRef.unary (TRef.of (T := ⟨S1, .i32⟩) main_call7_c_1) (TRef.of (T := ⟨S1x1, .i32⟩) main_call7_v8) (broadcastInDim S1x1 ![1] bcast_S1_S1x1_1),
    TRef.unary (TRef.of (T := ⟨S1x1, .i32⟩) main_call7_v8) (TRef.of (T := ⟨S16384x1, .i32⟩) main_call7_v9) (broadcastInDim S16384x1 ![0, 1] bcast_S1x1_S16384x1_0_1),
    TRef.binary (TRef.of (T := ⟨S16384x1, .i32⟩) main_call7_v5) (TRef.of (T := ⟨S16384x1, .i32⟩) main_call7_v9) (TRef.of (T := ⟨S16384x1, .i1⟩) main_call7_v10) (cmpi .sle),
    TRef.binary (TRef.of (T := ⟨S16384x1, .i1⟩) main_call7_v7) (TRef.of (T := ⟨S16384x1, .i1⟩) main_call7_v10) (TRef.of (T := ⟨S16384x1, .i1⟩) main_call7_v11) andi,
    TRef.nullary (TRef.of (T := ⟨S_, .i1⟩) main_call7_c_3) (constantI S_ 1 1#1),
    TRef.binary (TRef.of (T := ⟨S16384x1, .i1⟩) main_call7_v11) (TRef.of (T := ⟨S_, .i1⟩) main_call7_c_3) (TRef.of (T := ⟨S16384, .i1⟩) main_call7_v12) (fun x v => Host.reduce IntOp.andi x v reducesTo_S16384x1_S16384_d1 h_S_),
    TRef.binary (TRef.of (T := ⟨S512x256, .f32⟩) main_arg25) (TRef.of (T := ⟨S16384x1, .i32⟩) main_call7_v5) (TRef.of (T := ⟨S16384x256, .f32⟩) main_call7_v13) (fun x i => Host.gather gather_S512x256_S16384x1_S16384x256_1_0_n_n_0_1_1256 x i),
    TRef.unary (TRef.of (T := ⟨S16384, .i1⟩) main_call7_v12) (TRef.of (T := ⟨S16384x256, .i1⟩) main_call7_v14) (broadcastInDim S16384x256 ![0] bcast_S16384_S16384x256_0),
    TRef.nullary (TRef.of (T := ⟨S_, .f32⟩) main_call7_cst) (constant S_ .f32 0x7FC00000#32),
    TRef.unary (TRef.of (T := ⟨S_, .f32⟩) main_call7_cst) (TRef.of (T := ⟨S16384x256, .f32⟩) main_call7_v15) (broadcastInDim S16384x256 ![] bcast_S_S16384x256),
    TRef.ternary (TRef.of (T := ⟨S16384x256, .i1⟩) main_call7_v14) (TRef.of (T := ⟨S16384x256, .f32⟩) main_call7_v13) (TRef.of (T := ⟨S16384x256, .f32⟩) main_call7_v15) (TRef.of (T := ⟨S16384x256, .f32⟩) main_v154) select ]
abbrev take2_W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v154]

abbrev upd2 : List (HloOp τ sig (Elt F)) :=
  [ binary main_v154 main_v138 main_v155 (subf : A F S16384x256 .f32 → A F S16384x256 .f32 → A F S16384x256 .f32),
    binary main_v155 main_v155 main_v156 (mulf : A F S16384x256 .f32 → A F S16384x256 .f32 → A F S16384x256 .f32),
    nullary main_cst_31 (constant S_ .f32 0x00000000#32),
    binary main_v156 main_cst_31 main_v157 ((fun x v => Host.reduceAdd x v reducesTo_S16384x256_S_d0_1 h_S_) : A F S16384x256 .f32 → A F S_ .f32 → A F S_ .f32),
    nullary main_cst_32 (constant S_ .f32 0x4A800000#32),
    binary main_v157 main_cst_32 main_v158 (Host.divf : A F S_ .f32 → A F S_ .f32 → A F S_ .f32),
    nullary main_cst_33 (constant S_ .f32 0x3F000000#32),
    binary main_cst_33 main_v158 main_v159 (mulf : A F S_ .f32 → A F S_ .f32 → A F S_ .f32),
    binary main_v134 main_v159 main_v160 (addf : A F S_ .f32 → A F S_ .f32 → A F S_ .f32),
    binary main_v154 main_v138 main_v161 (subf : A F S16384x256 .f32 → A F S16384x256 .f32 → A F S16384x256 .f32),
    binary main_v138 main_v161 main_v162 (addf : A F S16384x256 .f32 → A F S16384x256 .f32 → A F S16384x256 .f32),
    binary main_v137 main_v162 main_v163 (addf : A F S16384x256 .f32 → A F S16384x256 .f32 → A F S16384x256 .f32),
    binary main_v138 main_v162 main_v164 (subf : A F S16384x256 .f32 → A F S16384x256 .f32 → A F S16384x256 .f32) ]
abbrev upd2_W : List (Ref sig .tc) := [main_v155, main_v156, main_cst_31, main_v157, main_cst_32, main_v158, main_cst_33, main_v159, main_v160, main_v161, main_v162, main_v163, main_v164]

abbrev dec0 : List (HloOp τ sig (Elt F)) :=
  [ binary main_v163 main_arg13 main_v165 ((fun l r => Host.dotGeneral dot_S16384x256_S256x512_S16384x512_1_0_0_1_n_n none l r) : A F S16384x256 .f32 → A F S256x512 .f32 → A F S16384x512 .f32),
    unary main_arg14 main_v166 (broadcastInDim S1x512 ![1] bcast_S512_S1x512_1 : A F S512 .f32 → A F S1x512 .f32),
    unary main_v166 main_v167 (broadcastInDim S16384x512 ![0, 1] bcast_S1x512_S16384x512_0_1 : A F S1x512 .f32 → A F S16384x512 .f32),
    binary main_v165 main_v167 main_v168 (addf : A F S16384x512 .f32 → A F S16384x512 .f32 → A F S16384x512 .f32),
    nullary main_cst_34 (constant S_ .f32 0x00000000#32),
    binary main_v168 main_cst_34 main_v169 ((fun x v => Host.reduceAdd x v reducesTo_S16384x512_S16384_d1 h_S_) : A F S16384x512 .f32 → A F S_ .f32 → A F S16384 .f32),
    unary main_v169 main_v170 (broadcastInDim S16384x1 ![0] bcast_S16384_S16384x1_0 : A F S16384 .f32 → A F S16384x1 .f32),
    nullary main_cst_35 (constant S_ .f32 0x44000000#32),
    unary main_cst_35 main_v171 (broadcastInDim S16384x1 ![] bcast_S_S16384x1 : A F S_ .f32 → A F S16384x1 .f32),
    binary main_v170 main_v171 main_v172 (Host.divf : A F S16384x1 .f32 → A F S16384x1 .f32 → A F S16384x1 .f32),
    unary main_v172 main_v173 (broadcastInDim S16384x512 ![0, 1] bcast_S16384x1_S16384x512_0_1 : A F S16384x1 .f32 → A F S16384x512 .f32),
    binary main_v168 main_v173 main_v174 (subf : A F S16384x512 .f32 → A F S16384x512 .f32 → A F S16384x512 .f32),
    binary main_v174 main_v174 main_v175 (mulf : A F S16384x512 .f32 → A F S16384x512 .f32 → A F S16384x512 .f32),
    nullary main_cst_36 (constant S_ .f32 0x00000000#32),
    binary main_v175 main_cst_36 main_v176 ((fun x v => Host.reduceAdd x v reducesTo_S16384x512_S16384_d1 h_S_) : A F S16384x512 .f32 → A F S_ .f32 → A F S16384 .f32),
    unary main_v176 main_v177 (broadcastInDim S16384x1 ![0] bcast_S16384_S16384x1_0 : A F S16384 .f32 → A F S16384x1 .f32),
    nullary main_cst_37 (constant S_ .f32 0x44000000#32),
    unary main_cst_37 main_v178 (broadcastInDim S16384x1 ![] bcast_S_S16384x1 : A F S_ .f32 → A F S16384x1 .f32),
    binary main_v177 main_v178 main_v179 (Host.divf : A F S16384x1 .f32 → A F S16384x1 .f32 → A F S16384x1 .f32),
    unary main_v172 main_v180 (broadcastInDim S16384x512 ![0, 1] bcast_S16384x1_S16384x512_0_1 : A F S16384x1 .f32 → A F S16384x512 .f32),
    binary main_v168 main_v180 main_v181 (subf : A F S16384x512 .f32 → A F S16384x512 .f32 → A F S16384x512 .f32),
    nullary main_cst_38 (constant S_ .f32 0x3727C5AC#32),
    unary main_cst_38 main_v182 (broadcastInDim S16384x1 ![] bcast_S_S16384x1 : A F S_ .f32 → A F S16384x1 .f32),
    binary main_v179 main_v182 main_v183 (addf : A F S16384x1 .f32 → A F S16384x1 .f32 → A F S16384x1 .f32),
    unary main_v183 main_v184 (Host.sqrt : A F S16384x1 .f32 → A F S16384x1 .f32),
    unary main_v184 main_v185 (broadcastInDim S16384x512 ![0, 1] bcast_S16384x1_S16384x512_0_1 : A F S16384x1 .f32 → A F S16384x512 .f32),
    binary main_v181 main_v185 main_v186 (Host.divf : A F S16384x512 .f32 → A F S16384x512 .f32 → A F S16384x512 .f32),
    unary main_arg19 main_v187 (broadcastInDim S1x512 ![1] bcast_S512_S1x512_1 : A F S512 .f32 → A F S1x512 .f32),
    unary main_v187 main_v188 (broadcastInDim S16384x512 ![0, 1] bcast_S1x512_S16384x512_0_1 : A F S1x512 .f32 → A F S16384x512 .f32),
    binary main_v186 main_v188 main_v189 (mulf : A F S16384x512 .f32 → A F S16384x512 .f32 → A F S16384x512 .f32),
    unary main_arg20 main_v190 (broadcastInDim S1x512 ![1] bcast_S512_S1x512_1 : A F S512 .f32 → A F S1x512 .f32),
    unary main_v190 main_v191 (broadcastInDim S16384x512 ![0, 1] bcast_S1x512_S16384x512_0_1 : A F S1x512 .f32 → A F S16384x512 .f32),
    binary main_v189 main_v191 main_v192 (addf : A F S16384x512 .f32 → A F S16384x512 .f32 → A F S16384x512 .f32),
    TRef.nullary (TRef.of (T := ⟨S_, .f32⟩) main_call8_cst) (constant S_ .f32 0x00000000#32),
    TRef.unary (TRef.of (T := ⟨S_, .f32⟩) main_call8_cst) (TRef.of (T := ⟨S16384x512, .f32⟩) main_call8_v0) (broadcastInDim S16384x512 ![] bcast_S_S16384x512),
    TRef.binary (TRef.of (T := ⟨S16384x512, .f32⟩) main_v192) (TRef.of (T := ⟨S16384x512, .f32⟩) main_call8_v0) (TRef.of (T := ⟨S16384x512, .f32⟩) main_v193) maximumf ]
abbrev dec0_W : List (Ref sig .tc) := [main_v165, main_v166, main_v167, main_v168, main_cst_34, main_v169, main_v170, main_cst_35, main_v171, main_v172, main_v173, main_v174, main_v175, main_cst_36, main_v176, main_v177, main_cst_37, main_v178, main_v179, main_v180, main_v181, main_cst_38, main_v182, main_v183, main_v184, main_v185, main_v186, main_v187, main_v188, main_v189, main_v190, main_v191, main_v192, main_call8_cst, main_call8_v0, main_v193]

abbrev dec1a : List (HloOp τ sig (Elt F)) :=
  [ binary main_v193 main_arg15 main_v194 ((fun l r => Host.dotGeneral dot_S16384x512_S512x768_S16384x768_1_0_0_1_n_n none l r) : A F S16384x512 .f32 → A F S512x768 .f32 → A F S16384x768 .f32),
    unary main_arg16 main_v195 (broadcastInDim S1x768 ![1] bcast_S768_S1x768_1 : A F S768 .f32 → A F S1x768 .f32),
    unary main_v195 main_v196 (broadcastInDim S16384x768 ![0, 1] bcast_S1x768_S16384x768_0_1 : A F S1x768 .f32 → A F S16384x768 .f32),
    binary main_v194 main_v196 main_v197 (addf : A F S16384x768 .f32 → A F S16384x768 .f32 → A F S16384x768 .f32),
    nullary main_cst_39 (constant S_ .f32 0x00000000#32),
    binary main_v197 main_cst_39 main_v198 ((fun x v => Host.reduceAdd x v reducesTo_S16384x768_S16384_d1 h_S_) : A F S16384x768 .f32 → A F S_ .f32 → A F S16384 .f32) ]
abbrev dec1a_W : List (Ref sig .tc) := [main_v194, main_v195, main_v196, main_v197, main_cst_39, main_v198]

abbrev dec1b : List (HloOp τ sig (Elt F)) :=
  [ unary main_v198 main_v199 (broadcastInDim S16384x1 ![0] bcast_S16384_S16384x1_0 : A F S16384 .f32 → A F S16384x1 .f32),
    nullary main_cst_40 (constant S_ .f32 0x44400000#32),
    unary main_cst_40 main_v200 (broadcastInDim S16384x1 ![] bcast_S_S16384x1 : A F S_ .f32 → A F S16384x1 .f32),
    binary main_v199 main_v200 main_v201 (Host.divf : A F S16384x1 .f32 → A F S16384x1 .f32 → A F S16384x1 .f32),
    unary main_v201 main_v202 (broadcastInDim S16384x768 ![0, 1] bcast_S16384x1_S16384x768_0_1 : A F S16384x1 .f32 → A F S16384x768 .f32),
    binary main_v197 main_v202 main_v203 (subf : A F S16384x768 .f32 → A F S16384x768 .f32 → A F S16384x768 .f32),
    binary main_v203 main_v203 main_v204 (mulf : A F S16384x768 .f32 → A F S16384x768 .f32 → A F S16384x768 .f32),
    nullary main_cst_41 (constant S_ .f32 0x00000000#32),
    binary main_v204 main_cst_41 main_v205 ((fun x v => Host.reduceAdd x v reducesTo_S16384x768_S16384_d1 h_S_) : A F S16384x768 .f32 → A F S_ .f32 → A F S16384 .f32),
    unary main_v205 main_v206 (broadcastInDim S16384x1 ![0] bcast_S16384_S16384x1_0 : A F S16384 .f32 → A F S16384x1 .f32),
    nullary main_cst_42 (constant S_ .f32 0x44400000#32),
    unary main_cst_42 main_v207 (broadcastInDim S16384x1 ![] bcast_S_S16384x1 : A F S_ .f32 → A F S16384x1 .f32),
    binary main_v206 main_v207 main_v208 (Host.divf : A F S16384x1 .f32 → A F S16384x1 .f32 → A F S16384x1 .f32),
    unary main_v201 main_v209 (broadcastInDim S16384x768 ![0, 1] bcast_S16384x1_S16384x768_0_1 : A F S16384x1 .f32 → A F S16384x768 .f32),
    binary main_v197 main_v209 main_v210 (subf : A F S16384x768 .f32 → A F S16384x768 .f32 → A F S16384x768 .f32),
    nullary main_cst_43 (constant S_ .f32 0x3727C5AC#32),
    unary main_cst_43 main_v211 (broadcastInDim S16384x1 ![] bcast_S_S16384x1 : A F S_ .f32 → A F S16384x1 .f32),
    binary main_v208 main_v211 main_v212 (addf : A F S16384x1 .f32 → A F S16384x1 .f32 → A F S16384x1 .f32),
    unary main_v212 main_v213 (Host.sqrt : A F S16384x1 .f32 → A F S16384x1 .f32),
    unary main_v213 main_v214 (broadcastInDim S16384x768 ![0, 1] bcast_S16384x1_S16384x768_0_1 : A F S16384x1 .f32 → A F S16384x768 .f32),
    binary main_v210 main_v214 main_v215 (Host.divf : A F S16384x768 .f32 → A F S16384x768 .f32 → A F S16384x768 .f32),
    unary main_arg21 main_v216 (broadcastInDim S1x768 ![1] bcast_S768_S1x768_1 : A F S768 .f32 → A F S1x768 .f32),
    unary main_v216 main_v217 (broadcastInDim S16384x768 ![0, 1] bcast_S1x768_S16384x768_0_1 : A F S1x768 .f32 → A F S16384x768 .f32),
    binary main_v215 main_v217 main_v218 (mulf : A F S16384x768 .f32 → A F S16384x768 .f32 → A F S16384x768 .f32),
    unary main_arg22 main_v219 (broadcastInDim S1x768 ![1] bcast_S768_S1x768_1 : A F S768 .f32 → A F S1x768 .f32),
    unary main_v219 main_v220 (broadcastInDim S16384x768 ![0, 1] bcast_S1x768_S16384x768_0_1 : A F S1x768 .f32 → A F S16384x768 .f32),
    binary main_v218 main_v220 main_v221 (addf : A F S16384x768 .f32 → A F S16384x768 .f32 → A F S16384x768 .f32),
    TRef.nullary (TRef.of (T := ⟨S_, .f32⟩) main_call9_cst) (constant S_ .f32 0x00000000#32),
    TRef.unary (TRef.of (T := ⟨S_, .f32⟩) main_call9_cst) (TRef.of (T := ⟨S16384x768, .f32⟩) main_call9_v0) (broadcastInDim S16384x768 ![] bcast_S_S16384x768),
    TRef.binary (TRef.of (T := ⟨S16384x768, .f32⟩) main_v221) (TRef.of (T := ⟨S16384x768, .f32⟩) main_call9_v0) (TRef.of (T := ⟨S16384x768, .f32⟩) main_v222) maximumf ]
abbrev dec1b_W : List (Ref sig .tc) := [main_v199, main_cst_40, main_v200, main_v201, main_v202, main_v203, main_v204, main_cst_41, main_v205, main_v206, main_cst_42, main_v207, main_v208, main_v209, main_v210, main_cst_43, main_v211, main_v212, main_v213, main_v214, main_v215, main_v216, main_v217, main_v218, main_v219, main_v220, main_v221, main_call9_cst, main_call9_v0, main_v222]

abbrev fin : List (HloOp τ sig (Elt F)) :=
  [ binary main_v222 main_arg17 main_v223 ((fun l r => Host.dotGeneral dot_S16384x768_S768x768_S16384x768_1_0_0_1_n_n none l r) : A F S16384x768 .f32 → A F S768x768 .f32 → A F S16384x768 .f32),
    unary main_arg18 main_v224 (broadcastInDim S1x768 ![1] bcast_S768_S1x768_1 : A F S768 .f32 → A F S1x768 .f32),
    unary main_v224 main_v225 (broadcastInDim S16384x768 ![0, 1] bcast_S1x768_S16384x768_0_1 : A F S1x768 .f32 → A F S16384x768 .f32),
    binary main_v223 main_v225 main_v226 (addf : A F S16384x768 .f32 → A F S16384x768 .f32 → A F S16384x768 .f32),
    unary main_v101 main_v227 (broadcastInDim S16384x1 ![0] bcast_S16384_S16384x1_0 : A F S16384 .i32 → A F S16384x1 .i32),
    unary main_v127 main_v228 (broadcastInDim S16384x1 ![0] bcast_S16384_S16384x1_0 : A F S16384 .i32 → A F S16384x1 .i32),
    unary main_v153 main_v229 (broadcastInDim S16384x1 ![0] bcast_S16384_S16384x1_0 : A F S16384 .i32 → A F S16384x1 .i32),
    nary ![main_v227, main_v228, main_v229] main_v230 (fun u => codesOf (u 0) (u 1) (u 2)) ]
abbrev fin_W : List (Ref sig .tc) := [main_v223, main_v224, main_v225, main_v226, main_v227, main_v228, main_v229, main_v230]

abbrev TS (l : List (HloOp τ sig (Elt F))) : Prop := l.Forall fun op => op.bufs ⊆ tcRefs τ sig
abbrev FR (l : List (HloOp τ sig (Elt F))) : Prop := l.Forall fun op => op.fresh = ∅
abbrev WS (l : List (HloOp τ sig (Elt F))) (W : List (Ref sig .tc)) : Prop :=
  l.Forall fun op => op.writes ⊆ (W.map (Proc.devRef (τ := τ) .tc)).toFinset

def part0 : List (HloOp τ sig (Elt F)) := enc0 ++ enc1a
set_option maxHeartbeats 4000000 in
theorem part0_eq (c : Dev nD) : main_part0 (F := F) c = seq part0 := rfl

def part1 : List (HloOp τ sig (Elt F)) := enc1b ++ enc2 ++ dist0
set_option maxHeartbeats 4000000 in
theorem part1_eq (c : Dev nD) : main_part1 (F := F) c = seq part1 := rfl

def part2 : List (HloOp τ sig (Elt F)) := arg0 ++ take0 ++ upd0 ++ dist1 ++ arg1 ++ take1 ++ upd1 ++ dist2a
set_option maxHeartbeats 4000000 in
theorem part2_eq (c : Dev nD) : main_part2 (F := F) c = seq part2 := rfl

def part3 : List (HloOp τ sig (Elt F)) := dist2b ++ arg2 ++ take2 ++ upd2 ++ dec0 ++ dec1a
set_option maxHeartbeats 4000000 in
theorem part3_eq (c : Dev nD) : main_part3 (F := F) c = seq part3 := rfl

def part4 : List (HloOp τ sig (Elt F)) := dec1b ++ fin
set_option maxHeartbeats 4000000 in
theorem part4_eq (c : Dev nD) : main_part4 (F := F) c = seq part4 := rfl

abbrev ops : List (HloOp τ sig (Elt F)) := part0 ++ (part1 ++ (part2 ++ (part3 ++ part4)))

theorem main_eq (c : Dev nD) : main (F := F) c = seq ops := by
  rw [ops, seq_append part0, seq_append part1, seq_append part2, seq_append part3, ← part0_eq c, ← part1_eq c, ← part2_eq c, ← part3_eq c, ← part4_eq c]
  rfl
theorem scopedRefs_eq : (Finset.univ.filter fun b : Ref sig .tc => b.isScoped) = ∅ := by decide
theorem scopedSems_eq : (Finset.univ.filter fun sm : SemLoc sig => sm.isScoped .tc) = ∅ := by decide

theorem enc0_sub : TS (F := F) enc0 := ⟨binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem enc0_fresh : FR (F := F) enc0 := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem enc0_writes : WS (F := F) enc0 enc0_W := by
  simp only [WS, List.Forall]
  and_intros
  all_goals
    simp only [nullary_writes, unary_writes, binary_writes, ternary_writes, quaternary_writes, nary_writes,
      Finset.singleton_subset_iff, List.mem_toFinset]
    exact List.mem_map_of_mem (by decide)

theorem enc1a_sub : TS (F := F) enc1a := ⟨binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub ..⟩
theorem enc1a_fresh : FR (F := F) enc1a := ⟨rfl, rfl, rfl, rfl, rfl, rfl, rfl, rfl, rfl, rfl, rfl, rfl, rfl, rfl, rfl, rfl, rfl, rfl, rfl, rfl, rfl, rfl, rfl, rfl, rfl, rfl⟩
theorem enc1a_writes : WS (F := F) enc1a enc1a_W := by
  simp only [WS, List.Forall]
  and_intros
  all_goals
    simp only [nullary_writes, unary_writes, binary_writes, ternary_writes, quaternary_writes, nary_writes,
      Finset.singleton_subset_iff, List.mem_toFinset]
    exact List.mem_map_of_mem (by decide)

theorem enc1b_sub : TS (F := F) enc1b := ⟨binary_bufs_sub .., unary_bufs_sub .., unary_bufs_sub .., binary_bufs_sub .., unary_bufs_sub .., unary_bufs_sub .., binary_bufs_sub .., nullary_bufs_sub .., unary_bufs_sub .., binary_bufs_sub ..⟩
theorem enc1b_fresh : FR (F := F) enc1b := ⟨rfl, rfl, rfl, rfl, rfl, rfl, rfl, rfl, rfl, rfl⟩
theorem enc1b_writes : WS (F := F) enc1b enc1b_W := by
  simp only [WS, List.Forall]
  and_intros
  all_goals
    simp only [nullary_writes, unary_writes, binary_writes, ternary_writes, quaternary_writes, nary_writes,
      Finset.singleton_subset_iff, List.mem_toFinset]
    exact List.mem_map_of_mem (by decide)

theorem enc2_sub : TS (F := F) enc2 := ⟨binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem enc2_fresh : FR (F := F) enc2 := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem enc2_writes : WS (F := F) enc2 enc2_W := by
  simp only [WS, List.Forall]
  and_intros
  all_goals
    simp only [nullary_writes, unary_writes, binary_writes, ternary_writes, quaternary_writes, nary_writes,
      Finset.singleton_subset_iff, List.mem_toFinset]
    exact List.mem_map_of_mem (by decide)

theorem dist0_sub : TS (F := F) dist0 := ⟨nullary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., nullary_bufs_sub .., unary_bufs_sub .., binary_bufs_sub .., unary_bufs_sub .., binary_bufs_sub .., binary_bufs_sub ..⟩
theorem dist0_fresh : FR (F := F) dist0 := ⟨rfl, rfl, rfl, rfl, rfl, rfl, rfl, rfl, rfl, rfl, rfl, rfl, rfl, rfl, rfl, rfl, rfl, rfl, rfl⟩
theorem dist0_writes : WS (F := F) dist0 dist0_W := by
  simp only [WS, List.Forall]
  and_intros
  all_goals
    simp only [nullary_writes, unary_writes, binary_writes, ternary_writes, quaternary_writes, nary_writes,
      Finset.singleton_subset_iff, List.mem_toFinset]
    exact List.mem_map_of_mem (by decide)

theorem arg0_sub : TS (F := F) arg0 := ⟨nullary_bufs_sub .., nullary_bufs_sub .., nullary_bufs_sub .., quaternary_bufs_sub .., quaternary_bufs_sub ..⟩
theorem arg0_fresh : FR (F := F) arg0 := ⟨rfl, rfl, rfl, rfl, rfl⟩
theorem arg0_writes : WS (F := F) arg0 arg0_W := by
  simp only [WS, List.Forall]
  and_intros
  all_goals
    simp only [nullary_writes, unary_writes, binary_writes, ternary_writes, quaternary_writes, nary_writes,
      Finset.singleton_subset_iff, List.mem_toFinset]
    exact List.mem_map_of_mem (by decide)

theorem take0_sub : TS (F := F) take0 := ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem take0_fresh : FR (F := F) take0 := ⟨rfl, rfl, rfl, rfl, rfl, rfl, rfl, rfl, rfl, rfl, rfl, rfl, rfl, rfl, rfl, rfl, rfl, rfl, rfl, rfl, rfl, rfl, rfl⟩
theorem take0_writes : WS (F := F) take0 take0_W := by
  simp only [WS, List.Forall]
  and_intros
  all_goals
    simp only [nullary_writes, unary_writes, binary_writes, ternary_writes, quaternary_writes, nary_writes,
      Finset.singleton_subset_iff, List.mem_toFinset]
    exact List.mem_map_of_mem (by decide)

theorem upd0_sub : TS (F := F) upd0 := ⟨binary_bufs_sub .., binary_bufs_sub .., nullary_bufs_sub .., binary_bufs_sub .., nullary_bufs_sub .., binary_bufs_sub .., nullary_bufs_sub .., binary_bufs_sub .., nullary_bufs_sub .., binary_bufs_sub .., binary_bufs_sub .., binary_bufs_sub .., binary_bufs_sub .., binary_bufs_sub ..⟩
theorem upd0_fresh : FR (F := F) upd0 := ⟨rfl, rfl, rfl, rfl, rfl, rfl, rfl, rfl, rfl, rfl, rfl, rfl, rfl, rfl⟩
theorem upd0_writes : WS (F := F) upd0 upd0_W := by
  simp only [WS, List.Forall]
  and_intros
  all_goals
    simp only [nullary_writes, unary_writes, binary_writes, ternary_writes, quaternary_writes, nary_writes,
      Finset.singleton_subset_iff, List.mem_toFinset]
    exact List.mem_map_of_mem (by decide)

theorem dist1_sub : TS (F := F) dist1 := ⟨binary_bufs_sub .., nullary_bufs_sub .., binary_bufs_sub .., unary_bufs_sub .., binary_bufs_sub .., nullary_bufs_sub .., binary_bufs_sub .., unary_bufs_sub .., unary_bufs_sub .., unary_bufs_sub .., binary_bufs_sub .., nullary_bufs_sub .., unary_bufs_sub .., binary_bufs_sub .., unary_bufs_sub .., binary_bufs_sub .., binary_bufs_sub ..⟩
theorem dist1_fresh : FR (F := F) dist1 := ⟨rfl, rfl, rfl, rfl, rfl, rfl, rfl, rfl, rfl, rfl, rfl, rfl, rfl, rfl, rfl, rfl, rfl⟩
theorem dist1_writes : WS (F := F) dist1 dist1_W := by
  simp only [WS, List.Forall]
  and_intros
  all_goals
    simp only [nullary_writes, unary_writes, binary_writes, ternary_writes, quaternary_writes, nary_writes,
      Finset.singleton_subset_iff, List.mem_toFinset]
    exact List.mem_map_of_mem (by decide)

theorem arg1_sub : TS (F := F) arg1 := ⟨nullary_bufs_sub .., nullary_bufs_sub .., nullary_bufs_sub .., quaternary_bufs_sub .., quaternary_bufs_sub ..⟩
theorem arg1_fresh : FR (F := F) arg1 := ⟨rfl, rfl, rfl, rfl, rfl⟩
theorem arg1_writes : WS (F := F) arg1 arg1_W := by
  simp only [WS, List.Forall]
  and_intros
  all_goals
    simp only [nullary_writes, unary_writes, binary_writes, ternary_writes, quaternary_writes, nary_writes,
      Finset.singleton_subset_iff, List.mem_toFinset]
    exact List.mem_map_of_mem (by decide)

theorem take1_sub : TS (F := F) take1 := ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem take1_fresh : FR (F := F) take1 := ⟨rfl, rfl, rfl, rfl, rfl, rfl, rfl, rfl, rfl, rfl, rfl, rfl, rfl, rfl, rfl, rfl, rfl, rfl, rfl, rfl, rfl, rfl, rfl⟩
theorem take1_writes : WS (F := F) take1 take1_W := by
  simp only [WS, List.Forall]
  and_intros
  all_goals
    simp only [nullary_writes, unary_writes, binary_writes, ternary_writes, quaternary_writes, nary_writes,
      Finset.singleton_subset_iff, List.mem_toFinset]
    exact List.mem_map_of_mem (by decide)

theorem upd1_sub : TS (F := F) upd1 := ⟨binary_bufs_sub .., binary_bufs_sub .., nullary_bufs_sub .., binary_bufs_sub .., nullary_bufs_sub .., binary_bufs_sub .., nullary_bufs_sub .., binary_bufs_sub .., binary_bufs_sub .., binary_bufs_sub .., binary_bufs_sub .., binary_bufs_sub .., binary_bufs_sub ..⟩
theorem upd1_fresh : FR (F := F) upd1 := ⟨rfl, rfl, rfl, rfl, rfl, rfl, rfl, rfl, rfl, rfl, rfl, rfl, rfl⟩
theorem upd1_writes : WS (F := F) upd1 upd1_W := by
  simp only [WS, List.Forall]
  and_intros
  all_goals
    simp only [nullary_writes, unary_writes, binary_writes, ternary_writes, quaternary_writes, nary_writes,
      Finset.singleton_subset_iff, List.mem_toFinset]
    exact List.mem_map_of_mem (by decide)

theorem dist2a_sub : TS (F := F) dist2a := ⟨binary_bufs_sub .., nullary_bufs_sub .., binary_bufs_sub .., unary_bufs_sub .., binary_bufs_sub .., nullary_bufs_sub .., binary_bufs_sub .., unary_bufs_sub .., unary_bufs_sub .., unary_bufs_sub .., binary_bufs_sub .., nullary_bufs_sub ..⟩
theorem dist2a_fresh : FR (F := F) dist2a := ⟨rfl, rfl, rfl, rfl, rfl, rfl, rfl, rfl, rfl, rfl, rfl, rfl⟩
theorem dist2a_writes : WS (F := F) dist2a dist2a_W := by
  simp only [WS, List.Forall]
  and_intros
  all_goals
    simp only [nullary_writes, unary_writes, binary_writes, ternary_writes, quaternary_writes, nary_writes,
      Finset.singleton_subset_iff, List.mem_toFinset]
    exact List.mem_map_of_mem (by decide)

theorem dist2b_sub : TS (F := F) dist2b := ⟨unary_bufs_sub .., binary_bufs_sub .., unary_bufs_sub .., binary_bufs_sub .., binary_bufs_sub ..⟩
theorem dist2b_fresh : FR (F := F) dist2b := ⟨rfl, rfl, rfl, rfl, rfl⟩
theorem dist2b_writes : WS (F := F) dist2b dist2b_W := by
  simp only [WS, List.Forall]
  and_intros
  all_goals
    simp only [nullary_writes, unary_writes, binary_writes, ternary_writes, quaternary_writes, nary_writes,
      Finset.singleton_subset_iff, List.mem_toFinset]
    exact List.mem_map_of_mem (by decide)

theorem arg2_sub : TS (F := F) arg2 := ⟨nullary_bufs_sub .., nullary_bufs_sub .., nullary_bufs_sub .., quaternary_bufs_sub .., quaternary_bufs_sub ..⟩
theorem arg2_fresh : FR (F := F) arg2 := ⟨rfl, rfl, rfl, rfl, rfl⟩
theorem arg2_writes : WS (F := F) arg2 arg2_W := by
  simp only [WS, List.Forall]
  and_intros
  all_goals
    simp only [nullary_writes, unary_writes, binary_writes, ternary_writes, quaternary_writes, nary_writes,
      Finset.singleton_subset_iff, List.mem_toFinset]
    exact List.mem_map_of_mem (by decide)

theorem take2_sub : TS (F := F) take2 := ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem take2_fresh : FR (F := F) take2 := ⟨rfl, rfl, rfl, rfl, rfl, rfl, rfl, rfl, rfl, rfl, rfl, rfl, rfl, rfl, rfl, rfl, rfl, rfl, rfl, rfl, rfl, rfl, rfl⟩
theorem take2_writes : WS (F := F) take2 take2_W := by
  simp only [WS, List.Forall]
  and_intros
  all_goals
    simp only [nullary_writes, unary_writes, binary_writes, ternary_writes, quaternary_writes, nary_writes,
      Finset.singleton_subset_iff, List.mem_toFinset]
    exact List.mem_map_of_mem (by decide)

theorem upd2_sub : TS (F := F) upd2 := ⟨binary_bufs_sub .., binary_bufs_sub .., nullary_bufs_sub .., binary_bufs_sub .., nullary_bufs_sub .., binary_bufs_sub .., nullary_bufs_sub .., binary_bufs_sub .., binary_bufs_sub .., binary_bufs_sub .., binary_bufs_sub .., binary_bufs_sub .., binary_bufs_sub ..⟩
theorem upd2_fresh : FR (F := F) upd2 := ⟨rfl, rfl, rfl, rfl, rfl, rfl, rfl, rfl, rfl, rfl, rfl, rfl, rfl⟩
theorem upd2_writes : WS (F := F) upd2 upd2_W := by
  simp only [WS, List.Forall]
  and_intros
  all_goals
    simp only [nullary_writes, unary_writes, binary_writes, ternary_writes, quaternary_writes, nary_writes,
      Finset.singleton_subset_iff, List.mem_toFinset]
    exact List.mem_map_of_mem (by decide)

theorem dec0_sub : TS (F := F) dec0 := ⟨binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem dec0_fresh : FR (F := F) dec0 := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem dec0_writes : WS (F := F) dec0 dec0_W := by
  simp only [WS, List.Forall]
  and_intros
  all_goals
    simp only [nullary_writes, unary_writes, binary_writes, ternary_writes, quaternary_writes, nary_writes,
      Finset.singleton_subset_iff, List.mem_toFinset]
    exact List.mem_map_of_mem (by decide)

theorem dec1a_sub : TS (F := F) dec1a := ⟨binary_bufs_sub .., unary_bufs_sub .., unary_bufs_sub .., binary_bufs_sub .., nullary_bufs_sub .., binary_bufs_sub ..⟩
theorem dec1a_fresh : FR (F := F) dec1a := ⟨rfl, rfl, rfl, rfl, rfl, rfl⟩
theorem dec1a_writes : WS (F := F) dec1a dec1a_W := by
  simp only [WS, List.Forall]
  and_intros
  all_goals
    simp only [nullary_writes, unary_writes, binary_writes, ternary_writes, quaternary_writes, nary_writes,
      Finset.singleton_subset_iff, List.mem_toFinset]
    exact List.mem_map_of_mem (by decide)

theorem dec1b_sub : TS (F := F) dec1b := ⟨unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem dec1b_fresh : FR (F := F) dec1b := ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem dec1b_writes : WS (F := F) dec1b dec1b_W := by
  simp only [WS, List.Forall]
  and_intros
  all_goals
    simp only [nullary_writes, unary_writes, binary_writes, ternary_writes, quaternary_writes, nary_writes,
      Finset.singleton_subset_iff, List.mem_toFinset]
    exact List.mem_map_of_mem (by decide)

theorem fin_sub : TS (F := F) fin := ⟨binary_bufs_sub .., unary_bufs_sub .., unary_bufs_sub .., binary_bufs_sub .., unary_bufs_sub .., unary_bufs_sub .., unary_bufs_sub .., nary_bufs_sub ..⟩
theorem fin_fresh : FR (F := F) fin := ⟨rfl, rfl, rfl, rfl, rfl, rfl, rfl, rfl⟩
theorem fin_writes : WS (F := F) fin fin_W := by
  simp only [WS, List.Forall]
  and_intros
  all_goals
    simp only [nullary_writes, unary_writes, binary_writes, ternary_writes, quaternary_writes, nary_writes,
      Finset.singleton_subset_iff, List.mem_toFinset]
    exact List.mem_map_of_mem (by decide)

theorem ops_sub : TS (F := F) ops := by
  simp only [TS, ops, part0, part1, part2, part3, part4, List.forall_append]
  exact ⟨⟨enc0_sub, enc1a_sub⟩, ⟨⟨enc1b_sub, enc2_sub⟩, dist0_sub⟩, ⟨⟨⟨⟨⟨⟨⟨arg0_sub, take0_sub⟩, upd0_sub⟩, dist1_sub⟩, arg1_sub⟩, take1_sub⟩, upd1_sub⟩, dist2a_sub⟩, ⟨⟨⟨⟨⟨dist2b_sub, arg2_sub⟩, take2_sub⟩, upd2_sub⟩, dec0_sub⟩, dec1a_sub⟩, ⟨dec1b_sub, fin_sub⟩⟩

theorem ops_fresh : FR (F := F) ops := by
  simp only [FR, ops, part0, part1, part2, part3, part4, List.forall_append]
  exact ⟨⟨enc0_fresh, enc1a_fresh⟩, ⟨⟨enc1b_fresh, enc2_fresh⟩, dist0_fresh⟩, ⟨⟨⟨⟨⟨⟨⟨arg0_fresh, take0_fresh⟩, upd0_fresh⟩, dist1_fresh⟩, arg1_fresh⟩, take1_fresh⟩, upd1_fresh⟩, dist2a_fresh⟩, ⟨⟨⟨⟨⟨dist2b_fresh, arg2_fresh⟩, take2_fresh⟩, upd2_fresh⟩, dec0_fresh⟩, dec1a_fresh⟩, ⟨dec1b_fresh, fin_fresh⟩⟩

end Cert.ReferenceIdeal.Hand

end
-- ==== Proof.RefVal.lean ====
/- What each layer of the reference computes, in its own operations, and the reference's run. -/
module

public import proofs.«01_k».proof.Proof.RefOps

@[expose] public section

set_option maxRecDepth 16384

noncomputable section

namespace Cert.ReferenceIdeal.Hand

open Cert.ReferenceIdeal Cert.ReferenceIdeal.Gen Idealize.ShloMosaic Idealize.ShloMosaic.TcCoe Idealize.SL.Sem
open Idealize.ShloMosaic.StableHlo

variable {F : FTy → Type} [FloatOps F]

/-- A matrix product and its bias. -/
def mm_768_768 (x : A F S16384x768 .f32) (w : A F S768x768 .f32) (b : A F S768 .f32) : A F S16384x768 .f32 :=
  let u0 : A F S16384x768 .f32 := ((fun l r => Host.dotGeneral dot_S16384x768_S768x768_S16384x768_1_0_0_1_n_n none l r) : A F S16384x768 .f32 → A F S768x768 .f32 → A F S16384x768 .f32) x w
  let u1 : A F S1x768 .f32 := (broadcastInDim S1x768 ![1] bcast_S768_S1x768_1 : A F S768 .f32 → A F S1x768 .f32) b
  let u2 : A F S16384x768 .f32 := (broadcastInDim S16384x768 ![0, 1] bcast_S1x768_S16384x768_0_1 : A F S1x768 .f32 → A F S16384x768 .f32) u1
  (addf : A F S16384x768 .f32 → A F S16384x768 .f32 → A F S16384x768 .f32) u0 u2

/-- A row less its mean, over its deviation, scaled and shifted. -/
def ln_768 (y : A F S16384x768 .f32) (g : A F S768 .f32) (t : A F S768 .f32) : A F S16384x768 .f32 :=
  let u0 : A F S_ .f32 := (constant S_ .f32 0x00000000#32)
  let u1 : A F S16384 .f32 := ((fun x v => Host.reduceAdd x v reducesTo_S16384x768_S16384_d1 h_S_) : A F S16384x768 .f32 → A F S_ .f32 → A F S16384 .f32) y u0
  let u2 : A F S16384x1 .f32 := (broadcastInDim S16384x1 ![0] bcast_S16384_S16384x1_0 : A F S16384 .f32 → A F S16384x1 .f32) u1
  let u3 : A F S_ .f32 := (constant S_ .f32 0x44400000#32)
  let u4 : A F S16384x1 .f32 := (broadcastInDim S16384x1 ![] bcast_S_S16384x1 : A F S_ .f32 → A F S16384x1 .f32) u3
  let u5 : A F S16384x1 .f32 := (Host.divf : A F S16384x1 .f32 → A F S16384x1 .f32 → A F S16384x1 .f32) u2 u4
  let u6 : A F S16384x768 .f32 := (broadcastInDim S16384x768 ![0, 1] bcast_S16384x1_S16384x768_0_1 : A F S16384x1 .f32 → A F S16384x768 .f32) u5
  let u7 : A F S16384x768 .f32 := (subf : A F S16384x768 .f32 → A F S16384x768 .f32 → A F S16384x768 .f32) y u6
  let u8 : A F S16384x768 .f32 := (mulf : A F S16384x768 .f32 → A F S16384x768 .f32 → A F S16384x768 .f32) u7 u7
  let u9 : A F S_ .f32 := (constant S_ .f32 0x00000000#32)
  let u10 : A F S16384 .f32 := ((fun x v => Host.reduceAdd x v reducesTo_S16384x768_S16384_d1 h_S_) : A F S16384x768 .f32 → A F S_ .f32 → A F S16384 .f32) u8 u9
  let u11 : A F S16384x1 .f32 := (broadcastInDim S16384x1 ![0] bcast_S16384_S16384x1_0 : A F S16384 .f32 → A F S16384x1 .f32) u10
  let u12 : A F S_ .f32 := (constant S_ .f32 0x44400000#32)
  let u13 : A F S16384x1 .f32 := (broadcastInDim S16384x1 ![] bcast_S_S16384x1 : A F S_ .f32 → A F S16384x1 .f32) u12
  let u14 : A F S16384x1 .f32 := (Host.divf : A F S16384x1 .f32 → A F S16384x1 .f32 → A F S16384x1 .f32) u11 u13
  let u15 : A F S16384x768 .f32 := (broadcastInDim S16384x768 ![0, 1] bcast_S16384x1_S16384x768_0_1 : A F S16384x1 .f32 → A F S16384x768 .f32) u5
  let u16 : A F S16384x768 .f32 := (subf : A F S16384x768 .f32 → A F S16384x768 .f32 → A F S16384x768 .f32) y u15
  let u17 : A F S_ .f32 := (constant S_ .f32 0x3727C5AC#32)
  let u18 : A F S16384x1 .f32 := (broadcastInDim S16384x1 ![] bcast_S_S16384x1 : A F S_ .f32 → A F S16384x1 .f32) u17
  let u19 : A F S16384x1 .f32 := (addf : A F S16384x1 .f32 → A F S16384x1 .f32 → A F S16384x1 .f32) u14 u18
  let u20 : A F S16384x1 .f32 := (Host.sqrt : A F S16384x1 .f32 → A F S16384x1 .f32) u19
  let u21 : A F S16384x768 .f32 := (broadcastInDim S16384x768 ![0, 1] bcast_S16384x1_S16384x768_0_1 : A F S16384x1 .f32 → A F S16384x768 .f32) u20
  let u22 : A F S16384x768 .f32 := (Host.divf : A F S16384x768 .f32 → A F S16384x768 .f32 → A F S16384x768 .f32) u16 u21
  let u23 : A F S1x768 .f32 := (broadcastInDim S1x768 ![1] bcast_S768_S1x768_1 : A F S768 .f32 → A F S1x768 .f32) g
  let u24 : A F S16384x768 .f32 := (broadcastInDim S16384x768 ![0, 1] bcast_S1x768_S16384x768_0_1 : A F S1x768 .f32 → A F S16384x768 .f32) u23
  let u25 : A F S16384x768 .f32 := (mulf : A F S16384x768 .f32 → A F S16384x768 .f32 → A F S16384x768 .f32) u22 u24
  let u26 : A F S1x768 .f32 := (broadcastInDim S1x768 ![1] bcast_S768_S1x768_1 : A F S768 .f32 → A F S1x768 .f32) t
  let u27 : A F S16384x768 .f32 := (broadcastInDim S16384x768 ![0, 1] bcast_S1x768_S16384x768_0_1 : A F S1x768 .f32 → A F S16384x768 .f32) u26
  (addf : A F S16384x768 .f32 → A F S16384x768 .f32 → A F S16384x768 .f32) u25 u27

/-- What is positive. -/
def relu_768 (y : A F S16384x768 .f32) : A F S16384x768 .f32 :=
  let u0 : A F S_ .f32 := (constant S_ .f32 0x00000000#32)
  let u1 : A F S16384x768 .f32 := (broadcastInDim S16384x768 ![] bcast_S_S16384x768) u0
  maximumf y u1

/-- A matrix product and its bias. -/
def mm_768_512 (x : A F S16384x768 .f32) (w : A F S768x512 .f32) (b : A F S512 .f32) : A F S16384x512 .f32 :=
  let u0 : A F S16384x512 .f32 := ((fun l r => Host.dotGeneral dot_S16384x768_S768x512_S16384x512_1_0_0_1_n_n none l r) : A F S16384x768 .f32 → A F S768x512 .f32 → A F S16384x512 .f32) x w
  let u1 : A F S1x512 .f32 := (broadcastInDim S1x512 ![1] bcast_S512_S1x512_1 : A F S512 .f32 → A F S1x512 .f32) b
  let u2 : A F S16384x512 .f32 := (broadcastInDim S16384x512 ![0, 1] bcast_S1x512_S16384x512_0_1 : A F S1x512 .f32 → A F S16384x512 .f32) u1
  (addf : A F S16384x512 .f32 → A F S16384x512 .f32 → A F S16384x512 .f32) u0 u2

/-- A row less its mean, over its deviation, scaled and shifted. -/
def ln_512 (y : A F S16384x512 .f32) (g : A F S512 .f32) (t : A F S512 .f32) : A F S16384x512 .f32 :=
  let u0 : A F S_ .f32 := (constant S_ .f32 0x00000000#32)
  let u1 : A F S16384 .f32 := ((fun x v => Host.reduceAdd x v reducesTo_S16384x512_S16384_d1 h_S_) : A F S16384x512 .f32 → A F S_ .f32 → A F S16384 .f32) y u0
  let u2 : A F S16384x1 .f32 := (broadcastInDim S16384x1 ![0] bcast_S16384_S16384x1_0 : A F S16384 .f32 → A F S16384x1 .f32) u1
  let u3 : A F S_ .f32 := (constant S_ .f32 0x44000000#32)
  let u4 : A F S16384x1 .f32 := (broadcastInDim S16384x1 ![] bcast_S_S16384x1 : A F S_ .f32 → A F S16384x1 .f32) u3
  let u5 : A F S16384x1 .f32 := (Host.divf : A F S16384x1 .f32 → A F S16384x1 .f32 → A F S16384x1 .f32) u2 u4
  let u6 : A F S16384x512 .f32 := (broadcastInDim S16384x512 ![0, 1] bcast_S16384x1_S16384x512_0_1 : A F S16384x1 .f32 → A F S16384x512 .f32) u5
  let u7 : A F S16384x512 .f32 := (subf : A F S16384x512 .f32 → A F S16384x512 .f32 → A F S16384x512 .f32) y u6
  let u8 : A F S16384x512 .f32 := (mulf : A F S16384x512 .f32 → A F S16384x512 .f32 → A F S16384x512 .f32) u7 u7
  let u9 : A F S_ .f32 := (constant S_ .f32 0x00000000#32)
  let u10 : A F S16384 .f32 := ((fun x v => Host.reduceAdd x v reducesTo_S16384x512_S16384_d1 h_S_) : A F S16384x512 .f32 → A F S_ .f32 → A F S16384 .f32) u8 u9
  let u11 : A F S16384x1 .f32 := (broadcastInDim S16384x1 ![0] bcast_S16384_S16384x1_0 : A F S16384 .f32 → A F S16384x1 .f32) u10
  let u12 : A F S_ .f32 := (constant S_ .f32 0x44000000#32)
  let u13 : A F S16384x1 .f32 := (broadcastInDim S16384x1 ![] bcast_S_S16384x1 : A F S_ .f32 → A F S16384x1 .f32) u12
  let u14 : A F S16384x1 .f32 := (Host.divf : A F S16384x1 .f32 → A F S16384x1 .f32 → A F S16384x1 .f32) u11 u13
  let u15 : A F S16384x512 .f32 := (broadcastInDim S16384x512 ![0, 1] bcast_S16384x1_S16384x512_0_1 : A F S16384x1 .f32 → A F S16384x512 .f32) u5
  let u16 : A F S16384x512 .f32 := (subf : A F S16384x512 .f32 → A F S16384x512 .f32 → A F S16384x512 .f32) y u15
  let u17 : A F S_ .f32 := (constant S_ .f32 0x3727C5AC#32)
  let u18 : A F S16384x1 .f32 := (broadcastInDim S16384x1 ![] bcast_S_S16384x1 : A F S_ .f32 → A F S16384x1 .f32) u17
  let u19 : A F S16384x1 .f32 := (addf : A F S16384x1 .f32 → A F S16384x1 .f32 → A F S16384x1 .f32) u14 u18
  let u20 : A F S16384x1 .f32 := (Host.sqrt : A F S16384x1 .f32 → A F S16384x1 .f32) u19
  let u21 : A F S16384x512 .f32 := (broadcastInDim S16384x512 ![0, 1] bcast_S16384x1_S16384x512_0_1 : A F S16384x1 .f32 → A F S16384x512 .f32) u20
  let u22 : A F S16384x512 .f32 := (Host.divf : A F S16384x512 .f32 → A F S16384x512 .f32 → A F S16384x512 .f32) u16 u21
  let u23 : A F S1x512 .f32 := (broadcastInDim S1x512 ![1] bcast_S512_S1x512_1 : A F S512 .f32 → A F S1x512 .f32) g
  let u24 : A F S16384x512 .f32 := (broadcastInDim S16384x512 ![0, 1] bcast_S1x512_S16384x512_0_1 : A F S1x512 .f32 → A F S16384x512 .f32) u23
  let u25 : A F S16384x512 .f32 := (mulf : A F S16384x512 .f32 → A F S16384x512 .f32 → A F S16384x512 .f32) u22 u24
  let u26 : A F S1x512 .f32 := (broadcastInDim S1x512 ![1] bcast_S512_S1x512_1 : A F S512 .f32 → A F S1x512 .f32) t
  let u27 : A F S16384x512 .f32 := (broadcastInDim S16384x512 ![0, 1] bcast_S1x512_S16384x512_0_1 : A F S1x512 .f32 → A F S16384x512 .f32) u26
  (addf : A F S16384x512 .f32 → A F S16384x512 .f32 → A F S16384x512 .f32) u25 u27

/-- What is positive. -/
def relu_512 (y : A F S16384x512 .f32) : A F S16384x512 .f32 :=
  let u0 : A F S_ .f32 := (constant S_ .f32 0x00000000#32)
  let u1 : A F S16384x512 .f32 := (broadcastInDim S16384x512 ![] bcast_S_S16384x512) u0
  maximumf y u1

/-- A matrix product and its bias. -/
def mm_512_256 (x : A F S16384x512 .f32) (w : A F S512x256 .f32) (b : A F S256 .f32) : A F S16384x256 .f32 :=
  let u0 : A F S16384x256 .f32 := ((fun l r => Host.dotGeneral dot_S16384x512_S512x256_S16384x256_1_0_0_1_n_n none l r) : A F S16384x512 .f32 → A F S512x256 .f32 → A F S16384x256 .f32) x w
  let u1 : A F S1x256 .f32 := (broadcastInDim S1x256 ![1] bcast_S256_S1x256_1 : A F S256 .f32 → A F S1x256 .f32) b
  let u2 : A F S16384x256 .f32 := (broadcastInDim S16384x256 ![0, 1] bcast_S1x256_S16384x256_0_1 : A F S1x256 .f32 → A F S16384x256 .f32) u1
  (addf : A F S16384x256 .f32 → A F S16384x256 .f32 → A F S16384x256 .f32) u0 u2

/-- A row less its mean, over its deviation, scaled and shifted. -/
def ln_256 (y : A F S16384x256 .f32) (g : A F S256 .f32) (t : A F S256 .f32) : A F S16384x256 .f32 :=
  let u0 : A F S_ .f32 := (constant S_ .f32 0x00000000#32)
  let u1 : A F S16384 .f32 := ((fun x v => Host.reduceAdd x v reducesTo_S16384x256_S16384_d1 h_S_) : A F S16384x256 .f32 → A F S_ .f32 → A F S16384 .f32) y u0
  let u2 : A F S16384x1 .f32 := (broadcastInDim S16384x1 ![0] bcast_S16384_S16384x1_0 : A F S16384 .f32 → A F S16384x1 .f32) u1
  let u3 : A F S_ .f32 := (constant S_ .f32 0x43800000#32)
  let u4 : A F S16384x1 .f32 := (broadcastInDim S16384x1 ![] bcast_S_S16384x1 : A F S_ .f32 → A F S16384x1 .f32) u3
  let u5 : A F S16384x1 .f32 := (Host.divf : A F S16384x1 .f32 → A F S16384x1 .f32 → A F S16384x1 .f32) u2 u4
  let u6 : A F S16384x256 .f32 := (broadcastInDim S16384x256 ![0, 1] bcast_S16384x1_S16384x256_0_1 : A F S16384x1 .f32 → A F S16384x256 .f32) u5
  let u7 : A F S16384x256 .f32 := (subf : A F S16384x256 .f32 → A F S16384x256 .f32 → A F S16384x256 .f32) y u6
  let u8 : A F S16384x256 .f32 := (mulf : A F S16384x256 .f32 → A F S16384x256 .f32 → A F S16384x256 .f32) u7 u7
  let u9 : A F S_ .f32 := (constant S_ .f32 0x00000000#32)
  let u10 : A F S16384 .f32 := ((fun x v => Host.reduceAdd x v reducesTo_S16384x256_S16384_d1 h_S_) : A F S16384x256 .f32 → A F S_ .f32 → A F S16384 .f32) u8 u9
  let u11 : A F S16384x1 .f32 := (broadcastInDim S16384x1 ![0] bcast_S16384_S16384x1_0 : A F S16384 .f32 → A F S16384x1 .f32) u10
  let u12 : A F S_ .f32 := (constant S_ .f32 0x43800000#32)
  let u13 : A F S16384x1 .f32 := (broadcastInDim S16384x1 ![] bcast_S_S16384x1 : A F S_ .f32 → A F S16384x1 .f32) u12
  let u14 : A F S16384x1 .f32 := (Host.divf : A F S16384x1 .f32 → A F S16384x1 .f32 → A F S16384x1 .f32) u11 u13
  let u15 : A F S16384x256 .f32 := (broadcastInDim S16384x256 ![0, 1] bcast_S16384x1_S16384x256_0_1 : A F S16384x1 .f32 → A F S16384x256 .f32) u5
  let u16 : A F S16384x256 .f32 := (subf : A F S16384x256 .f32 → A F S16384x256 .f32 → A F S16384x256 .f32) y u15
  let u17 : A F S_ .f32 := (constant S_ .f32 0x3727C5AC#32)
  let u18 : A F S16384x1 .f32 := (broadcastInDim S16384x1 ![] bcast_S_S16384x1 : A F S_ .f32 → A F S16384x1 .f32) u17
  let u19 : A F S16384x1 .f32 := (addf : A F S16384x1 .f32 → A F S16384x1 .f32 → A F S16384x1 .f32) u14 u18
  let u20 : A F S16384x1 .f32 := (Host.sqrt : A F S16384x1 .f32 → A F S16384x1 .f32) u19
  let u21 : A F S16384x256 .f32 := (broadcastInDim S16384x256 ![0, 1] bcast_S16384x1_S16384x256_0_1 : A F S16384x1 .f32 → A F S16384x256 .f32) u20
  let u22 : A F S16384x256 .f32 := (Host.divf : A F S16384x256 .f32 → A F S16384x256 .f32 → A F S16384x256 .f32) u16 u21
  let u23 : A F S1x256 .f32 := (broadcastInDim S1x256 ![1] bcast_S256_S1x256_1 : A F S256 .f32 → A F S1x256 .f32) g
  let u24 : A F S16384x256 .f32 := (broadcastInDim S16384x256 ![0, 1] bcast_S1x256_S16384x256_0_1 : A F S1x256 .f32 → A F S16384x256 .f32) u23
  let u25 : A F S16384x256 .f32 := (mulf : A F S16384x256 .f32 → A F S16384x256 .f32 → A F S16384x256 .f32) u22 u24
  let u26 : A F S1x256 .f32 := (broadcastInDim S1x256 ![1] bcast_S256_S1x256_1 : A F S256 .f32 → A F S1x256 .f32) t
  let u27 : A F S16384x256 .f32 := (broadcastInDim S16384x256 ![0, 1] bcast_S1x256_S16384x256_0_1 : A F S1x256 .f32 → A F S16384x256 .f32) u26
  (addf : A F S16384x256 .f32 → A F S16384x256 .f32 → A F S16384x256 .f32) u25 u27

/-- A matrix product and its bias. -/
def mm_256_512 (x : A F S16384x256 .f32) (w : A F S256x512 .f32) (b : A F S512 .f32) : A F S16384x512 .f32 :=
  let u0 : A F S16384x512 .f32 := ((fun l r => Host.dotGeneral dot_S16384x256_S256x512_S16384x512_1_0_0_1_n_n none l r) : A F S16384x256 .f32 → A F S256x512 .f32 → A F S16384x512 .f32) x w
  let u1 : A F S1x512 .f32 := (broadcastInDim S1x512 ![1] bcast_S512_S1x512_1 : A F S512 .f32 → A F S1x512 .f32) b
  let u2 : A F S16384x512 .f32 := (broadcastInDim S16384x512 ![0, 1] bcast_S1x512_S16384x512_0_1 : A F S1x512 .f32 → A F S16384x512 .f32) u1
  (addf : A F S16384x512 .f32 → A F S16384x512 .f32 → A F S16384x512 .f32) u0 u2

/-- A matrix product and its bias. -/
def mm_512_768 (x : A F S16384x512 .f32) (w : A F S512x768 .f32) (b : A F S768 .f32) : A F S16384x768 .f32 :=
  let u0 : A F S16384x768 .f32 := ((fun l r => Host.dotGeneral dot_S16384x512_S512x768_S16384x768_1_0_0_1_n_n none l r) : A F S16384x512 .f32 → A F S512x768 .f32 → A F S16384x768 .f32) x w
  let u1 : A F S1x768 .f32 := (broadcastInDim S1x768 ![1] bcast_S768_S1x768_1 : A F S768 .f32 → A F S1x768 .f32) b
  let u2 : A F S16384x768 .f32 := (broadcastInDim S16384x768 ![0, 1] bcast_S1x768_S16384x768_0_1 : A F S1x768 .f32 → A F S16384x768 .f32) u1
  (addf : A F S16384x768 .f32 → A F S16384x768 .f32 → A F S16384x768 .f32) u0 u2

/-- Squared distance of every row to every codeword. -/
def dist_8 (r : A F S16384x256 .f32) (cb : A F S8x256 .f32) : A F S16384x8 .f32 :=
  let u0 : A F S16384x256 .f32 := (mulf : A F S16384x256 .f32 → A F S16384x256 .f32 → A F S16384x256 .f32) r r
  let u1 : A F S_ .f32 := (constant S_ .f32 0x00000000#32)
  let u2 : A F S16384 .f32 := ((fun x v => Host.reduceAdd x v reducesTo_S16384x256_S16384_d1 h_S_) : A F S16384x256 .f32 → A F S_ .f32 → A F S16384 .f32) u0 u1
  let u3 : A F S16384x1 .f32 := (broadcastInDim S16384x1 ![0] bcast_S16384_S16384x1_0 : A F S16384 .f32 → A F S16384x1 .f32) u2
  let u4 : A F S8x256 .f32 := (mulf : A F S8x256 .f32 → A F S8x256 .f32 → A F S8x256 .f32) cb cb
  let u5 : A F S_ .f32 := (constant S_ .f32 0x00000000#32)
  let u6 : A F S8 .f32 := ((fun x v => Host.reduceAdd x v reducesTo_S8x256_S8_d1 h_S_) : A F S8x256 .f32 → A F S_ .f32 → A F S8 .f32) u4 u5
  let u7 : A F S1x8 .f32 := (broadcastInDim S1x8 ![1] bcast_S8_S1x8_1 : A F S8 .f32 → A F S1x8 .f32) u6
  let u8 : A F S16384x8 .f32 := (broadcastInDim S16384x8 ![0, 1] bcast_S16384x1_S16384x8_0_1 : A F S16384x1 .f32 → A F S16384x8 .f32) u3
  let u9 : A F S16384x8 .f32 := (broadcastInDim S16384x8 ![0, 1] bcast_S1x8_S16384x8_0_1 : A F S1x8 .f32 → A F S16384x8 .f32) u7
  let u10 : A F S16384x8 .f32 := (addf : A F S16384x8 .f32 → A F S16384x8 .f32 → A F S16384x8 .f32) u8 u9
  let u11 : A F S_ .f32 := (constant S_ .f32 0x40000000#32)
  let u12 : A F S16384x256 .f32 := (broadcastInDim S16384x256 ![] bcast_S_S16384x256 : A F S_ .f32 → A F S16384x256 .f32) u11
  let u13 : A F S16384x256 .f32 := (mulf : A F S16384x256 .f32 → A F S16384x256 .f32 → A F S16384x256 .f32) u12 r
  let u14 : A F S256x8 .f32 := ((transpose S256x8 [1, 0] · transposes_S8x256_S256x8_1_0) : A F S8x256 .f32 → A F S256x8 .f32) cb
  let u15 : A F S16384x8 .f32 := ((fun l r => Host.dotGeneral dot_S16384x256_S256x8_S16384x8_1_0_0_1_n_n none l r) : A F S16384x256 .f32 → A F S256x8 .f32 → A F S16384x8 .f32) u13 u14
  (subf : A F S16384x8 .f32 → A F S16384x8 .f32 → A F S16384x8 .f32) u10 u15

/-- The place of the least distance, the first of several. -/
def near_8 (d : A F S16384x8 .f32) : A F S16384 .i32 :=
  let u0 : A F S16384x8 .i32 := (iotaInDim S16384x8 32 1)
  let u1 : A F S_ .f32 := (constant S_ .f32 0x7F800000#32)
  let u2 : A F S_ .i32 := (constantI S_ 32 0#32)
  (fun x y u v j => (Host.argReduce reducer_argmin_f32_i32 x y u v reducesTo_S16384x8_S16384_d1 h_S_ j).2) d u0 u1 u2

/-- The codewords at the given places. -/
def take_8 (cb : A F S8x256 .f32) (i : A F S16384 .i32) : A F S16384x256 .f32 :=
  let u0 : A F S_ .i32 := (constantI S_ 32 0#32)
  let u1 : A F S16384 .i32 := (broadcastInDim S16384 ![] bcast_S_S16384) u0
  let u2 : A F S16384 .i1 := (cmpi .slt) i u1
  let u3 : A F S_ .i32 := (constantI S_ 32 8#32)
  let u4 : A F S16384 .i32 := (broadcastInDim S16384 ![] bcast_S_S16384) u3
  let u5 : A F S16384 .i32 := addi i u4
  let u6 : A F S16384 .i32 := select u2 u5 i
  let u7 : A F S16384x1 .i32 := (broadcastInDim S16384x1 ![0] bcast_S16384_S16384x1_0) u6
  let u8 : A F S1 .i32 := (constantI S1 32 7#32)
  let u9 : A F S_ .i32 := (constantI S_ 32 0#32)
  let u10 : A F S16384x1 .i32 := (broadcastInDim S16384x1 ![] bcast_S_S16384x1) u9
  let u11 : A F S16384x1 .i1 := (cmpi .sge) u7 u10
  let u12 : A F S1x1 .i32 := (broadcastInDim S1x1 ![1] bcast_S1_S1x1_1) u8
  let u13 : A F S16384x1 .i32 := (broadcastInDim S16384x1 ![0, 1] bcast_S1x1_S16384x1_0_1) u12
  let u14 : A F S16384x1 .i1 := (cmpi .sle) u7 u13
  let u15 : A F S16384x1 .i1 := andi u11 u14
  let u16 : A F S_ .i1 := (constantI S_ 1 1#1)
  let u17 : A F S16384 .i1 := (fun x v => Host.reduce IntOp.andi x v reducesTo_S16384x1_S16384_d1 h_S_) u15 u16
  let u18 : A F S16384x256 .f32 := (fun x i => Host.gather gather_S8x256_S16384x1_S16384x256_1_0_n_n_0_1_1256 x i) cb u7
  let u19 : A F S16384x256 .i1 := (broadcastInDim S16384x256 ![0] bcast_S16384_S16384x256_0) u17
  let u20 : A F S_ .f32 := (constant S_ .f32 0x7FC00000#32)
  let u21 : A F S16384x256 .f32 := (broadcastInDim S16384x256 ![] bcast_S_S16384x256) u20
  select u19 u18 u21

/-- Squared distance of every row to every codeword. -/
def dist_64 (r : A F S16384x256 .f32) (cb : A F S64x256 .f32) : A F S16384x64 .f32 :=
  let u0 : A F S16384x256 .f32 := (mulf : A F S16384x256 .f32 → A F S16384x256 .f32 → A F S16384x256 .f32) r r
  let u1 : A F S_ .f32 := (constant S_ .f32 0x00000000#32)
  let u2 : A F S16384 .f32 := ((fun x v => Host.reduceAdd x v reducesTo_S16384x256_S16384_d1 h_S_) : A F S16384x256 .f32 → A F S_ .f32 → A F S16384 .f32) u0 u1
  let u3 : A F S16384x1 .f32 := (broadcastInDim S16384x1 ![0] bcast_S16384_S16384x1_0 : A F S16384 .f32 → A F S16384x1 .f32) u2
  let u4 : A F S64x256 .f32 := (mulf : A F S64x256 .f32 → A F S64x256 .f32 → A F S64x256 .f32) cb cb
  let u5 : A F S_ .f32 := (constant S_ .f32 0x00000000#32)
  let u6 : A F S64 .f32 := ((fun x v => Host.reduceAdd x v reducesTo_S64x256_S64_d1 h_S_) : A F S64x256 .f32 → A F S_ .f32 → A F S64 .f32) u4 u5
  let u7 : A F S1x64 .f32 := (broadcastInDim S1x64 ![1] bcast_S64_S1x64_1 : A F S64 .f32 → A F S1x64 .f32) u6
  let u8 : A F S16384x64 .f32 := (broadcastInDim S16384x64 ![0, 1] bcast_S16384x1_S16384x64_0_1 : A F S16384x1 .f32 → A F S16384x64 .f32) u3
  let u9 : A F S16384x64 .f32 := (broadcastInDim S16384x64 ![0, 1] bcast_S1x64_S16384x64_0_1 : A F S1x64 .f32 → A F S16384x64 .f32) u7
  let u10 : A F S16384x64 .f32 := (addf : A F S16384x64 .f32 → A F S16384x64 .f32 → A F S16384x64 .f32) u8 u9
  let u11 : A F S_ .f32 := (constant S_ .f32 0x40000000#32)
  let u12 : A F S16384x256 .f32 := (broadcastInDim S16384x256 ![] bcast_S_S16384x256 : A F S_ .f32 → A F S16384x256 .f32) u11
  let u13 : A F S16384x256 .f32 := (mulf : A F S16384x256 .f32 → A F S16384x256 .f32 → A F S16384x256 .f32) u12 r
  let u14 : A F S256x64 .f32 := ((transpose S256x64 [1, 0] · transposes_S64x256_S256x64_1_0) : A F S64x256 .f32 → A F S256x64 .f32) cb
  let u15 : A F S16384x64 .f32 := ((fun l r => Host.dotGeneral dot_S16384x256_S256x64_S16384x64_1_0_0_1_n_n none l r) : A F S16384x256 .f32 → A F S256x64 .f32 → A F S16384x64 .f32) u13 u14
  (subf : A F S16384x64 .f32 → A F S16384x64 .f32 → A F S16384x64 .f32) u10 u15

/-- The place of the least distance, the first of several. -/
def near_64 (d : A F S16384x64 .f32) : A F S16384 .i32 :=
  let u0 : A F S16384x64 .i32 := (iotaInDim S16384x64 32 1)
  let u1 : A F S_ .f32 := (constant S_ .f32 0x7F800000#32)
  let u2 : A F S_ .i32 := (constantI S_ 32 0#32)
  (fun x y u v j => (Host.argReduce reducer_argmin_f32_i32 x y u v reducesTo_S16384x64_S16384_d1 h_S_ j).2) d u0 u1 u2

/-- The codewords at the given places. -/
def take_64 (cb : A F S64x256 .f32) (i : A F S16384 .i32) : A F S16384x256 .f32 :=
  let u0 : A F S_ .i32 := (constantI S_ 32 0#32)
  let u1 : A F S16384 .i32 := (broadcastInDim S16384 ![] bcast_S_S16384) u0
  let u2 : A F S16384 .i1 := (cmpi .slt) i u1
  let u3 : A F S_ .i32 := (constantI S_ 32 64#32)
  let u4 : A F S16384 .i32 := (broadcastInDim S16384 ![] bcast_S_S16384) u3
  let u5 : A F S16384 .i32 := addi i u4
  let u6 : A F S16384 .i32 := select u2 u5 i
  let u7 : A F S16384x1 .i32 := (broadcastInDim S16384x1 ![0] bcast_S16384_S16384x1_0) u6
  let u8 : A F S1 .i32 := (constantI S1 32 63#32)
  let u9 : A F S_ .i32 := (constantI S_ 32 0#32)
  let u10 : A F S16384x1 .i32 := (broadcastInDim S16384x1 ![] bcast_S_S16384x1) u9
  let u11 : A F S16384x1 .i1 := (cmpi .sge) u7 u10
  let u12 : A F S1x1 .i32 := (broadcastInDim S1x1 ![1] bcast_S1_S1x1_1) u8
  let u13 : A F S16384x1 .i32 := (broadcastInDim S16384x1 ![0, 1] bcast_S1x1_S16384x1_0_1) u12
  let u14 : A F S16384x1 .i1 := (cmpi .sle) u7 u13
  let u15 : A F S16384x1 .i1 := andi u11 u14
  let u16 : A F S_ .i1 := (constantI S_ 1 1#1)
  let u17 : A F S16384 .i1 := (fun x v => Host.reduce IntOp.andi x v reducesTo_S16384x1_S16384_d1 h_S_) u15 u16
  let u18 : A F S16384x256 .f32 := (fun x i => Host.gather gather_S64x256_S16384x1_S16384x256_1_0_n_n_0_1_1256 x i) cb u7
  let u19 : A F S16384x256 .i1 := (broadcastInDim S16384x256 ![0] bcast_S16384_S16384x256_0) u17
  let u20 : A F S_ .f32 := (constant S_ .f32 0x7FC00000#32)
  let u21 : A F S16384x256 .f32 := (broadcastInDim S16384x256 ![] bcast_S_S16384x256) u20
  select u19 u18 u21

/-- Squared distance of every row to every codeword. -/
def dist_512 (r : A F S16384x256 .f32) (cb : A F S512x256 .f32) : A F S16384x512 .f32 :=
  let u0 : A F S16384x256 .f32 := (mulf : A F S16384x256 .f32 → A F S16384x256 .f32 → A F S16384x256 .f32) r r
  let u1 : A F S_ .f32 := (constant S_ .f32 0x00000000#32)
  let u2 : A F S16384 .f32 := ((fun x v => Host.reduceAdd x v reducesTo_S16384x256_S16384_d1 h_S_) : A F S16384x256 .f32 → A F S_ .f32 → A F S16384 .f32) u0 u1
  let u3 : A F S16384x1 .f32 := (broadcastInDim S16384x1 ![0] bcast_S16384_S16384x1_0 : A F S16384 .f32 → A F S16384x1 .f32) u2
  let u4 : A F S512x256 .f32 := (mulf : A F S512x256 .f32 → A F S512x256 .f32 → A F S512x256 .f32) cb cb
  let u5 : A F S_ .f32 := (constant S_ .f32 0x00000000#32)
  let u6 : A F S512 .f32 := ((fun x v => Host.reduceAdd x v reducesTo_S512x256_S512_d1 h_S_) : A F S512x256 .f32 → A F S_ .f32 → A F S512 .f32) u4 u5
  let u7 : A F S1x512 .f32 := (broadcastInDim S1x512 ![1] bcast_S512_S1x512_1 : A F S512 .f32 → A F S1x512 .f32) u6
  let u8 : A F S16384x512 .f32 := (broadcastInDim S16384x512 ![0, 1] bcast_S16384x1_S16384x512_0_1 : A F S16384x1 .f32 → A F S16384x512 .f32) u3
  let u9 : A F S16384x512 .f32 := (broadcastInDim S16384x512 ![0, 1] bcast_S1x512_S16384x512_0_1 : A F S1x512 .f32 → A F S16384x512 .f32) u7
  let u10 : A F S16384x512 .f32 := (addf : A F S16384x512 .f32 → A F S16384x512 .f32 → A F S16384x512 .f32) u8 u9
  let u11 : A F S_ .f32 := (constant S_ .f32 0x40000000#32)
  let u12 : A F S16384x256 .f32 := (broadcastInDim S16384x256 ![] bcast_S_S16384x256 : A F S_ .f32 → A F S16384x256 .f32) u11
  let u13 : A F S16384x256 .f32 := (mulf : A F S16384x256 .f32 → A F S16384x256 .f32 → A F S16384x256 .f32) u12 r
  let u14 : A F S256x512 .f32 := ((transpose S256x512 [1, 0] · transposes_S512x256_S256x512_1_0) : A F S512x256 .f32 → A F S256x512 .f32) cb
  let u15 : A F S16384x512 .f32 := ((fun l r => Host.dotGeneral dot_S16384x256_S256x512_S16384x512_1_0_0_1_n_n none l r) : A F S16384x256 .f32 → A F S256x512 .f32 → A F S16384x512 .f32) u13 u14
  (subf : A F S16384x512 .f32 → A F S16384x512 .f32 → A F S16384x512 .f32) u10 u15

/-- The place of the least distance, the first of several. -/
def near_512 (d : A F S16384x512 .f32) : A F S16384 .i32 :=
  let u0 : A F S16384x512 .i32 := (iotaInDim S16384x512 32 1)
  let u1 : A F S_ .f32 := (constant S_ .f32 0x7F800000#32)
  let u2 : A F S_ .i32 := (constantI S_ 32 0#32)
  (fun x y u v j => (Host.argReduce reducer_argmin_f32_i32 x y u v reducesTo_S16384x512_S16384_d1 h_S_ j).2) d u0 u1 u2

/-- The codewords at the given places. -/
def take_512 (cb : A F S512x256 .f32) (i : A F S16384 .i32) : A F S16384x256 .f32 :=
  let u0 : A F S_ .i32 := (constantI S_ 32 0#32)
  let u1 : A F S16384 .i32 := (broadcastInDim S16384 ![] bcast_S_S16384) u0
  let u2 : A F S16384 .i1 := (cmpi .slt) i u1
  let u3 : A F S_ .i32 := (constantI S_ 32 512#32)
  let u4 : A F S16384 .i32 := (broadcastInDim S16384 ![] bcast_S_S16384) u3
  let u5 : A F S16384 .i32 := addi i u4
  let u6 : A F S16384 .i32 := select u2 u5 i
  let u7 : A F S16384x1 .i32 := (broadcastInDim S16384x1 ![0] bcast_S16384_S16384x1_0) u6
  let u8 : A F S1 .i32 := (constantI S1 32 511#32)
  let u9 : A F S_ .i32 := (constantI S_ 32 0#32)
  let u10 : A F S16384x1 .i32 := (broadcastInDim S16384x1 ![] bcast_S_S16384x1) u9
  let u11 : A F S16384x1 .i1 := (cmpi .sge) u7 u10
  let u12 : A F S1x1 .i32 := (broadcastInDim S1x1 ![1] bcast_S1_S1x1_1) u8
  let u13 : A F S16384x1 .i32 := (broadcastInDim S16384x1 ![0, 1] bcast_S1x1_S16384x1_0_1) u12
  let u14 : A F S16384x1 .i1 := (cmpi .sle) u7 u13
  let u15 : A F S16384x1 .i1 := andi u11 u14
  let u16 : A F S_ .i1 := (constantI S_ 1 1#1)
  let u17 : A F S16384 .i1 := (fun x v => Host.reduce IntOp.andi x v reducesTo_S16384x1_S16384_d1 h_S_) u15 u16
  let u18 : A F S16384x256 .f32 := (fun x i => Host.gather gather_S512x256_S16384x1_S16384x256_1_0_n_n_0_1_1256 x i) cb u7
  let u19 : A F S16384x256 .i1 := (broadcastInDim S16384x256 ![0] bcast_S16384_S16384x256_0) u17
  let u20 : A F S_ .f32 := (constant S_ .f32 0x7FC00000#32)
  let u21 : A F S16384x256 .f32 := (broadcastInDim S16384x256 ![] bcast_S_S16384x256) u20
  select u19 u18 u21

/-- The loss so far and this codebook's share. -/
def lossOf (t : A F S16384x256 .f32) (r : A F S16384x256 .f32) (l : A F S_ .f32) : A F S_ .f32 :=
  let u0 : A F S16384x256 .f32 := (subf : A F S16384x256 .f32 → A F S16384x256 .f32 → A F S16384x256 .f32) t r
  let u1 : A F S16384x256 .f32 := (mulf : A F S16384x256 .f32 → A F S16384x256 .f32 → A F S16384x256 .f32) u0 u0
  let u2 : A F S_ .f32 := (constant S_ .f32 0x00000000#32)
  let u3 : A F S_ .f32 := ((fun x v => Host.reduceAdd x v reducesTo_S16384x256_S_d0_1 h_S_) : A F S16384x256 .f32 → A F S_ .f32 → A F S_ .f32) u1 u2
  let u4 : A F S_ .f32 := (constant S_ .f32 0x4A800000#32)
  let u5 : A F S_ .f32 := (Host.divf : A F S_ .f32 → A F S_ .f32 → A F S_ .f32) u3 u4
  let u6 : A F S_ .f32 := (constant S_ .f32 0x3F000000#32)
  let u7 : A F S_ .f32 := (mulf : A F S_ .f32 → A F S_ .f32 → A F S_ .f32) u6 u5
  (addf : A F S_ .f32 → A F S_ .f32 → A F S_ .f32) l u7

/-- A row moved onto its codeword. -/
def stOf (t : A F S16384x256 .f32) (r : A F S16384x256 .f32) : A F S16384x256 .f32 :=
  let u0 : A F S16384x256 .f32 := (subf : A F S16384x256 .f32 → A F S16384x256 .f32 → A F S16384x256 .f32) t r
  (addf : A F S16384x256 .f32 → A F S16384x256 .f32 → A F S16384x256 .f32) r u0

/-- Codes as a column. -/
def colOf (i : A F S16384 .i32) : A F S16384x1 .i32 :=
  (broadcastInDim S16384x1 ![0] bcast_S16384_S16384x1_0 : A F S16384 .i32 → A F S16384x1 .i32) i

/-- Nothing quantized yet. -/
def zeroQ  : A F S16384x256 .f32 :=
  let u0 : A F S_ .f32 := (constant S_ .f32 0x00000000#32)
  (broadcastInDim S16384x256 ![] bcast_S_S16384x256 : A F S_ .f32 → A F S16384x256 .f32) u0

/-- The buffer's contents. -/
abbrev at' (V : Valuation τ sig (Elt F)) (r : Ref sig .tc) := V (Proc.devRef .tc r)

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]

set_option maxHeartbeats 2000000 in
theorem enc0_h0 (V : Valuation τ sig (Elt F)) : at' (after enc0 V) main_v28 = relu_768 (ln_768 (mm_768_768 (at' V main_arg0) (at' V main_arg1) (at' V main_arg2)) (at' V main_arg3) (at' V main_arg4)) := by
  unfold at'
  simp only [enc0, TRef.nullary, TRef.unary, TRef.binary, TRef.ternary, TRef.quaternary, TRef.toBuf, TRef.ofBuf, cast_eq]
  after_results_simp
  first | done | rfl

theorem enc0_args (V : Valuation τ sig (Elt F)) (r : Ref sig .tc) (h : r ∈ argRefs) : at' (after enc0 V) r = at' V r :=
  after_of_writes_sub enc0 V enc0_writes ((by decide : ∀ r ∈ argRefs, r ∉ enc0_W) r h)

set_option maxHeartbeats 2000000 in
theorem enc1_h1 (V : Valuation τ sig (Elt F)) : at' (after enc1b (after enc1a V)) main_v57 = relu_512 (ln_512 (mm_768_512 (at' V main_v28) (at' V main_arg5) (at' V main_arg6)) (at' V main_arg7) (at' V main_arg8)) := by
  unfold at'
  simp only [enc1a, enc1b, TRef.nullary, TRef.unary, TRef.binary, TRef.ternary, TRef.quaternary, TRef.toBuf, TRef.ofBuf, cast_eq]
  after_results_simp
  first | done | rfl

theorem enc1a_args (V : Valuation τ sig (Elt F)) (r : Ref sig .tc) (h : r ∈ argRefs) : at' (after enc1a V) r = at' V r :=
  after_of_writes_sub enc1a V enc1a_writes ((by decide : ∀ r ∈ argRefs, r ∉ enc1a_W) r h)

theorem enc1b_args (V : Valuation τ sig (Elt F)) (r : Ref sig .tc) (h : r ∈ argRefs) : at' (after enc1b V) r = at' V r :=
  after_of_writes_sub enc1b V enc1b_writes ((by decide : ∀ r ∈ argRefs, r ∉ enc1b_W) r h)

set_option maxHeartbeats 2000000 in
theorem enc2_z (V : Valuation τ sig (Elt F)) : at' (after enc2 V) main_v85 = ln_256 (mm_512_256 (at' V main_v57) (at' V main_arg9) (at' V main_arg10)) (at' V main_arg11) (at' V main_arg12) := by
  unfold at'
  simp only [enc2, TRef.nullary, TRef.unary, TRef.binary, TRef.ternary, TRef.quaternary, TRef.toBuf, TRef.ofBuf, cast_eq]
  after_results_simp
  first | done | rfl

theorem enc2_args (V : Valuation τ sig (Elt F)) (r : Ref sig .tc) (h : r ∈ argRefs) : at' (after enc2 V) r = at' V r :=
  after_of_writes_sub enc2 V enc2_writes ((by decide : ∀ r ∈ argRefs, r ∉ enc2_W) r h)

set_option maxHeartbeats 2000000 in
theorem dist0_q (V : Valuation τ sig (Elt F)) : at' (after dist0 V) main_v86 = zeroQ := by
  unfold at'
  simp only [dist0, TRef.nullary, TRef.unary, TRef.binary, TRef.ternary, TRef.quaternary, TRef.toBuf, TRef.ofBuf, cast_eq]
  after_results_simp
  first | done | rfl

set_option maxHeartbeats 2000000 in
theorem dist0_d0 (V : Valuation τ sig (Elt F)) : at' (after dist0 V) main_v100 = dist_8 (at' V main_v85) (at' V main_arg23) := by
  unfold at'
  simp only [dist0, TRef.nullary, TRef.unary, TRef.binary, TRef.ternary, TRef.quaternary, TRef.toBuf, TRef.ofBuf, cast_eq]
  after_results_simp
  first | done | rfl

theorem dist0_args (V : Valuation τ sig (Elt F)) (r : Ref sig .tc) (h : r ∈ argRefs) : at' (after dist0 V) r = at' V r :=
  after_of_writes_sub dist0 V dist0_writes ((by decide : ∀ r ∈ argRefs, r ∉ dist0_W) r h)

set_option maxHeartbeats 2000000 in
theorem arg0_i0 (V : Valuation τ sig (Elt F)) : at' (after arg0 V) main_v101 = near_8 (at' V main_v100) := by
  unfold at'
  simp only [arg0, TRef.nullary, TRef.unary, TRef.binary, TRef.ternary, TRef.quaternary, TRef.toBuf, TRef.ofBuf, cast_eq]
  after_results_simp
  first | done | rfl

theorem arg0_args (V : Valuation τ sig (Elt F)) (r : Ref sig .tc) (h : r ∈ argRefs) : at' (after arg0 V) r = at' V r :=
  after_of_writes_sub arg0 V arg0_writes ((by decide : ∀ r ∈ argRefs, r ∉ arg0_W) r h)

set_option maxHeartbeats 2000000 in
theorem take0_t0 (V : Valuation τ sig (Elt F)) : at' (after take0 V) main_v102 = take_8 (at' V main_arg23) (at' V main_v101) := by
  unfold at'
  simp only [take0, TRef.nullary, TRef.unary, TRef.binary, TRef.ternary, TRef.quaternary, TRef.toBuf, TRef.ofBuf, cast_eq]
  after_results_simp
  first | done | rfl

theorem take0_args (V : Valuation τ sig (Elt F)) (r : Ref sig .tc) (h : r ∈ argRefs) : at' (after take0 V) r = at' V r :=
  after_of_writes_sub take0 V take0_writes ((by decide : ∀ r ∈ argRefs, r ∉ take0_W) r h)

set_option maxHeartbeats 2000000 in
theorem upd0_l0 (V : Valuation τ sig (Elt F)) : at' (after upd0 V) main_v108 = lossOf (at' V main_v102) (at' V main_v85) (constant S_ .f32 0x00000000#32) := by
  unfold at'
  simp only [upd0, TRef.nullary, TRef.unary, TRef.binary, TRef.ternary, TRef.quaternary, TRef.toBuf, TRef.ofBuf, cast_eq]
  after_results_simp
  first | done | rfl

set_option maxHeartbeats 2000000 in
theorem upd0_q0 (V : Valuation τ sig (Elt F)) : at' (after upd0 V) main_v111 = addf (at' V main_v86) (stOf (at' V main_v102) (at' V main_v85)) := by
  unfold at'
  simp only [upd0, TRef.nullary, TRef.unary, TRef.binary, TRef.ternary, TRef.quaternary, TRef.toBuf, TRef.ofBuf, cast_eq]
  after_results_simp
  first | done | rfl

set_option maxHeartbeats 2000000 in
theorem upd0_r0 (V : Valuation τ sig (Elt F)) : at' (after upd0 V) main_v112 = subf (at' V main_v85) (stOf (at' V main_v102) (at' V main_v85)) := by
  unfold at'
  simp only [upd0, TRef.nullary, TRef.unary, TRef.binary, TRef.ternary, TRef.quaternary, TRef.toBuf, TRef.ofBuf, cast_eq]
  after_results_simp
  first | done | rfl

theorem upd0_args (V : Valuation τ sig (Elt F)) (r : Ref sig .tc) (h : r ∈ argRefs) : at' (after upd0 V) r = at' V r :=
  after_of_writes_sub upd0 V upd0_writes ((by decide : ∀ r ∈ argRefs, r ∉ upd0_W) r h)

set_option maxHeartbeats 2000000 in
theorem dist1_d1 (V : Valuation τ sig (Elt F)) : at' (after dist1 V) main_v126 = dist_64 (at' V main_v112) (at' V main_arg24) := by
  unfold at'
  simp only [dist1, TRef.nullary, TRef.unary, TRef.binary, TRef.ternary, TRef.quaternary, TRef.toBuf, TRef.ofBuf, cast_eq]
  after_results_simp
  first | done | rfl

theorem dist1_args (V : Valuation τ sig (Elt F)) (r : Ref sig .tc) (h : r ∈ argRefs) : at' (after dist1 V) r = at' V r :=
  after_of_writes_sub dist1 V dist1_writes ((by decide : ∀ r ∈ argRefs, r ∉ dist1_W) r h)

set_option maxHeartbeats 2000000 in
theorem arg1_i1 (V : Valuation τ sig (Elt F)) : at' (after arg1 V) main_v127 = near_64 (at' V main_v126) := by
  unfold at'
  simp only [arg1, TRef.nullary, TRef.unary, TRef.binary, TRef.ternary, TRef.quaternary, TRef.toBuf, TRef.ofBuf, cast_eq]
  after_results_simp
  first | done | rfl

theorem arg1_args (V : Valuation τ sig (Elt F)) (r : Ref sig .tc) (h : r ∈ argRefs) : at' (after arg1 V) r = at' V r :=
  after_of_writes_sub arg1 V arg1_writes ((by decide : ∀ r ∈ argRefs, r ∉ arg1_W) r h)

set_option maxHeartbeats 2000000 in
theorem take1_t1 (V : Valuation τ sig (Elt F)) : at' (after take1 V) main_v128 = take_64 (at' V main_arg24) (at' V main_v127) := by
  unfold at'
  simp only [take1, TRef.nullary, TRef.unary, TRef.binary, TRef.ternary, TRef.quaternary, TRef.toBuf, TRef.ofBuf, cast_eq]
  after_results_simp
  first | done | rfl

theorem take1_args (V : Valuation τ sig (Elt F)) (r : Ref sig .tc) (h : r ∈ argRefs) : at' (after take1 V) r = at' V r :=
  after_of_writes_sub take1 V take1_writes ((by decide : ∀ r ∈ argRefs, r ∉ take1_W) r h)

set_option maxHeartbeats 2000000 in
theorem upd1_l1 (V : Valuation τ sig (Elt F)) : at' (after upd1 V) main_v134 = lossOf (at' V main_v128) (at' V main_v112) (at' V main_v108) := by
  unfold at'
  simp only [upd1, TRef.nullary, TRef.unary, TRef.binary, TRef.ternary, TRef.quaternary, TRef.toBuf, TRef.ofBuf, cast_eq]
  after_results_simp
  first | done | rfl

set_option maxHeartbeats 2000000 in
theorem upd1_q1 (V : Valuation τ sig (Elt F)) : at' (after upd1 V) main_v137 = addf (at' V main_v111) (stOf (at' V main_v128) (at' V main_v112)) := by
  unfold at'
  simp only [upd1, TRef.nullary, TRef.unary, TRef.binary, TRef.ternary, TRef.quaternary, TRef.toBuf, TRef.ofBuf, cast_eq]
  after_results_simp
  first | done | rfl

set_option maxHeartbeats 2000000 in
theorem upd1_r1 (V : Valuation τ sig (Elt F)) : at' (after upd1 V) main_v138 = subf (at' V main_v112) (stOf (at' V main_v128) (at' V main_v112)) := by
  unfold at'
  simp only [upd1, TRef.nullary, TRef.unary, TRef.binary, TRef.ternary, TRef.quaternary, TRef.toBuf, TRef.ofBuf, cast_eq]
  after_results_simp
  first | done | rfl

theorem upd1_args (V : Valuation τ sig (Elt F)) (r : Ref sig .tc) (h : r ∈ argRefs) : at' (after upd1 V) r = at' V r :=
  after_of_writes_sub upd1 V upd1_writes ((by decide : ∀ r ∈ argRefs, r ∉ upd1_W) r h)

set_option maxHeartbeats 2000000 in
theorem dist2_d2 (V : Valuation τ sig (Elt F)) : at' (after dist2b (after dist2a V)) main_v152 = dist_512 (at' V main_v138) (at' V main_arg25) := by
  unfold at'
  simp only [dist2a, dist2b, TRef.nullary, TRef.unary, TRef.binary, TRef.ternary, TRef.quaternary, TRef.toBuf, TRef.ofBuf, cast_eq]
  after_results_simp
  first | done | rfl

theorem dist2a_args (V : Valuation τ sig (Elt F)) (r : Ref sig .tc) (h : r ∈ argRefs) : at' (after dist2a V) r = at' V r :=
  after_of_writes_sub dist2a V dist2a_writes ((by decide : ∀ r ∈ argRefs, r ∉ dist2a_W) r h)

theorem dist2b_args (V : Valuation τ sig (Elt F)) (r : Ref sig .tc) (h : r ∈ argRefs) : at' (after dist2b V) r = at' V r :=
  after_of_writes_sub dist2b V dist2b_writes ((by decide : ∀ r ∈ argRefs, r ∉ dist2b_W) r h)

set_option maxHeartbeats 2000000 in
theorem arg2_i2 (V : Valuation τ sig (Elt F)) : at' (after arg2 V) main_v153 = near_512 (at' V main_v152) := by
  unfold at'
  simp only [arg2, TRef.nullary, TRef.unary, TRef.binary, TRef.ternary, TRef.quaternary, TRef.toBuf, TRef.ofBuf, cast_eq]
  after_results_simp
  first | done | rfl

theorem arg2_args (V : Valuation τ sig (Elt F)) (r : Ref sig .tc) (h : r ∈ argRefs) : at' (after arg2 V) r = at' V r :=
  after_of_writes_sub arg2 V arg2_writes ((by decide : ∀ r ∈ argRefs, r ∉ arg2_W) r h)

set_option maxHeartbeats 2000000 in
theorem take2_t2 (V : Valuation τ sig (Elt F)) : at' (after take2 V) main_v154 = take_512 (at' V main_arg25) (at' V main_v153) := by
  unfold at'
  simp only [take2, TRef.nullary, TRef.unary, TRef.binary, TRef.ternary, TRef.quaternary, TRef.toBuf, TRef.ofBuf, cast_eq]
  after_results_simp
  first | done | rfl

theorem take2_args (V : Valuation τ sig (Elt F)) (r : Ref sig .tc) (h : r ∈ argRefs) : at' (after take2 V) r = at' V r :=
  after_of_writes_sub take2 V take2_writes ((by decide : ∀ r ∈ argRefs, r ∉ take2_W) r h)

set_option maxHeartbeats 2000000 in
theorem upd2_l2 (V : Valuation τ sig (Elt F)) : at' (after upd2 V) main_v160 = lossOf (at' V main_v154) (at' V main_v138) (at' V main_v134) := by
  unfold at'
  simp only [upd2, TRef.nullary, TRef.unary, TRef.binary, TRef.ternary, TRef.quaternary, TRef.toBuf, TRef.ofBuf, cast_eq]
  after_results_simp
  first | done | rfl

set_option maxHeartbeats 2000000 in
theorem upd2_q2 (V : Valuation τ sig (Elt F)) : at' (after upd2 V) main_v163 = addf (at' V main_v137) (stOf (at' V main_v154) (at' V main_v138)) := by
  unfold at'
  simp only [upd2, TRef.nullary, TRef.unary, TRef.binary, TRef.ternary, TRef.quaternary, TRef.toBuf, TRef.ofBuf, cast_eq]
  after_results_simp
  first | done | rfl

theorem upd2_args (V : Valuation τ sig (Elt F)) (r : Ref sig .tc) (h : r ∈ argRefs) : at' (after upd2 V) r = at' V r :=
  after_of_writes_sub upd2 V upd2_writes ((by decide : ∀ r ∈ argRefs, r ∉ upd2_W) r h)

set_option maxHeartbeats 2000000 in
theorem dec0_g0 (V : Valuation τ sig (Elt F)) : at' (after dec0 V) main_v193 = relu_512 (ln_512 (mm_256_512 (at' V main_v163) (at' V main_arg13) (at' V main_arg14)) (at' V main_arg19) (at' V main_arg20)) := by
  unfold at'
  simp only [dec0, TRef.nullary, TRef.unary, TRef.binary, TRef.ternary, TRef.quaternary, TRef.toBuf, TRef.ofBuf, cast_eq]
  after_results_simp
  first | done | rfl

theorem dec0_args (V : Valuation τ sig (Elt F)) (r : Ref sig .tc) (h : r ∈ argRefs) : at' (after dec0 V) r = at' V r :=
  after_of_writes_sub dec0 V dec0_writes ((by decide : ∀ r ∈ argRefs, r ∉ dec0_W) r h)

set_option maxHeartbeats 2000000 in
theorem dec1_g1 (V : Valuation τ sig (Elt F)) : at' (after dec1b (after dec1a V)) main_v222 = relu_768 (ln_768 (mm_512_768 (at' V main_v193) (at' V main_arg15) (at' V main_arg16)) (at' V main_arg21) (at' V main_arg22)) := by
  unfold at'
  simp only [dec1a, dec1b, TRef.nullary, TRef.unary, TRef.binary, TRef.ternary, TRef.quaternary, TRef.toBuf, TRef.ofBuf, cast_eq]
  after_results_simp
  first | done | rfl

theorem dec1a_args (V : Valuation τ sig (Elt F)) (r : Ref sig .tc) (h : r ∈ argRefs) : at' (after dec1a V) r = at' V r :=
  after_of_writes_sub dec1a V dec1a_writes ((by decide : ∀ r ∈ argRefs, r ∉ dec1a_W) r h)

theorem dec1b_args (V : Valuation τ sig (Elt F)) (r : Ref sig .tc) (h : r ∈ argRefs) : at' (after dec1b V) r = at' V r :=
  after_of_writes_sub dec1b V dec1b_writes ((by decide : ∀ r ∈ argRefs, r ∉ dec1b_W) r h)

set_option maxHeartbeats 2000000 in
theorem fin_out (V : Valuation τ sig (Elt F)) : at' (after fin V) main_v226 = mm_768_768 (at' V main_v222) (at' V main_arg17) (at' V main_arg18) := by
  unfold at'
  simp only [fin, TRef.nullary, TRef.unary, TRef.binary, TRef.ternary, TRef.quaternary, TRef.toBuf, TRef.ofBuf, cast_eq]
  after_results_simp
  first | done | rfl

set_option maxHeartbeats 2000000 in
theorem fin_codes (V : Valuation τ sig (Elt F)) : at' (after fin V) main_v230 = codesOf (colOf (at' V main_v101)) (colOf (at' V main_v127)) (colOf (at' V main_v153)) := by
  unfold at'
  simp only [fin, TRef.nullary, TRef.unary, TRef.binary, TRef.ternary, TRef.quaternary, TRef.toBuf, TRef.ofBuf, cast_eq]
  after_results_simp
  first | done | rfl

theorem fin_args (V : Valuation τ sig (Elt F)) (r : Ref sig .tc) (h : r ∈ argRefs) : at' (after fin V) r = at' V r :=
  after_of_writes_sub fin V fin_writes ((by decide : ∀ r ∈ argRefs, r ∉ fin_W) r h)

def h0 (V : Valuation τ sig (Elt F)) : A F S16384x768 .f32 := relu_768 (ln_768 (mm_768_768 (at' V main_arg0) (at' V main_arg1) (at' V main_arg2)) (at' V main_arg3) (at' V main_arg4))
def h1 (V : Valuation τ sig (Elt F)) : A F S16384x512 .f32 := relu_512 (ln_512 (mm_768_512 (h0 V) (at' V main_arg5) (at' V main_arg6)) (at' V main_arg7) (at' V main_arg8))
def z (V : Valuation τ sig (Elt F)) : A F S16384x256 .f32 := ln_256 (mm_512_256 (h1 V) (at' V main_arg9) (at' V main_arg10)) (at' V main_arg11) (at' V main_arg12)
def q (V : Valuation τ sig (Elt F)) : A F S16384x256 .f32 := zeroQ
def d0 (V : Valuation τ sig (Elt F)) : A F S16384x8 .f32 := dist_8 (z V) (at' V main_arg23)
def i0 (V : Valuation τ sig (Elt F)) : A F S16384 .i32 := near_8 (d0 V)
def t0 (V : Valuation τ sig (Elt F)) : A F S16384x256 .f32 := take_8 (at' V main_arg23) (i0 V)
def l0 (V : Valuation τ sig (Elt F)) : A F S_ .f32 := lossOf (t0 V) (z V) (constant S_ .f32 0x00000000#32)
def q0 (V : Valuation τ sig (Elt F)) : A F S16384x256 .f32 := addf (q V) (stOf (t0 V) (z V))
def r0 (V : Valuation τ sig (Elt F)) : A F S16384x256 .f32 := subf (z V) (stOf (t0 V) (z V))
def d1 (V : Valuation τ sig (Elt F)) : A F S16384x64 .f32 := dist_64 (r0 V) (at' V main_arg24)
def i1 (V : Valuation τ sig (Elt F)) : A F S16384 .i32 := near_64 (d1 V)
def t1 (V : Valuation τ sig (Elt F)) : A F S16384x256 .f32 := take_64 (at' V main_arg24) (i1 V)
def l1 (V : Valuation τ sig (Elt F)) : A F S_ .f32 := lossOf (t1 V) (r0 V) (l0 V)
def q1 (V : Valuation τ sig (Elt F)) : A F S16384x256 .f32 := addf (q0 V) (stOf (t1 V) (r0 V))
def r1 (V : Valuation τ sig (Elt F)) : A F S16384x256 .f32 := subf (r0 V) (stOf (t1 V) (r0 V))
def d2 (V : Valuation τ sig (Elt F)) : A F S16384x512 .f32 := dist_512 (r1 V) (at' V main_arg25)
def i2 (V : Valuation τ sig (Elt F)) : A F S16384 .i32 := near_512 (d2 V)
def t2 (V : Valuation τ sig (Elt F)) : A F S16384x256 .f32 := take_512 (at' V main_arg25) (i2 V)
def l2 (V : Valuation τ sig (Elt F)) : A F S_ .f32 := lossOf (t2 V) (r1 V) (l1 V)
def q2 (V : Valuation τ sig (Elt F)) : A F S16384x256 .f32 := addf (q1 V) (stOf (t2 V) (r1 V))
def g0 (V : Valuation τ sig (Elt F)) : A F S16384x512 .f32 := relu_512 (ln_512 (mm_256_512 (q2 V) (at' V main_arg13) (at' V main_arg14)) (at' V main_arg19) (at' V main_arg20))
def g1 (V : Valuation τ sig (Elt F)) : A F S16384x768 .f32 := relu_768 (ln_768 (mm_512_768 (g0 V) (at' V main_arg15) (at' V main_arg16)) (at' V main_arg21) (at' V main_arg22))
def out (V : Valuation τ sig (Elt F)) : A F S16384x768 .f32 := mm_768_768 (g1 V) (at' V main_arg17) (at' V main_arg18)
def codes (V : Valuation τ sig (Elt F)) : A F S16384x3 .i32 := codesOf (colOf (i0 V)) (colOf (i1 V)) (colOf (i2 V))

def st0 (V : Valuation τ sig (Elt F)) : Valuation τ sig (Elt F) := after enc0 V
theorem st0_args (V : Valuation τ sig (Elt F)) (r : Ref sig .tc) (h : r ∈ argRefs) : at' (st0 V) r = at' V r :=
  (enc0_args V r h).trans (rfl)
theorem st0_h0 (V : Valuation τ sig (Elt F)) : at' (st0 V) main_v28 = h0 V :=
  enc0_h0 V

def st1 (V : Valuation τ sig (Elt F)) : Valuation τ sig (Elt F) := after enc1b (after enc1a (st0 V))
theorem st1_args (V : Valuation τ sig (Elt F)) (r : Ref sig .tc) (h : r ∈ argRefs) : at' (st1 V) r = at' V r :=
  (enc1b_args (after enc1a (st0 V)) r h).trans ((enc1a_args (st0 V) r h).trans (st0_args V r h))
theorem st1_h1 (V : Valuation τ sig (Elt F)) : at' (st1 V) main_v57 = h1 V :=
  (enc1_h1 (st0 V)).trans (by rw [st0_h0 V, st0_args V main_arg5 (by decide), st0_args V main_arg6 (by decide), st0_args V main_arg7 (by decide), st0_args V main_arg8 (by decide)]; rfl)

def st2 (V : Valuation τ sig (Elt F)) : Valuation τ sig (Elt F) := after enc2 (st1 V)
theorem st2_args (V : Valuation τ sig (Elt F)) (r : Ref sig .tc) (h : r ∈ argRefs) : at' (st2 V) r = at' V r :=
  (enc2_args (st1 V) r h).trans (st1_args V r h)
theorem st2_z (V : Valuation τ sig (Elt F)) : at' (st2 V) main_v85 = z V :=
  (enc2_z (st1 V)).trans (by rw [st1_h1 V, st1_args V main_arg9 (by decide), st1_args V main_arg10 (by decide), st1_args V main_arg11 (by decide), st1_args V main_arg12 (by decide)]; rfl)

def st3 (V : Valuation τ sig (Elt F)) : Valuation τ sig (Elt F) := after dist0 (st2 V)
theorem st3_args (V : Valuation τ sig (Elt F)) (r : Ref sig .tc) (h : r ∈ argRefs) : at' (st3 V) r = at' V r :=
  (dist0_args (st2 V) r h).trans (st2_args V r h)
theorem st3_z (V : Valuation τ sig (Elt F)) : at' (st3 V) main_v85 = z V :=
  (after_of_writes_sub dist0 _ dist0_writes (by decide : main_v85 ∉ dist0_W)).trans (st2_z V)
theorem st3_q (V : Valuation τ sig (Elt F)) : at' (st3 V) main_v86 = q V :=
  dist0_q (st2 V)
theorem st3_d0 (V : Valuation τ sig (Elt F)) : at' (st3 V) main_v100 = d0 V :=
  (dist0_d0 (st2 V)).trans (by rw [st2_z V, st2_args V main_arg23 (by decide)]; rfl)

def st4 (V : Valuation τ sig (Elt F)) : Valuation τ sig (Elt F) := after arg0 (st3 V)
theorem st4_args (V : Valuation τ sig (Elt F)) (r : Ref sig .tc) (h : r ∈ argRefs) : at' (st4 V) r = at' V r :=
  (arg0_args (st3 V) r h).trans (st3_args V r h)
theorem st4_z (V : Valuation τ sig (Elt F)) : at' (st4 V) main_v85 = z V :=
  (after_of_writes_sub arg0 _ arg0_writes (by decide : main_v85 ∉ arg0_W)).trans (st3_z V)
theorem st4_q (V : Valuation τ sig (Elt F)) : at' (st4 V) main_v86 = q V :=
  (after_of_writes_sub arg0 _ arg0_writes (by decide : main_v86 ∉ arg0_W)).trans (st3_q V)
theorem st4_i0 (V : Valuation τ sig (Elt F)) : at' (st4 V) main_v101 = i0 V :=
  (arg0_i0 (st3 V)).trans (by rw [st3_d0 V]; rfl)

def st5 (V : Valuation τ sig (Elt F)) : Valuation τ sig (Elt F) := after take0 (st4 V)
theorem st5_args (V : Valuation τ sig (Elt F)) (r : Ref sig .tc) (h : r ∈ argRefs) : at' (st5 V) r = at' V r :=
  (take0_args (st4 V) r h).trans (st4_args V r h)
theorem st5_z (V : Valuation τ sig (Elt F)) : at' (st5 V) main_v85 = z V :=
  (after_of_writes_sub take0 _ take0_writes (by decide : main_v85 ∉ take0_W)).trans (st4_z V)
theorem st5_q (V : Valuation τ sig (Elt F)) : at' (st5 V) main_v86 = q V :=
  (after_of_writes_sub take0 _ take0_writes (by decide : main_v86 ∉ take0_W)).trans (st4_q V)
theorem st5_i0 (V : Valuation τ sig (Elt F)) : at' (st5 V) main_v101 = i0 V :=
  (after_of_writes_sub take0 _ take0_writes (by decide : main_v101 ∉ take0_W)).trans (st4_i0 V)
theorem st5_t0 (V : Valuation τ sig (Elt F)) : at' (st5 V) main_v102 = t0 V :=
  (take0_t0 (st4 V)).trans (by rw [st4_args V main_arg23 (by decide), st4_i0 V]; rfl)

def st6 (V : Valuation τ sig (Elt F)) : Valuation τ sig (Elt F) := after upd0 (st5 V)
theorem st6_args (V : Valuation τ sig (Elt F)) (r : Ref sig .tc) (h : r ∈ argRefs) : at' (st6 V) r = at' V r :=
  (upd0_args (st5 V) r h).trans (st5_args V r h)
theorem st6_i0 (V : Valuation τ sig (Elt F)) : at' (st6 V) main_v101 = i0 V :=
  (after_of_writes_sub upd0 _ upd0_writes (by decide : main_v101 ∉ upd0_W)).trans (st5_i0 V)
theorem st6_l0 (V : Valuation τ sig (Elt F)) : at' (st6 V) main_v108 = l0 V :=
  (upd0_l0 (st5 V)).trans (by rw [st5_t0 V, st5_z V]; rfl)
theorem st6_q0 (V : Valuation τ sig (Elt F)) : at' (st6 V) main_v111 = q0 V :=
  (upd0_q0 (st5 V)).trans (by rw [st5_q V, st5_t0 V, st5_z V]; rfl)
theorem st6_r0 (V : Valuation τ sig (Elt F)) : at' (st6 V) main_v112 = r0 V :=
  (upd0_r0 (st5 V)).trans (by rw [st5_z V, st5_t0 V]; rfl)

def st7 (V : Valuation τ sig (Elt F)) : Valuation τ sig (Elt F) := after dist1 (st6 V)
theorem st7_args (V : Valuation τ sig (Elt F)) (r : Ref sig .tc) (h : r ∈ argRefs) : at' (st7 V) r = at' V r :=
  (dist1_args (st6 V) r h).trans (st6_args V r h)
theorem st7_i0 (V : Valuation τ sig (Elt F)) : at' (st7 V) main_v101 = i0 V :=
  (after_of_writes_sub dist1 _ dist1_writes (by decide : main_v101 ∉ dist1_W)).trans (st6_i0 V)
theorem st7_l0 (V : Valuation τ sig (Elt F)) : at' (st7 V) main_v108 = l0 V :=
  (after_of_writes_sub dist1 _ dist1_writes (by decide : main_v108 ∉ dist1_W)).trans (st6_l0 V)
theorem st7_q0 (V : Valuation τ sig (Elt F)) : at' (st7 V) main_v111 = q0 V :=
  (after_of_writes_sub dist1 _ dist1_writes (by decide : main_v111 ∉ dist1_W)).trans (st6_q0 V)
theorem st7_r0 (V : Valuation τ sig (Elt F)) : at' (st7 V) main_v112 = r0 V :=
  (after_of_writes_sub dist1 _ dist1_writes (by decide : main_v112 ∉ dist1_W)).trans (st6_r0 V)
theorem st7_d1 (V : Valuation τ sig (Elt F)) : at' (st7 V) main_v126 = d1 V :=
  (dist1_d1 (st6 V)).trans (by rw [st6_r0 V, st6_args V main_arg24 (by decide)]; rfl)

def st8 (V : Valuation τ sig (Elt F)) : Valuation τ sig (Elt F) := after arg1 (st7 V)
theorem st8_args (V : Valuation τ sig (Elt F)) (r : Ref sig .tc) (h : r ∈ argRefs) : at' (st8 V) r = at' V r :=
  (arg1_args (st7 V) r h).trans (st7_args V r h)
theorem st8_i0 (V : Valuation τ sig (Elt F)) : at' (st8 V) main_v101 = i0 V :=
  (after_of_writes_sub arg1 _ arg1_writes (by decide : main_v101 ∉ arg1_W)).trans (st7_i0 V)
theorem st8_l0 (V : Valuation τ sig (Elt F)) : at' (st8 V) main_v108 = l0 V :=
  (after_of_writes_sub arg1 _ arg1_writes (by decide : main_v108 ∉ arg1_W)).trans (st7_l0 V)
theorem st8_q0 (V : Valuation τ sig (Elt F)) : at' (st8 V) main_v111 = q0 V :=
  (after_of_writes_sub arg1 _ arg1_writes (by decide : main_v111 ∉ arg1_W)).trans (st7_q0 V)
theorem st8_r0 (V : Valuation τ sig (Elt F)) : at' (st8 V) main_v112 = r0 V :=
  (after_of_writes_sub arg1 _ arg1_writes (by decide : main_v112 ∉ arg1_W)).trans (st7_r0 V)
theorem st8_i1 (V : Valuation τ sig (Elt F)) : at' (st8 V) main_v127 = i1 V :=
  (arg1_i1 (st7 V)).trans (by rw [st7_d1 V]; rfl)

def st9 (V : Valuation τ sig (Elt F)) : Valuation τ sig (Elt F) := after take1 (st8 V)
theorem st9_args (V : Valuation τ sig (Elt F)) (r : Ref sig .tc) (h : r ∈ argRefs) : at' (st9 V) r = at' V r :=
  (take1_args (st8 V) r h).trans (st8_args V r h)
theorem st9_i0 (V : Valuation τ sig (Elt F)) : at' (st9 V) main_v101 = i0 V :=
  (after_of_writes_sub take1 _ take1_writes (by decide : main_v101 ∉ take1_W)).trans (st8_i0 V)
theorem st9_l0 (V : Valuation τ sig (Elt F)) : at' (st9 V) main_v108 = l0 V :=
  (after_of_writes_sub take1 _ take1_writes (by decide : main_v108 ∉ take1_W)).trans (st8_l0 V)
theorem st9_q0 (V : Valuation τ sig (Elt F)) : at' (st9 V) main_v111 = q0 V :=
  (after_of_writes_sub take1 _ take1_writes (by decide : main_v111 ∉ take1_W)).trans (st8_q0 V)
theorem st9_r0 (V : Valuation τ sig (Elt F)) : at' (st9 V) main_v112 = r0 V :=
  (after_of_writes_sub take1 _ take1_writes (by decide : main_v112 ∉ take1_W)).trans (st8_r0 V)
theorem st9_i1 (V : Valuation τ sig (Elt F)) : at' (st9 V) main_v127 = i1 V :=
  (after_of_writes_sub take1 _ take1_writes (by decide : main_v127 ∉ take1_W)).trans (st8_i1 V)
theorem st9_t1 (V : Valuation τ sig (Elt F)) : at' (st9 V) main_v128 = t1 V :=
  (take1_t1 (st8 V)).trans (by rw [st8_args V main_arg24 (by decide), st8_i1 V]; rfl)

def st10 (V : Valuation τ sig (Elt F)) : Valuation τ sig (Elt F) := after upd1 (st9 V)
theorem st10_args (V : Valuation τ sig (Elt F)) (r : Ref sig .tc) (h : r ∈ argRefs) : at' (st10 V) r = at' V r :=
  (upd1_args (st9 V) r h).trans (st9_args V r h)
theorem st10_i0 (V : Valuation τ sig (Elt F)) : at' (st10 V) main_v101 = i0 V :=
  (after_of_writes_sub upd1 _ upd1_writes (by decide : main_v101 ∉ upd1_W)).trans (st9_i0 V)
theorem st10_i1 (V : Valuation τ sig (Elt F)) : at' (st10 V) main_v127 = i1 V :=
  (after_of_writes_sub upd1 _ upd1_writes (by decide : main_v127 ∉ upd1_W)).trans (st9_i1 V)
theorem st10_l1 (V : Valuation τ sig (Elt F)) : at' (st10 V) main_v134 = l1 V :=
  (upd1_l1 (st9 V)).trans (by rw [st9_t1 V, st9_r0 V, st9_l0 V]; rfl)
theorem st10_q1 (V : Valuation τ sig (Elt F)) : at' (st10 V) main_v137 = q1 V :=
  (upd1_q1 (st9 V)).trans (by rw [st9_q0 V, st9_t1 V, st9_r0 V]; rfl)
theorem st10_r1 (V : Valuation τ sig (Elt F)) : at' (st10 V) main_v138 = r1 V :=
  (upd1_r1 (st9 V)).trans (by rw [st9_r0 V, st9_t1 V]; rfl)

def st11 (V : Valuation τ sig (Elt F)) : Valuation τ sig (Elt F) := after dist2b (after dist2a (st10 V))
theorem st11_args (V : Valuation τ sig (Elt F)) (r : Ref sig .tc) (h : r ∈ argRefs) : at' (st11 V) r = at' V r :=
  (dist2b_args (after dist2a (st10 V)) r h).trans ((dist2a_args (st10 V) r h).trans (st10_args V r h))
theorem st11_i0 (V : Valuation τ sig (Elt F)) : at' (st11 V) main_v101 = i0 V :=
  (after_of_writes_sub dist2b _ dist2b_writes (by decide : main_v101 ∉ dist2b_W)).trans ((after_of_writes_sub dist2a _ dist2a_writes (by decide : main_v101 ∉ dist2a_W)).trans (st10_i0 V))
theorem st11_i1 (V : Valuation τ sig (Elt F)) : at' (st11 V) main_v127 = i1 V :=
  (after_of_writes_sub dist2b _ dist2b_writes (by decide : main_v127 ∉ dist2b_W)).trans ((after_of_writes_sub dist2a _ dist2a_writes (by decide : main_v127 ∉ dist2a_W)).trans (st10_i1 V))
theorem st11_l1 (V : Valuation τ sig (Elt F)) : at' (st11 V) main_v134 = l1 V :=
  (after_of_writes_sub dist2b _ dist2b_writes (by decide : main_v134 ∉ dist2b_W)).trans ((after_of_writes_sub dist2a _ dist2a_writes (by decide : main_v134 ∉ dist2a_W)).trans (st10_l1 V))
theorem st11_q1 (V : Valuation τ sig (Elt F)) : at' (st11 V) main_v137 = q1 V :=
  (after_of_writes_sub dist2b _ dist2b_writes (by decide : main_v137 ∉ dist2b_W)).trans ((after_of_writes_sub dist2a _ dist2a_writes (by decide : main_v137 ∉ dist2a_W)).trans (st10_q1 V))
theorem st11_r1 (V : Valuation τ sig (Elt F)) : at' (st11 V) main_v138 = r1 V :=
  (after_of_writes_sub dist2b _ dist2b_writes (by decide : main_v138 ∉ dist2b_W)).trans ((after_of_writes_sub dist2a _ dist2a_writes (by decide : main_v138 ∉ dist2a_W)).trans (st10_r1 V))
theorem st11_d2 (V : Valuation τ sig (Elt F)) : at' (st11 V) main_v152 = d2 V :=
  (dist2_d2 (st10 V)).trans (by rw [st10_r1 V, st10_args V main_arg25 (by decide)]; rfl)

def st12 (V : Valuation τ sig (Elt F)) : Valuation τ sig (Elt F) := after arg2 (st11 V)
theorem st12_args (V : Valuation τ sig (Elt F)) (r : Ref sig .tc) (h : r ∈ argRefs) : at' (st12 V) r = at' V r :=
  (arg2_args (st11 V) r h).trans (st11_args V r h)
theorem st12_i0 (V : Valuation τ sig (Elt F)) : at' (st12 V) main_v101 = i0 V :=
  (after_of_writes_sub arg2 _ arg2_writes (by decide : main_v101 ∉ arg2_W)).trans (st11_i0 V)
theorem st12_i1 (V : Valuation τ sig (Elt F)) : at' (st12 V) main_v127 = i1 V :=
  (after_of_writes_sub arg2 _ arg2_writes (by decide : main_v127 ∉ arg2_W)).trans (st11_i1 V)
theorem st12_l1 (V : Valuation τ sig (Elt F)) : at' (st12 V) main_v134 = l1 V :=
  (after_of_writes_sub arg2 _ arg2_writes (by decide : main_v134 ∉ arg2_W)).trans (st11_l1 V)
theorem st12_q1 (V : Valuation τ sig (Elt F)) : at' (st12 V) main_v137 = q1 V :=
  (after_of_writes_sub arg2 _ arg2_writes (by decide : main_v137 ∉ arg2_W)).trans (st11_q1 V)
theorem st12_r1 (V : Valuation τ sig (Elt F)) : at' (st12 V) main_v138 = r1 V :=
  (after_of_writes_sub arg2 _ arg2_writes (by decide : main_v138 ∉ arg2_W)).trans (st11_r1 V)
theorem st12_i2 (V : Valuation τ sig (Elt F)) : at' (st12 V) main_v153 = i2 V :=
  (arg2_i2 (st11 V)).trans (by rw [st11_d2 V]; rfl)

def st13 (V : Valuation τ sig (Elt F)) : Valuation τ sig (Elt F) := after take2 (st12 V)
theorem st13_args (V : Valuation τ sig (Elt F)) (r : Ref sig .tc) (h : r ∈ argRefs) : at' (st13 V) r = at' V r :=
  (take2_args (st12 V) r h).trans (st12_args V r h)
theorem st13_i0 (V : Valuation τ sig (Elt F)) : at' (st13 V) main_v101 = i0 V :=
  (after_of_writes_sub take2 _ take2_writes (by decide : main_v101 ∉ take2_W)).trans (st12_i0 V)
theorem st13_i1 (V : Valuation τ sig (Elt F)) : at' (st13 V) main_v127 = i1 V :=
  (after_of_writes_sub take2 _ take2_writes (by decide : main_v127 ∉ take2_W)).trans (st12_i1 V)
theorem st13_l1 (V : Valuation τ sig (Elt F)) : at' (st13 V) main_v134 = l1 V :=
  (after_of_writes_sub take2 _ take2_writes (by decide : main_v134 ∉ take2_W)).trans (st12_l1 V)
theorem st13_q1 (V : Valuation τ sig (Elt F)) : at' (st13 V) main_v137 = q1 V :=
  (after_of_writes_sub take2 _ take2_writes (by decide : main_v137 ∉ take2_W)).trans (st12_q1 V)
theorem st13_r1 (V : Valuation τ sig (Elt F)) : at' (st13 V) main_v138 = r1 V :=
  (after_of_writes_sub take2 _ take2_writes (by decide : main_v138 ∉ take2_W)).trans (st12_r1 V)
theorem st13_i2 (V : Valuation τ sig (Elt F)) : at' (st13 V) main_v153 = i2 V :=
  (after_of_writes_sub take2 _ take2_writes (by decide : main_v153 ∉ take2_W)).trans (st12_i2 V)
theorem st13_t2 (V : Valuation τ sig (Elt F)) : at' (st13 V) main_v154 = t2 V :=
  (take2_t2 (st12 V)).trans (by rw [st12_args V main_arg25 (by decide), st12_i2 V]; rfl)

def st14 (V : Valuation τ sig (Elt F)) : Valuation τ sig (Elt F) := after upd2 (st13 V)
theorem st14_args (V : Valuation τ sig (Elt F)) (r : Ref sig .tc) (h : r ∈ argRefs) : at' (st14 V) r = at' V r :=
  (upd2_args (st13 V) r h).trans (st13_args V r h)
theorem st14_i0 (V : Valuation τ sig (Elt F)) : at' (st14 V) main_v101 = i0 V :=
  (after_of_writes_sub upd2 _ upd2_writes (by decide : main_v101 ∉ upd2_W)).trans (st13_i0 V)
theorem st14_i1 (V : Valuation τ sig (Elt F)) : at' (st14 V) main_v127 = i1 V :=
  (after_of_writes_sub upd2 _ upd2_writes (by decide : main_v127 ∉ upd2_W)).trans (st13_i1 V)
theorem st14_i2 (V : Valuation τ sig (Elt F)) : at' (st14 V) main_v153 = i2 V :=
  (after_of_writes_sub upd2 _ upd2_writes (by decide : main_v153 ∉ upd2_W)).trans (st13_i2 V)
theorem st14_l2 (V : Valuation τ sig (Elt F)) : at' (st14 V) main_v160 = l2 V :=
  (upd2_l2 (st13 V)).trans (by rw [st13_t2 V, st13_r1 V, st13_l1 V]; rfl)
theorem st14_q2 (V : Valuation τ sig (Elt F)) : at' (st14 V) main_v163 = q2 V :=
  (upd2_q2 (st13 V)).trans (by rw [st13_q1 V, st13_t2 V, st13_r1 V]; rfl)

def st15 (V : Valuation τ sig (Elt F)) : Valuation τ sig (Elt F) := after dec0 (st14 V)
theorem st15_args (V : Valuation τ sig (Elt F)) (r : Ref sig .tc) (h : r ∈ argRefs) : at' (st15 V) r = at' V r :=
  (dec0_args (st14 V) r h).trans (st14_args V r h)
theorem st15_i0 (V : Valuation τ sig (Elt F)) : at' (st15 V) main_v101 = i0 V :=
  (after_of_writes_sub dec0 _ dec0_writes (by decide : main_v101 ∉ dec0_W)).trans (st14_i0 V)
theorem st15_i1 (V : Valuation τ sig (Elt F)) : at' (st15 V) main_v127 = i1 V :=
  (after_of_writes_sub dec0 _ dec0_writes (by decide : main_v127 ∉ dec0_W)).trans (st14_i1 V)
theorem st15_i2 (V : Valuation τ sig (Elt F)) : at' (st15 V) main_v153 = i2 V :=
  (after_of_writes_sub dec0 _ dec0_writes (by decide : main_v153 ∉ dec0_W)).trans (st14_i2 V)
theorem st15_l2 (V : Valuation τ sig (Elt F)) : at' (st15 V) main_v160 = l2 V :=
  (after_of_writes_sub dec0 _ dec0_writes (by decide : main_v160 ∉ dec0_W)).trans (st14_l2 V)
theorem st15_g0 (V : Valuation τ sig (Elt F)) : at' (st15 V) main_v193 = g0 V :=
  (dec0_g0 (st14 V)).trans (by rw [st14_q2 V, st14_args V main_arg13 (by decide), st14_args V main_arg14 (by decide), st14_args V main_arg19 (by decide), st14_args V main_arg20 (by decide)]; rfl)

def st16 (V : Valuation τ sig (Elt F)) : Valuation τ sig (Elt F) := after dec1b (after dec1a (st15 V))
theorem st16_args (V : Valuation τ sig (Elt F)) (r : Ref sig .tc) (h : r ∈ argRefs) : at' (st16 V) r = at' V r :=
  (dec1b_args (after dec1a (st15 V)) r h).trans ((dec1a_args (st15 V) r h).trans (st15_args V r h))
theorem st16_i0 (V : Valuation τ sig (Elt F)) : at' (st16 V) main_v101 = i0 V :=
  (after_of_writes_sub dec1b _ dec1b_writes (by decide : main_v101 ∉ dec1b_W)).trans ((after_of_writes_sub dec1a _ dec1a_writes (by decide : main_v101 ∉ dec1a_W)).trans (st15_i0 V))
theorem st16_i1 (V : Valuation τ sig (Elt F)) : at' (st16 V) main_v127 = i1 V :=
  (after_of_writes_sub dec1b _ dec1b_writes (by decide : main_v127 ∉ dec1b_W)).trans ((after_of_writes_sub dec1a _ dec1a_writes (by decide : main_v127 ∉ dec1a_W)).trans (st15_i1 V))
theorem st16_i2 (V : Valuation τ sig (Elt F)) : at' (st16 V) main_v153 = i2 V :=
  (after_of_writes_sub dec1b _ dec1b_writes (by decide : main_v153 ∉ dec1b_W)).trans ((after_of_writes_sub dec1a _ dec1a_writes (by decide : main_v153 ∉ dec1a_W)).trans (st15_i2 V))
theorem st16_l2 (V : Valuation τ sig (Elt F)) : at' (st16 V) main_v160 = l2 V :=
  (after_of_writes_sub dec1b _ dec1b_writes (by decide : main_v160 ∉ dec1b_W)).trans ((after_of_writes_sub dec1a _ dec1a_writes (by decide : main_v160 ∉ dec1a_W)).trans (st15_l2 V))
theorem st16_g1 (V : Valuation τ sig (Elt F)) : at' (st16 V) main_v222 = g1 V :=
  (dec1_g1 (st15 V)).trans (by rw [st15_g0 V, st15_args V main_arg15 (by decide), st15_args V main_arg16 (by decide), st15_args V main_arg21 (by decide), st15_args V main_arg22 (by decide)]; rfl)

def st17 (V : Valuation τ sig (Elt F)) : Valuation τ sig (Elt F) := after fin (st16 V)
theorem st17_args (V : Valuation τ sig (Elt F)) (r : Ref sig .tc) (h : r ∈ argRefs) : at' (st17 V) r = at' V r :=
  (fin_args (st16 V) r h).trans (st16_args V r h)
theorem st17_l2 (V : Valuation τ sig (Elt F)) : at' (st17 V) main_v160 = l2 V :=
  (after_of_writes_sub fin _ fin_writes (by decide : main_v160 ∉ fin_W)).trans (st16_l2 V)
theorem st17_out (V : Valuation τ sig (Elt F)) : at' (st17 V) main_v226 = out V :=
  (fin_out (st16 V)).trans (by rw [st16_g1 V, st16_args V main_arg17 (by decide), st16_args V main_arg18 (by decide)]; rfl)
theorem st17_codes (V : Valuation τ sig (Elt F)) : at' (st17 V) main_v230 = codes V :=
  (fin_codes (st16 V)).trans (by rw [st16_i0 V, st16_i1 V, st16_i2 V]; rfl)

theorem ops_st (V : Valuation τ sig (Elt F)) : after ops V = st17 V := by
  simp only [ops, part0, part1, part2, part3, part4, after_append]
  rfl

/-- The reference runs, its results at `out`, `l2` and `codes` of the launch contents, its arguments as they were. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v226) = out (launchContents m c)
        ∧ r.2.mem ((c.tc : Thread nD τ).loc main_v160) = l2 (launchContents m c)
        ∧ r.2.mem ((c.tc : Thread nD τ).loc main_v230) = codes (launchContents m c)
        ∧ ∀ b ∈ argRefs, r.2.mem ((c.tc : Thread nD τ).loc b) = m ((c.tc : Thread nD τ).loc b))
      ∧ r.2.sem = fun _ => 0 :=
  (θ_run defs _ _).mono (fun r h => ⟨fun c =>
      ⟨(h c main_v226).trans ((congrFun (ops_st (launchContents m c)) _).trans (st17_out _)),
       (h c main_v160).trans ((congrFun (ops_st (launchContents m c)) _).trans (st17_l2 _)),
       (h c main_v230).trans ((congrFun (ops_st (launchContents m c)) _).trans (st17_codes _)),
       fun b hb => (h c b).trans ((congrFun (ops_st (launchContents m c)) _).trans (st17_args _ b hb))⟩,
      Idealize.ShloMosaic.sem_eq_zero_of_no_sems (by decide) r.2⟩)
    (run_seq scopedRefs_eq scopedSems_eq defs main (fun _ => ops) main_eq (fun _ => ops_sub) m ρ
      fun _ => List.forall_iff_forall_mem.mp ops_fresh)

end Cert.ReferenceIdeal.Hand

end
-- ==== Proof.RefNear.lean ====
module
public import proofs.«01_k».proof.Proof.RefVal
public import proofs.«01_k».proof.Proof.Row
public import Idealize.ShloMosaic.Lib.Routing.Ops
@[expose] public section
set_option maxRecDepth 16384
noncomputable section

/-! The reference's arg-min in a row: the first of the smallest entries' places. -/
namespace Cert.ReferenceIdeal.Hand
open Cert.ReferenceIdeal Cert.ReferenceIdeal.Gen Idealize.ShloMosaic Idealize.ShloMosaic.TcCoe Idealize.SL.Sem Cert.Vq
set_option maxHeartbeats 4000000

theorem reducer_eq (p q : Ideal .f32 × BitVec 32) :
    reducer_argmin_f32_i32 (F := Ideal) p q = if p.1 < q.1 ∨ (p.1 = q.1 ∧ p.2.slt q.2 = true) then p else q := by
  obtain ⟨a, u⟩ := p
  obtain ⟨b, v⟩ := q
  simp only [reducer_argmin_f32_i32, Ideal.cmpf_def, Ideal.cmp, IntOp.cmpi, IntOp.ori, IntOp.andi, Scalar.select]
  have hor : ∀ x : BitVec 1, 1#1 ||| x = 1#1 := by decide
  by_cases h1 : a < b
  · simp [h1, hor]
  · by_cases h2 : a = b
    · subst h2
      by_cases h3 : u.slt v = true
      · simp [h3]
      · simp [h3]
    · simp [h1, h2]

theorem slt_small {a b : Nat} (ha : a ≤ 512) (hb : b ≤ 512) : (BitVec.ofNat 32 a).slt (BitVec.ofNat 32 b) = decide (a < b) := by
  rw [BitVec.slt, toInt_small a ha, toInt_small b hb]
  simp

/-- The place the reference's arg-min finds in a row is the first of the smallest entries'. -/
theorem argmin_row {a n : Nat} [NeZero n] (hn : n ≤ 512) (h : (⟨2, ![a, n]⟩ : Shape).ReducesTo [1] ⟨1, ![a]⟩) (hu : 0 < S_.numel)
    (d : FVec Ideal ⟨2, ![a, n]⟩ .f32) (i : Fin a) (hd : d (ix2 i (near fun k => d (ix2 i k))) ≠ ⊤) :
    (Host.argReduce reducer_argmin_f32_i32 d (iotaInDim ⟨2, ![a, n]⟩ 32 1) (constant (F := Ideal) S_ .f32 0x7F800000#32)
      (constantI S_ 32 0#32) h hu (ix1 i)).2 = BitVec.ofNat 32 (near fun k => d (ix2 i k)).val := by
  rw [Ideal.argReduce_eq_reduce2, Host.reduce2_eq_foldl_fiber]
  set k := near fun k => d (ix2 i k) with hk
  have hin : ∀ p ∈ Host.argReduceFiber d (iotaInDim ⟨2, ![a, n]⟩ 32 1) h (ix1 i), ∃ l : Fin n, p = (d (ix2 i l), BitVec.ofNat 32 l.val) := by
    intro p hp
    obtain ⟨w, hw, rfl⟩ := List.mem_map.1 hp
    obtain ⟨l, hl⟩ := (h.fiber_r2_a1 _ _).1 (of_decide_eq_true (List.mem_filter.1 hw).2)
    refine ⟨l, ?_⟩
    rw [← hl]
    rfl
  have hmem : (d (ix2 i k), BitVec.ofNat 32 k.val) ∈ Host.argReduceFiber d (iotaInDim ⟨2, ![a, n]⟩ 32 1) h (ix1 i) := by
    refine List.mem_map.2 ⟨(⟨2, ![a, n]⟩ : Shape).rowMajor (ix2 i k), List.mem_filter.2 ⟨List.mem_finRange _, ?_⟩, ?_⟩
    · rw [Equiv.symm_apply_apply]
      exact decide_eq_true ((h.fiber_r2_a1 _ _).2 ⟨k, rfl⟩)
    · rw [Equiv.symm_apply_apply]
      rfl
  rw [foldl_pick _ (d (ix2 i k), BitVec.ofNat 32 k.val) _ _ _ _ _ (Or.inr hmem)]
  · intro p q
    rw [reducer_eq]
    split
    · exact Or.inl rfl
    · exact Or.inr rfl
  · intro p hp
    obtain ⟨l, rfl⟩ := hin p hp
    rw [reducer_eq]
    split
    · rfl
    · rename_i hc
      rcases lt_trichotomy l k with hl | rfl | hl
      · exact absurd (Or.inl (near_lt (fun k => d (ix2 i k)) l hl)) hc
      · rfl
      · refine absurd ?_ hc
        rcases lt_or_eq_of_le (near_le (fun k => d (ix2 i k)) l) with e | e
        · exact Or.inl e
        · refine Or.inr ⟨e, ?_⟩
          show (BitVec.ofNat 32 k.val).slt (BitVec.ofNat 32 l.val) = true
          rw [slt_small (by omega) (by omega)]
          exact decide_eq_true hl
  · intro p hp
    rcases hp with rfl | hp
    · rw [reducer_eq, if_neg]
      have ht : constant (F := Ideal) S_ .f32 0x7F800000#32 (Shape.Idx.first hu) = (⊤ : EReal) := top
      rw [ht]
      rintro (e | ⟨e, -⟩)
      · exact absurd e (not_lt.2 le_top)
      · exact hd e.symm
    · obtain ⟨l, rfl⟩ := hin p hp
      rw [reducer_eq]
      split
      · rename_i hc
        rcases hc with e | ⟨e, e'⟩
        · exact absurd e (not_lt.2 (near_le (fun k => d (ix2 i k)) l))
        · have e' : (BitVec.ofNat 32 l.val).slt (BitVec.ofNat 32 k.val) = true := e'
          rw [slt_small (by omega) (by omega)] at e'
          exact absurd (near_lt (fun k => d (ix2 i k)) l (of_decide_eq_true e')) (by rw [show d (ix2 i l) = d (ix2 i k) from e]; exact lt_irrefl _)
      · rfl

end Cert.ReferenceIdeal.Hand
end
-- ==== Proof.RefRow.lean ====
module
public import proofs.«01_k».proof.Proof.RefNear
public import proofs.«01_k».proof.Proof.Row
public import Idealize.ShloMosaic.Lib.Routing.Ops
@[expose] public section
set_option maxRecDepth 16384
noncomputable section

/-! What the reference computes, row by row, over the extended reals. -/
namespace Cert.ReferenceIdeal.Hand
open Cert.ReferenceIdeal Cert.ReferenceIdeal.Gen Idealize.ShloMosaic Idealize.ShloMosaic.TcCoe Idealize.SL.Sem Cert.Vq
set_option maxHeartbeats 4000000

/-! ### The nearest codeword's place -/

theorem near_8_eq (d : A Ideal S16384x8 .f32) : near_8 d = fun j => (Host.argReduce reducer_argmin_f32_i32 d (iotaInDim S16384x8 32 1)
    (constant (F := Ideal) S_ .f32 0x7F800000#32) (constantI S_ 32 0#32) reducesTo_S16384x8_S16384_d1 h_S_ j).2 := rfl

theorem near_8_row (d : A Ideal S16384x8 .f32) (i : Fin 16384) (hd : d (ix2 i (near fun k => d (ix2 i k))) ≠ (⊤ : EReal)) :
    near_8 d (ix1 i) = BitVec.ofNat 32 (near fun k => d (ix2 i k)).val :=
  (congrFun (near_8_eq d) (ix1 i)).trans (argmin_row (by norm_num) reducesTo_S16384x8_S16384_d1 h_S_ d i hd)

theorem near_64_eq (d : A Ideal S16384x64 .f32) : near_64 d = fun j => (Host.argReduce reducer_argmin_f32_i32 d (iotaInDim S16384x64 32 1)
    (constant (F := Ideal) S_ .f32 0x7F800000#32) (constantI S_ 32 0#32) reducesTo_S16384x64_S16384_d1 h_S_ j).2 := rfl

theorem near_64_row (d : A Ideal S16384x64 .f32) (i : Fin 16384) (hd : d (ix2 i (near fun k => d (ix2 i k))) ≠ (⊤ : EReal)) :
    near_64 d (ix1 i) = BitVec.ofNat 32 (near fun k => d (ix2 i k)).val :=
  (congrFun (near_64_eq d) (ix1 i)).trans (argmin_row (by norm_num) reducesTo_S16384x64_S16384_d1 h_S_ d i hd)

theorem near_512_eq (d : A Ideal S16384x512 .f32) : near_512 d = fun j => (Host.argReduce reducer_argmin_f32_i32 d (iotaInDim S16384x512 32 1)
    (constant (F := Ideal) S_ .f32 0x7F800000#32) (constantI S_ 32 0#32) reducesTo_S16384x512_S16384_d1 h_S_ j).2 := rfl

theorem near_512_row (d : A Ideal S16384x512 .f32) (i : Fin 16384) (hd : d (ix2 i (near fun k => d (ix2 i k))) ≠ (⊤ : EReal)) :
    near_512 d (ix1 i) = BitVec.ofNat 32 (near fun k => d (ix2 i k)).val :=
  (congrFun (near_512_eq d) (ix1 i)).trans (argmin_row (by norm_num) reducesTo_S16384x512_S16384_d1 h_S_ d i hd)

/-! ### The codeword at a place in range -/

theorem wrap_word {k : Nat} (hk : k < 512) (N : BitVec 32) :
    Scalar.select (IntOp.cmpi .slt (BitVec.ofNat 32 k) 0#32) (IntOp.addi (BitVec.ofNat 32 k) N) (BitVec.ofNat 32 k) = BitVec.ofNat 32 k := by
  have : (BitVec.ofNat 32 k).slt 0#32 = false := by
    rw [show (0#32 : BitVec 32) = BitVec.ofNat 32 0 from rfl, slt_small (by omega) (by omega)]; simp
  simp [IntOp.cmpi, Scalar.select, this]

theorem mask_word {k n : Nat} (hk : k < n) (hn : n ≤ 512) (M : BitVec 32) (hM : M.toInt + 1 = n) :
    Finset.fold IntOp.andi (1#1) (fun _ : Fin 1 => IntOp.andi (IntOp.cmpi .sge (BitVec.ofNat 32 k) 0#32)
      (IntOp.cmpi .sle (BitVec.ofNat 32 k) M)) Finset.univ = 1#1 := by
  have h1 : (0#32 : BitVec 32).sle (BitVec.ofNat 32 k) = true := by
    rw [BitVec.sle, toInt_small k (by omega)]; simp
  have h2 : (BitVec.ofNat 32 k).sle M = true := by
    rw [BitVec.sle, toInt_small k (by omega)]; exact decide_eq_true (by omega)
  simp [IntOp.cmpi, IntOp.andi, h1, h2]

theorem take_8_row {cb : A Ideal S8x256 .f32} {w : A Ideal S16384 .i32} {i : Fin 16384} {k : Fin 8} (h : w (ix1 i) = BitVec.ofNat 32 k.val)
    (j : Fin 256) : take_8 cb w (ix2 i j) = cb (ix2 k j) := by
  pointwise [take_8]
  simp only [h, wrap_word (show k.val < 512 by omega)]
  rw [mask_word k.isLt (by norm_num) 7#32 (by decide)]
  refine (if_pos rfl).trans (Routing.gather_row _ rfl rfl rfl rfl rfl cb _ i j k ?_ (by norm_num))
  pointwise
  rw [h, wrap_word (by omega)]

theorem take_64_row {cb : A Ideal S64x256 .f32} {w : A Ideal S16384 .i32} {i : Fin 16384} {k : Fin 64} (h : w (ix1 i) = BitVec.ofNat 32 k.val)
    (j : Fin 256) : take_64 cb w (ix2 i j) = cb (ix2 k j) := by
  pointwise [take_64]
  simp only [h, wrap_word (show k.val < 512 by omega)]
  rw [mask_word k.isLt (by norm_num) 63#32 (by decide)]
  refine (if_pos rfl).trans (Routing.gather_row _ rfl rfl rfl rfl rfl cb _ i j k ?_ (by norm_num))
  pointwise
  rw [h, wrap_word (by omega)]

theorem take_512_row {cb : A Ideal S512x256 .f32} {w : A Ideal S16384 .i32} {i : Fin 16384} {k : Fin 512} (h : w (ix1 i) = BitVec.ofNat 32 k.val)
    (j : Fin 256) : take_512 cb w (ix2 i j) = cb (ix2 k j) := by
  pointwise [take_512]
  simp only [h, wrap_word k.isLt]
  rw [mask_word k.isLt (by norm_num) 511#32 (by decide)]
  refine (if_pos rfl).trans (Routing.gather_row _ rfl rfl rfl rfl rfl cb _ i j k ?_ (by norm_num))
  pointwise
  rw [h, wrap_word (by omega)]

theorem st_row {t r : A Ideal S16384x256 .f32} (i : Fin 16384) (j : Fin 256) :
    stOf t r (ix2 i j) = r (ix2 i j) + (t (ix2 i j) - r (ix2 i j)) := by
  pointwise [stOf]

/-! ### Layer by layer -/

/-- The weights as functions of their places. -/
def wts (V : Valuation τ sig (Elt Ideal)) : Wts where
  eW0 i j := (at' V main_arg1 : A Ideal S768x768 .f32) (ix2 i j)
  eb0 j := (at' V main_arg2 : A Ideal S768 .f32) (ix1 j)
  eg0 j := (at' V main_arg3 : A Ideal S768 .f32) (ix1 j)
  et0 j := (at' V main_arg4 : A Ideal S768 .f32) (ix1 j)
  eW1 i j := (at' V main_arg5 : A Ideal S768x512 .f32) (ix2 i j)
  eb1 j := (at' V main_arg6 : A Ideal S512 .f32) (ix1 j)
  eg1 j := (at' V main_arg7 : A Ideal S512 .f32) (ix1 j)
  et1 j := (at' V main_arg8 : A Ideal S512 .f32) (ix1 j)
  eW2 i j := (at' V main_arg9 : A Ideal S512x256 .f32) (ix2 i j)
  eb2 j := (at' V main_arg10 : A Ideal S256 .f32) (ix1 j)
  eg2 j := (at' V main_arg11 : A Ideal S256 .f32) (ix1 j)
  et2 j := (at' V main_arg12 : A Ideal S256 .f32) (ix1 j)
  dW0 i j := (at' V main_arg13 : A Ideal S256x512 .f32) (ix2 i j)
  db0 j := (at' V main_arg14 : A Ideal S512 .f32) (ix1 j)
  dW1 i j := (at' V main_arg15 : A Ideal S512x768 .f32) (ix2 i j)
  db1 j := (at' V main_arg16 : A Ideal S768 .f32) (ix1 j)
  dW2 i j := (at' V main_arg17 : A Ideal S768x768 .f32) (ix2 i j)
  db2 j := (at' V main_arg18 : A Ideal S768 .f32) (ix1 j)
  dg0 j := (at' V main_arg19 : A Ideal S512 .f32) (ix1 j)
  dt0 j := (at' V main_arg20 : A Ideal S512 .f32) (ix1 j)
  dg1 j := (at' V main_arg21 : A Ideal S768 .f32) (ix1 j)
  dt1 j := (at' V main_arg22 : A Ideal S768 .f32) (ix1 j)
  c0 i j := (at' V main_arg23 : A Ideal S8x256 .f32) (ix2 i j)
  c1 i j := (at' V main_arg24 : A Ideal S64x256 .f32) (ix2 i j)
  c2 i j := (at' V main_arg25 : A Ideal S512x256 .f32) (ix2 i j)

/-- A row of the input. -/
def row (V : Valuation τ sig (Elt Ideal)) (i : Fin 16384) (j : Fin 768) : EReal := (at' V main_arg0 : A Ideal S16384x768 .f32) (ix2 i j)

theorem layer_768_768 (x : A Ideal S16384x768 .f32) (w : A Ideal S768x768 .f32) (b g t : A Ideal S768 .f32) (i : Fin 16384) (j : Fin 768) :
    relu_768 (ln_768 (mm_768_768 x w b) g t) (ix2 i j)
      = relu (lnr 1145044992#32 (lin (fun k => x (ix2 i k)) (fun k j => w (ix2 k j)) fun j => b (ix1 j)) (fun j => g (ix1 j)) fun j => t (ix1 j)) j := by
  pointwise [relu_768, ln_768, mm_768_768]
  rfl

theorem layer_768_512 (x : A Ideal S16384x768 .f32) (w : A Ideal S768x512 .f32) (b g t : A Ideal S512 .f32) (i : Fin 16384) (j : Fin 512) :
    relu_512 (ln_512 (mm_768_512 x w b) g t) (ix2 i j)
      = relu (lnr 1140850688#32 (lin (fun k => x (ix2 i k)) (fun k j => w (ix2 k j)) fun j => b (ix1 j)) (fun j => g (ix1 j)) fun j => t (ix1 j)) j := by
  pointwise [relu_512, ln_512, mm_768_512]
  rfl

theorem layer_512_256 (x : A Ideal S16384x512 .f32) (w : A Ideal S512x256 .f32) (b g t : A Ideal S256 .f32) (i : Fin 16384) (j : Fin 256) :
    ln_256 (mm_512_256 x w b) g t (ix2 i j)
      = lnr 1132462080#32 (lin (fun k => x (ix2 i k)) (fun k j => w (ix2 k j)) fun j => b (ix1 j)) (fun j => g (ix1 j)) (fun j => t (ix1 j)) j := by
  pointwise [ln_256, mm_512_256]
  rfl

theorem layer_256_512 (x : A Ideal S16384x256 .f32) (w : A Ideal S256x512 .f32) (b g t : A Ideal S512 .f32) (i : Fin 16384) (j : Fin 512) :
    relu_512 (ln_512 (mm_256_512 x w b) g t) (ix2 i j)
      = relu (lnr 1140850688#32 (lin (fun k => x (ix2 i k)) (fun k j => w (ix2 k j)) fun j => b (ix1 j)) (fun j => g (ix1 j)) fun j => t (ix1 j)) j := by
  pointwise [relu_512, ln_512, mm_256_512]
  rfl

theorem layer_512_768 (x : A Ideal S16384x512 .f32) (w : A Ideal S512x768 .f32) (b g t : A Ideal S768 .f32) (i : Fin 16384) (j : Fin 768) :
    relu_768 (ln_768 (mm_512_768 x w b) g t) (ix2 i j)
      = relu (lnr 1145044992#32 (lin (fun k => x (ix2 i k)) (fun k j => w (ix2 k j)) fun j => b (ix1 j)) (fun j => g (ix1 j)) fun j => t (ix1 j)) j := by
  pointwise [relu_768, ln_768, mm_512_768]
  rfl

theorem layer_out (x : A Ideal S16384x768 .f32) (w : A Ideal S768x768 .f32) (b : A Ideal S768 .f32) (i : Fin 16384) (j : Fin 768) :
    mm_768_768 x w b (ix2 i j) = lin (fun k => x (ix2 i k)) (fun k j => w (ix2 k j)) (fun j => b (ix1 j)) j := by
  pointwise [mm_768_768]
  rfl

variable {V : Valuation τ sig (Elt Ideal)} {i : Fin 16384}

theorem h0_row (j : Fin 768) : h0 V (ix2 i j) = (wts V).h0 (row V i) j := layer_768_768 _ _ _ _ _ i j

theorem h1_row (j : Fin 512) : h1 V (ix2 i j) = (wts V).h1 (row V i) j := by
  rw [h1, layer_768_512]
  simp only [h0_row]
  rfl

theorem z_row (j : Fin 256) : z V (ix2 i j) = (wts V).z (row V i) j := by
  rw [z, layer_512_256]
  simp only [h1_row]
  rfl

theorem dist_ne_top {n m : Nat} {r : Fin m → EReal} {c : Fin n → Fin m → EReal} (hr : Re r) (hc : ∀ k, Re (c k)) (k : Fin n) :
    dist r c k ≠ ⊤ := by
  rw [dist_sq hr hc]
  obtain ⟨r, rfl⟩ := hr
  obtain ⟨q, hq⟩ := hc k
  simp only [hq, ← EReal.coe_mul, coe_sum, ← EReal.coe_sub]
  exact EReal.coe_ne_top _

section
variable (f : (wts V).Fin')
include f

theorem d0_row (k : Fin 8) : d0 V (ix2 i k) = dist ((wts V).z (row V i)) (wts V).c0 k := by
  rw [d0]
  pointwise [dist_8]
  simp only [z_row]
  rfl

theorem i0_row : i0 V (ix1 i) = BitVec.ofNat 32 ((wts V).k0 (row V i)).val := by
  have e : (fun k => d0 V (ix2 i k)) = dist ((wts V).z (row V i)) (wts V).c0 := funext (d0_row f)
  rw [i0, near_8_row _ _ (by rw [d0_row f]; exact dist_ne_top (Wts.re_z f) f.c0 _)]
  exact congrArg (fun d => BitVec.ofNat 32 (near d).val) e

theorem t0_row (j : Fin 256) : t0 V (ix2 i j) = (wts V).t0 (row V i) j := take_8_row (i0_row f) j

theorem s0_row (j : Fin 256) : stOf (t0 V) (z V) (ix2 i j) = (wts V).t0 (row V i) j := by
  rw [st_row, t0_row f, z_row]
  exact through ((Wts.re_z f).at j) ((f.c0 _).at j)

theorem r0_row (j : Fin 256) : r0 V (ix2 i j) = (wts V).r0 (row V i) j :=
  congrArg₂ (fun a b : EReal => a - b) (z_row j) (s0_row f j)

theorem d1_row (k : Fin 64) : d1 V (ix2 i k) = dist ((wts V).r0 (row V i)) (wts V).c1 k := by
  rw [d1]
  pointwise [dist_64]
  simp only [r0_row f]
  rfl

theorem i1_row : i1 V (ix1 i) = BitVec.ofNat 32 ((wts V).k1 (row V i)).val := by
  have e : (fun k => d1 V (ix2 i k)) = dist ((wts V).r0 (row V i)) (wts V).c1 := funext (d1_row f)
  rw [i1, near_64_row _ _ (by rw [d1_row f]; exact dist_ne_top (Wts.re_r0 f) f.c1 _)]
  exact congrArg (fun d => BitVec.ofNat 32 (near d).val) e

theorem t1_row (j : Fin 256) : t1 V (ix2 i j) = (wts V).t1 (row V i) j := take_64_row (i1_row f) j

theorem s1_row (j : Fin 256) : stOf (t1 V) (r0 V) (ix2 i j) = (wts V).t1 (row V i) j := by
  rw [st_row, t1_row f, r0_row f]
  exact through ((Wts.re_r0 f).at j) ((f.c1 _).at j)

theorem r1_row (j : Fin 256) : r1 V (ix2 i j) = (wts V).r1 (row V i) j :=
  congrArg₂ (fun a b : EReal => a - b) (r0_row f j) (s1_row f j)

theorem d2_row (k : Fin 512) : d2 V (ix2 i k) = dist ((wts V).r1 (row V i)) (wts V).c2 k := by
  rw [d2]
  pointwise [dist_512]
  simp only [r1_row f]
  rfl

theorem i2_row : i2 V (ix1 i) = BitVec.ofNat 32 ((wts V).k2 (row V i)).val := by
  have e : (fun k => d2 V (ix2 i k)) = dist ((wts V).r1 (row V i)) (wts V).c2 := funext (d2_row f)
  rw [i2, near_512_row _ _ (by rw [d2_row f]; exact dist_ne_top (Wts.re_r1 f) f.c2 _)]
  exact congrArg (fun d => BitVec.ofNat 32 (near d).val) e

theorem t2_row (j : Fin 256) : t2 V (ix2 i j) = (wts V).t2 (row V i) j := take_512_row (i2_row f) j

theorem s2_row (j : Fin 256) : stOf (t2 V) (r1 V) (ix2 i j) = (wts V).t2 (row V i) j := by
  rw [st_row, t2_row f, r1_row f]
  exact through ((Wts.re_r1 f).at j) ((f.c2 _).at j)

theorem q2_row (j : Fin 256) : q2 V (ix2 i j) = (wts V).q (row V i) j := by
  have h0 : q V (ix2 i j) = (0 : EReal) := by
    rw [q]
    pointwise [zeroQ]
  show (q V (ix2 i j) : EReal) + stOf (t0 V) (z V) (ix2 i j) + stOf (t1 V) (r0 V) (ix2 i j) + stOf (t2 V) (r1 V) (ix2 i j) = _
  rw [h0, s0_row f, s1_row f, s2_row f, zero_add]
  rfl

theorem out_row (j : Fin 768) : out V (ix2 i j) = (wts V).out (row V i) j := by
  have e0 : ∀ j, g0 V (ix2 i j) = (wts V).g0 (row V i) j := fun j => by
    rw [g0, layer_256_512]
    simp only [q2_row f]
    rfl
  have e1 : ∀ j, g1 V (ix2 i j) = (wts V).g1 (row V i) j := fun j => by
    rw [g1, layer_512_768]
    simp only [e0]
    rfl
  rw [out, layer_out]
  simp only [e1]
  rfl

end

theorem codesOf_row (a b c : A Ideal S16384 .i32) (i : Fin 16384) (j : Fin 3) :
    codesOf (F := Ideal) (colOf a) (colOf b) (colOf c) (ix2 i j) = if j.val < 1 then a (ix1 i) else if j.val < 2 then b (ix1 i) else c (ix1 i) := by
  pointwise [codesOf, colOf]
  split_ifs <;> first | rfl | omega

theorem codes_row (i : Fin 16384) (j : Fin 3) : codes V (ix2 i j) = if j.val < 1 then i0 V (ix1 i) else if j.val < 2 then i1 V (ix1 i) else i2 V (ix1 i) :=
  codesOf_row _ _ _ i j

/-- The reference's loss. -/
theorem l2_eq (f : (wts V).Fin') (x : S_.Idx) :
    l2 V x = Ideal.ofBits .f32 1056964608#32 * Ideal.div (∑ i, dist ((wts V).z (row V i)) (wts V).c0 ((wts V).k0 (row V i))) (Ideal.ofBits .f32 1249902592#32)
      + Ideal.ofBits .f32 1056964608#32 * Ideal.div (∑ i, dist ((wts V).r0 (row V i)) (wts V).c1 ((wts V).k1 (row V i))) (Ideal.ofBits .f32 1249902592#32)
      + Ideal.ofBits .f32 1056964608#32 * Ideal.div (∑ i, dist ((wts V).r1 (row V i)) (wts V).c2 ((wts V).k2 (row V i))) (Ideal.ofBits .f32 1249902592#32) := by
  have e (t r : A Ideal S16384x256 .f32) (l : A Ideal S_ .f32) : lossOf t r l x = l x + Ideal.ofBits .f32 1056964608#32 *
      Ideal.div (∑ i, ∑ j, (t (ix2 i j) - r (ix2 i j)) * (t (ix2 i j) - r (ix2 i j))) (Ideal.ofBits .f32 1249902592#32) := by
    pointwise [lossOf]
  rw [l2, e, l1, e, l0, e, show constant (F := Ideal) S_ .f32 0x00000000#32 x = (0 : EReal) from Ideal.ofBits_zero_f32, zero_add]
  simp only [t0_row f, t1_row f, t2_row f, z_row, r0_row f, r1_row f,
    dist_sq (Wts.re_z f) f.c0, dist_sq (Wts.re_r0 f) f.c1, dist_sq (Wts.re_r1 f) f.c2]
  rfl

end Cert.ReferenceIdeal.Hand
end
-- ==== Proof.Agree.lean ====
module
public import proofs.«01_k».proof.Proof.Arrays
public import proofs.«01_k».proof.Proof.Tail
public import proofs.«01_k».proof.Proof.RefRow
@[expose] public section
set_option maxRecDepth 16384
noncomputable section

/-! The kernel's three results are the reference's, when both run on the same arguments. -/
namespace Cert.KernelIdeal.Hand
open Idealize.ShloMosaic Idealize.ShloMosaic.TcCoe Idealize.SL.Sem
open Cert.KernelIdeal Cert.KernelIdeal.Gen Cert.Vq
set_option maxHeartbeats 4000000
variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- The contents the reference starts from. -/
abbrev refV (m' : (ℓ : Loc Cert.ReferenceIdeal.nD Cert.ReferenceIdeal.τ Cert.ReferenceIdeal.sig) → Buf (Elt Ideal) ℓ) (c : Dev nD) : Valuation Cert.ReferenceIdeal.τ Cert.ReferenceIdeal.sig (Elt Ideal) := StableHlo.launchContents (nD := Cert.ReferenceIdeal.nD) m' c

/-- Both programs are given the same arguments. -/
def Same : Prop :=
  m' ((c.tc : Thread Cert.ReferenceIdeal.nD Cert.ReferenceIdeal.τ).loc Cert.ReferenceIdeal.main_arg0) = m ((c.tc : Thread nD τ).loc main_arg0)
    ∧ m' ((c.tc : Thread Cert.ReferenceIdeal.nD Cert.ReferenceIdeal.τ).loc Cert.ReferenceIdeal.main_arg1) = m ((c.tc : Thread nD τ).loc main_arg1)
    ∧ m' ((c.tc : Thread Cert.ReferenceIdeal.nD Cert.ReferenceIdeal.τ).loc Cert.ReferenceIdeal.main_arg2) = m ((c.tc : Thread nD τ).loc main_arg2)
    ∧ m' ((c.tc : Thread Cert.ReferenceIdeal.nD Cert.ReferenceIdeal.τ).loc Cert.ReferenceIdeal.main_arg3) = m ((c.tc : Thread nD τ).loc main_arg3)
    ∧ m' ((c.tc : Thread Cert.ReferenceIdeal.nD Cert.ReferenceIdeal.τ).loc Cert.ReferenceIdeal.main_arg4) = m ((c.tc : Thread nD τ).loc main_arg4)
    ∧ m' ((c.tc : Thread Cert.ReferenceIdeal.nD Cert.ReferenceIdeal.τ).loc Cert.ReferenceIdeal.main_arg5) = m ((c.tc : Thread nD τ).loc main_arg5)
    ∧ m' ((c.tc : Thread Cert.ReferenceIdeal.nD Cert.ReferenceIdeal.τ).loc Cert.ReferenceIdeal.main_arg6) = m ((c.tc : Thread nD τ).loc main_arg6)
    ∧ m' ((c.tc : Thread Cert.ReferenceIdeal.nD Cert.ReferenceIdeal.τ).loc Cert.ReferenceIdeal.main_arg7) = m ((c.tc : Thread nD τ).loc main_arg7)
    ∧ m' ((c.tc : Thread Cert.ReferenceIdeal.nD Cert.ReferenceIdeal.τ).loc Cert.ReferenceIdeal.main_arg8) = m ((c.tc : Thread nD τ).loc main_arg8)
    ∧ m' ((c.tc : Thread Cert.ReferenceIdeal.nD Cert.ReferenceIdeal.τ).loc Cert.ReferenceIdeal.main_arg9) = m ((c.tc : Thread nD τ).loc main_arg9)
    ∧ m' ((c.tc : Thread Cert.ReferenceIdeal.nD Cert.ReferenceIdeal.τ).loc Cert.ReferenceIdeal.main_arg10) = m ((c.tc : Thread nD τ).loc main_arg10)
    ∧ m' ((c.tc : Thread Cert.ReferenceIdeal.nD Cert.ReferenceIdeal.τ).loc Cert.ReferenceIdeal.main_arg11) = m ((c.tc : Thread nD τ).loc main_arg11)
    ∧ m' ((c.tc : Thread Cert.ReferenceIdeal.nD Cert.ReferenceIdeal.τ).loc Cert.ReferenceIdeal.main_arg12) = m ((c.tc : Thread nD τ).loc main_arg12)
    ∧ m' ((c.tc : Thread Cert.ReferenceIdeal.nD Cert.ReferenceIdeal.τ).loc Cert.ReferenceIdeal.main_arg13) = m ((c.tc : Thread nD τ).loc main_arg13)
    ∧ m' ((c.tc : Thread Cert.ReferenceIdeal.nD Cert.ReferenceIdeal.τ).loc Cert.ReferenceIdeal.main_arg14) = m ((c.tc : Thread nD τ).loc main_arg14)
    ∧ m' ((c.tc : Thread Cert.ReferenceIdeal.nD Cert.ReferenceIdeal.τ).loc Cert.ReferenceIdeal.main_arg15) = m ((c.tc : Thread nD τ).loc main_arg15)
    ∧ m' ((c.tc : Thread Cert.ReferenceIdeal.nD Cert.ReferenceIdeal.τ).loc Cert.ReferenceIdeal.main_arg16) = m ((c.tc : Thread nD τ).loc main_arg16)
    ∧ m' ((c.tc : Thread Cert.ReferenceIdeal.nD Cert.ReferenceIdeal.τ).loc Cert.ReferenceIdeal.main_arg17) = m ((c.tc : Thread nD τ).loc main_arg17)
    ∧ m' ((c.tc : Thread Cert.ReferenceIdeal.nD Cert.ReferenceIdeal.τ).loc Cert.ReferenceIdeal.main_arg18) = m ((c.tc : Thread nD τ).loc main_arg18)
    ∧ m' ((c.tc : Thread Cert.ReferenceIdeal.nD Cert.ReferenceIdeal.τ).loc Cert.ReferenceIdeal.main_arg19) = m ((c.tc : Thread nD τ).loc main_arg19)
    ∧ m' ((c.tc : Thread Cert.ReferenceIdeal.nD Cert.ReferenceIdeal.τ).loc Cert.ReferenceIdeal.main_arg20) = m ((c.tc : Thread nD τ).loc main_arg20)
    ∧ m' ((c.tc : Thread Cert.ReferenceIdeal.nD Cert.ReferenceIdeal.τ).loc Cert.ReferenceIdeal.main_arg21) = m ((c.tc : Thread nD τ).loc main_arg21)
    ∧ m' ((c.tc : Thread Cert.ReferenceIdeal.nD Cert.ReferenceIdeal.τ).loc Cert.ReferenceIdeal.main_arg22) = m ((c.tc : Thread nD τ).loc main_arg22)
    ∧ m' ((c.tc : Thread Cert.ReferenceIdeal.nD Cert.ReferenceIdeal.τ).loc Cert.ReferenceIdeal.main_arg23) = m ((c.tc : Thread nD τ).loc main_arg23)
    ∧ m' ((c.tc : Thread Cert.ReferenceIdeal.nD Cert.ReferenceIdeal.τ).loc Cert.ReferenceIdeal.main_arg24) = m ((c.tc : Thread nD τ).loc main_arg24)
    ∧ m' ((c.tc : Thread Cert.ReferenceIdeal.nD Cert.ReferenceIdeal.τ).loc Cert.ReferenceIdeal.main_arg25) = m ((c.tc : Thread nD τ).loc main_arg25)

variable {m m' c} (s : Same m m' c)
include s

theorem wts_same : Cert.ReferenceIdeal.Hand.wts (refV m' c) = argWts m c := by
  obtain ⟨h0, h1, h2, h3, h4, h5, h6, h7, h8, h9, h10, h11, h12, h13, h14, h15, h16, h17, h18, h19, h20, h21, h22, h23, h24, h25⟩ := s
  unfold Cert.ReferenceIdeal.Hand.wts argWts
  congr 1
  · exact funext fun i => funext fun j => congrFun h1 (ix2 i j)
  · exact funext fun j => congrFun h2 (ix1 j)
  · exact funext fun j => congrFun h3 (ix1 j)
  · exact funext fun j => congrFun h4 (ix1 j)
  · exact funext fun i => funext fun j => congrFun h5 (ix2 i j)
  · exact funext fun j => congrFun h6 (ix1 j)
  · exact funext fun j => congrFun h7 (ix1 j)
  · exact funext fun j => congrFun h8 (ix1 j)
  · exact funext fun i => funext fun j => congrFun h9 (ix2 i j)
  · exact funext fun j => congrFun h10 (ix1 j)
  · exact funext fun j => congrFun h11 (ix1 j)
  · exact funext fun j => congrFun h12 (ix1 j)
  · exact funext fun i => funext fun j => congrFun h13 (ix2 i j)
  · exact funext fun j => congrFun h14 (ix1 j)
  · exact funext fun j => congrFun h19 (ix1 j)
  · exact funext fun j => congrFun h20 (ix1 j)
  · exact funext fun i => funext fun j => congrFun h15 (ix2 i j)
  · exact funext fun j => congrFun h16 (ix1 j)
  · exact funext fun j => congrFun h21 (ix1 j)
  · exact funext fun j => congrFun h22 (ix1 j)
  · exact funext fun i => funext fun j => congrFun h17 (ix2 i j)
  · exact funext fun j => congrFun h18 (ix1 j)
  · exact funext fun i => funext fun j => congrFun h23 (ix2 i j)
  · exact funext fun i => funext fun j => congrFun h24 (ix2 i j)
  · exact funext fun i => funext fun j => congrFun h25 (ix2 i j)

theorem row_same (i : Fin 16384) : Cert.ReferenceIdeal.Hand.row (refV m' c) i = argRow m c i :=
  funext fun j => congrFun s.1 (ix2 i j)

variable (f : (argWts m c).Fin')
include f

theorem out_same : ((dats m 0 c).arrAt 26 cfg0.N : Vec Ideal S16384x768 .f32) = Cert.ReferenceIdeal.Hand.out (refV m' c) := by
  rw [arr_out m c f]
  funext i
  idx_vars i
  exact ((Cert.ReferenceIdeal.Hand.out_row (wts_same s ▸ f) i1).trans
    (congrArg₂ (fun (p : Wts) x => p.out x i1) (wts_same s) (row_same s i0))).symm

theorem loss_same : shapeCast S_ ((dats m 0 c).arrAt 27 cfg0.N : Vec Ideal S1x1 .f32) shapeCasts_S1x1_S_
    = Cert.ReferenceIdeal.Hand.l2 (refV m' c) := by
  rw [arr_loss m c f]
  funext x
  refine Eq.trans ?_ (Cert.ReferenceIdeal.Hand.l2_eq (wts_same s ▸ f) x).symm
  rw [wts_same s, show Cert.ReferenceIdeal.Hand.row (refV m' c) = argRow m c from funext (row_same s)]
  rfl

omit s f in
theorem columns_row (a b d : Vec Ideal S16384x1 .i32) (i : Fin 16384) (j : Fin 3) :
    columns a b d (ix2 i j) = if j.val < 1 then a (ix2 i 0) else if j.val < 2 then b (ix2 i 0) else d (ix2 i 0) := by
  pointwise [columns]
  by_cases h1 : j.val < 1
  · exact (dif_pos h1).trans ((congrArg (fun k => a (ix2 i k)) (Subsingleton.elim _ _)).trans (if_pos h1).symm)
  · refine (dif_neg h1).trans (Eq.trans ?_ (if_neg h1).symm)
    by_cases h2 : j.val - 1 < 1
    · have h3 : j.val < 2 := by omega
      exact (dif_pos h2).trans ((congrArg (fun k => b (ix2 i k)) (Subsingleton.elim _ _)).trans (if_pos h3).symm)
    · have h3 : ¬j.val < 2 := by omega
      exact (dif_neg h2).trans ((congrArg (fun k => d (ix2 i k)) (Subsingleton.elim _ _)).trans (if_neg h3).symm)

theorem codes_same : columns ((dats m 0 c).arrAt 28 cfg0.N) ((dats m 0 c).arrAt 29 cfg0.N) ((dats m 0 c).arrAt 30 cfg0.N)
    = Cert.ReferenceIdeal.Hand.codes (refV m' c) := by
  rw [arr_c0 m c f, arr_c1 m c f, arr_c2 m c f]
  funext i
  idx_vars i
  rw [columns_row]
  refine Eq.trans ?_ (Cert.ReferenceIdeal.Hand.codes_row i0 i1).symm
  rw [Cert.ReferenceIdeal.Hand.i0_row (wts_same s ▸ f), Cert.ReferenceIdeal.Hand.i1_row (wts_same s ▸ f),
    Cert.ReferenceIdeal.Hand.i2_row (wts_same s ▸ f), wts_same s, row_same s]
  rfl

end Cert.KernelIdeal.Hand
end
-- ==== Proof.Finite.lean ====
module
public import proofs.«01_k».proof.Proof.Arrays
public import proofs.«01_k».proof.Defs
@[expose] public section
set_option maxRecDepth 16384
noncomputable section

/-! What the precondition says of the arguments: the scale and shift of the encoder's last normalization and the
codebooks hold real numbers. -/
namespace Cert.KernelIdeal.Hand
open Idealize.ShloMosaic Idealize.ShloMosaic.TcCoe Idealize.SL.Sem
open Cert.KernelIdeal Cert.KernelIdeal.Gen Cert.Vq
set_option maxHeartbeats 4000000

/-- An entry whose absolute value is below infinity is a real number. -/
theorem finite_of {s : Shape} (a : FVec Ideal s .f32) (hb : Cert.Pre_finite_codes.S_.BroadcastsInDim s (![] : Fin 0 → Fin s.rank))
    (h : cmpf .olt (Host.absf a) (broadcastInDim s ![] hb (constant Cert.Pre_finite_codes.S_ .f32 0x7F800000#32)) = fun _ => 1#1)
    (i : s.Idx) : ∃ q : ℝ, a i = q := by
  have e := congrFun h i
  have hlt : max (a i) (-(a i)) < Ideal.ofBits .f32 2139095040#32 := by
    by_contra hn
    have e : Ideal.cmp .olt (max (a i) (-(a i))) (Ideal.ofBits .f32 2139095040#32) = 1#1 := e
    rw [Ideal.cmp] at e
    have e' : (if max (a i) (-(a i)) < Ideal.ofBits .f32 2139095040#32 then (1#1 : BitVec 1) else 0#1) = 1#1 := by
      refine Eq.trans ?_ e
      split <;> simp_all
    rw [if_neg hn] at e'
    exact absurd e' (by decide)
  rw [top] at hlt
  have key : ∀ x : EReal, max x (-x) < ⊤ → ∃ q : ℝ, x = q := by
    intro x hlt
    induction x using EReal.rec with
    | bot => simp at hlt
    | top => simp at hlt
    | coe q => exact ⟨q, rfl⟩
  exact key (a i) hlt

variable [Cert.Pre_finite_codes.Facts]
variable {m : (ℓ : Loc nD τ sig) → Buf (Elt Ideal) ℓ} (h : Cert.Pre_KernelIdeal_finite_codes m) (c : Dev nD)
include h

theorem weights_real : (argWts m c).Fin' := by
  obtain ⟨h0, h1, h2, h3, h4⟩ := h c
  exact {
  eg2 := re_of fun j => finite_of _ _ h0 (ix1 j)
  et2 := re_of fun j => finite_of _ _ h1 (ix1 j)
  c0 := fun i => re_of fun j => finite_of _ _ h2 (ix2 i j)
  c1 := fun i => re_of fun j => finite_of _ _ h3 (ix2 i j)
  c2 := fun i => re_of fun j => finite_of _ _ h4 (ix2 i j) }

end Cert.KernelIdeal.Hand
end
-- ==== Proof.lean ====
/- The certificate: each program's frame from its run, and the value claim. -/
module

public import proofs.«01_k».proof.Defs
public import proofs.«01_k».proof.Proof.KernelRun
public import proofs.«01_k».proof.Proof.Agree
public import proofs.«01_k».proof.Proof.Finite

@[expose] public section

set_option maxRecDepth 16384

noncomputable section

namespace Cert.Proof

open Idealize.ShloMosaic Idealize.ShloMosaic.TcCoe Idealize.SL.Sem

/-- The reference runs and leaves its arguments. -/
theorem ref_framed : quiescent_ReferenceIdeal (hReferenceIdeal := Cert.ReferenceIdeal.Gen.facts) := fun m g _ =>
  (θ_run _ _ _).mono (fun _ h => ⟨fun c => by
      have k := (h.1 c).2.2.2
      and_intros
      all_goals exact k _ (by decide), h.2⟩)
    (Cert.ReferenceIdeal.Hand.run m g)

/-- The shape facts the precondition's operations need. -/
theorem preFacts : Cert.Pre_finite_codes.Facts :=
  ⟨by decide, by decide, by decide, by decide⟩

section
open Cert.KernelIdeal Cert.KernelIdeal.Gen Cert.KernelIdeal.Hand
variable (m : (ℓ : Loc nD τ sig) → Buf (Elt Ideal) ℓ) (g : Dev nD → PrngReg)

/-- What the kernel leaves in its three results. -/
theorem results : θ_run (defs (F := Ideal)) (onTc (τ := τ) (main (F := Ideal))) ⟨m, fun _ => 0, g⟩ fun r => ∀ c : Dev nD,
    r.2.mem ((c.tc : Thread nD τ).loc main_v0_0) = (dats m 0 c).arrAt 26 cfg0.N
    ∧ r.2.mem ((c.tc : Thread nD τ).loc main_v2) = shapeCast S_ ((dats m 0 c).arrAt 27 cfg0.N : Vec Ideal S1x1 .f32) shapeCasts_S1x1_S_
    ∧ r.2.mem ((c.tc : Thread nD τ).loc main_v1) = columns ((dats m 0 c).arrAt 28 cfg0.N) ((dats m 0 c).arrAt 29 cfg0.N) ((dats m 0 c).arrAt 30 cfg0.N) :=
  (θ_run defs _ _).mono (fun r h c => ⟨(h.1 c).1 26, ((h.1 c).2 main_v2 (by decide +kernel)).trans (tail_loss m c),
    ((h.1 c).2 main_v1 (by decide +kernel)).trans (tail_codes m c)⟩) (run_all m g)
end

/-- Where the last scale and shift and the codebooks are finite, the kernel computes what the reference computes. -/
theorem value : algebraic_KernelIdeal_ReferenceIdeal_pre_finite_codes (hKernelIdeal := Cert.KernelIdeal.Gen.facts)
    (hReferenceIdeal := Cert.ReferenceIdeal.Gen.facts) (hPre_finite_codes := preFacts) := by
  intro m g m' g' hpre hsame
  haveI := preFacts
  have s (c) : Cert.KernelIdeal.Hand.Same m m' c := hsame c
  have f (c) := Cert.KernelIdeal.Hand.weights_real hpre c
  refine ⟨fun c => Cert.ReferenceIdeal.Hand.out (Cert.KernelIdeal.Hand.refV m' c), fun c => Cert.ReferenceIdeal.Hand.l2 (Cert.KernelIdeal.Hand.refV m' c),
    fun c => Cert.ReferenceIdeal.Hand.codes (Cert.KernelIdeal.Hand.refV m' c), ?_, ?_⟩
  · refine (θ_run _ _ _).mono (fun r h c => ?_) (θ_run_and (results m g) (Cert.KernelIdeal.Hand.framed m g))
    exact ⟨(h.1 c).1.trans (Cert.KernelIdeal.Hand.out_same (s c) (f c)), (h.1 c).2.1.trans (Cert.KernelIdeal.Hand.loss_same (s c) (f c)),
      (h.1 c).2.2.trans (Cert.KernelIdeal.Hand.codes_same (s c) (f c)), h.2.1 c⟩
  · refine (θ_run _ _ _).mono (fun r h c => ?_) (Cert.ReferenceIdeal.Hand.run m' g')
    refine ⟨(h.1 c).1, (h.1 c).2.1, (h.1 c).2.2.1, ?_⟩
    have k := (h.1 c).2.2.2
    and_intros
    all_goals exact k _ (by decide)

theorem claim : Cert.Claim :=
  ⟨Cert.Kernel.Gen.facts, Cert.KernelIdeal.Gen.facts, Cert.ReferenceIdeal.Gen.facts, preFacts,
    fun m g _ => Cert.Kernel.Hand.framed m g, fun m g _ => Cert.KernelIdeal.Hand.framed m g,
    fun m g _ => Cert.KernelIdeal.Hand.framed m g, ref_framed, fun m g _ => ref_framed m g trivial, trivial, value⟩

end Cert.Proof

end
